-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1x4096 : Shape := ⟨2, ![1, 4096]⟩
abbrev S1x4096x4096 : Shape := ⟨3, ![1, 4096, 4096]⟩
abbrev S5 : Shape := ⟨1, ![5]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel

variable [Facts]

def fn {F : FTy → Type} [FloatOps F] (main_arg0 : IVec S1x4096 32) (main_arg1 : FVec F S1x4096 .f32) (main_arg2 : FVec F S1x4096 .f32) (main_arg3 : FVec F S1x4096x4096 .f32) (main_arg4 : FVec F S1x4096x4096 .f32) (main_arg5 : FVec F S5 .f32) : IVec S_ 1 :=
  let main_c : IVec S_ 32 := constantI S_ 32 0#32
  let main_v0 : IVec S1x4096 32 := broadcastInDim S1x4096 ![] bcast_S_S1x4096 main_c
  let main_v1 : IVec S1x4096 1 := cmpi .sge main_arg0 main_v0
  let main_c_0 : IVec S_ 32 := constantI S_ 32 64#32
  let main_v2 : IVec S1x4096 32 := broadcastInDim S1x4096 ![] bcast_S_S1x4096 main_c_0
  let main_v3 : IVec S1x4096 1 := cmpi .slt main_arg0 main_v2
  let main_v4 : IVec S1x4096 1 := andi main_v1 main_v3
  let main_c_1 : IVec S_ 1 := constantI S_ 1 1#1
  let main_v5 : IVec S_ 1 := (fun x v => Host.reduce IntOp.andi x v reducesTo_S1x4096_S_d0_1 h_S_) main_v4 main_c_1
  main_v5
-- ==== Kernel.lean ====
abbrev S1x4096 : Shape := ⟨2, ![1, 4096]⟩
abbrev S1x4096x4096 : Shape := ⟨3, ![1, 4096, 4096]⟩
abbrev S5 : Shape := ⟨1, ![5]⟩
abbrev S1x5 : Shape := ⟨2, ![1, 5]⟩
abbrev S1x512 : Shape := ⟨2, ![1, 512]⟩
abbrev S1x512x4096 : Shape := ⟨3, ![1, 512, 4096]⟩
abbrev S512x4096 : Shape := ⟨2, ![512, 4096]⟩
abbrev S4096 : Shape := ⟨1, ![4096]⟩
abbrev S512 : Shape := ⟨1, ![512]⟩
abbrev S512x1 : Shape := ⟨2, ![512, 1]⟩
abbrev S_ : Shape := ⟨0, ![]⟩
abbrev S256 : Shape := ⟨1, ![256]⟩
abbrev S64 : Shape := ⟨1, ![64]⟩
abbrev S320 : Shape := ⟨1, ![320]⟩
abbrev S1x320 : Shape := ⟨2, ![1, 320]⟩
abbrev S16x320 : Shape := ⟨2, ![16, 320]⟩
abbrev S5120 : Shape := ⟨1, ![5120]⟩
abbrev S16x5120 : Shape := ⟨2, ![16, 5120]⟩
abbrev S16 : Shape := ⟨1, ![16]⟩
abbrev S1x5120 : Shape := ⟨2, ![1, 5120]⟩
abbrev S256x320 : Shape := ⟨2, ![256, 320]⟩
abbrev S64x6 : Shape := ⟨2, ![64, 6]⟩
abbrev S256x64 : Shape := ⟨2, ![256, 64]⟩
abbrev S64x4096 : Shape := ⟨2, ![64, 4096]⟩
abbrev S1 : Shape := ⟨1, ![1]⟩
abbrev S64x1 : Shape := ⟨2, ![64, 1]⟩

abbrev nBuf : Table → Nat
  | .hbm => 24
  | .local .tc .vmem => 21
  | .local .scVector .vmem => 4
  | _ => 0

abbrev bufTy : (tb : Table) → Fin (nBuf tb) → BufTy
  | .hbm, ⟨0, _⟩ => ⟨S1x4096, .i32⟩
  | .hbm, ⟨1, _⟩ => ⟨S1x4096, .f32⟩
  | .hbm, ⟨2, _⟩ => ⟨S1x4096, .f32⟩
  | .hbm, ⟨3, _⟩ => ⟨S1x4096x4096, .f32⟩
  | .hbm, ⟨4, _⟩ => ⟨S1x4096x4096, .f32⟩
  | .hbm, ⟨5, _⟩ => ⟨S5, .f32⟩
  | .hbm, ⟨6, _⟩ => ⟨S1x5, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S256, .f32⟩
  | .hbm, ⟨12, _⟩ => ⟨S_, .f32⟩
  | .hbm, ⟨13, _⟩ => ⟨S64, .f32⟩
  | .hbm, ⟨14, _⟩ => ⟨S320, .f32⟩
  | .hbm, ⟨15, _⟩ => ⟨S1x320, .f32⟩
  | .hbm, ⟨16, _⟩ => ⟨S16x320, .f32⟩
  | .hbm, ⟨17, _⟩ => ⟨S5120, .f32⟩
  | .hbm, ⟨18, _⟩ => ⟨S4096, .i32⟩
  | .hbm, ⟨19, _⟩ => ⟨S4096, .f32⟩
  | .hbm, ⟨20, _⟩ => ⟨S4096, .f32⟩
  | .hbm, ⟨21, _⟩ => ⟨S16x5120, .f32⟩
  | .hbm, ⟨22, _⟩ => ⟨S256x320, .f32⟩
  | .hbm, ⟨23, _⟩ => ⟨S64x6, .f32⟩
  | .local .tc .vmem, ⟨0, _⟩ => ⟨S1x512, .i32⟩
  | .local .tc .vmem, ⟨1, _⟩ => ⟨S1x512, .i32⟩
  | .local .tc .vmem, ⟨2, _⟩ => ⟨S1x4096, .i32⟩
  | .local .tc .vmem, ⟨3, _⟩ => ⟨S1x512x4096, .f32⟩
  | .local .tc .vmem, ⟨4, _⟩ => ⟨S1x512x4096, .f32⟩
  | .local .tc .vmem, ⟨5, _⟩ => ⟨S1x512x4096, .f32⟩
  | .local .tc .vmem, ⟨6, _⟩ => ⟨S1x512x4096, .f32⟩
  | .local .tc .vmem, ⟨7, _⟩ => ⟨S1x4096, .f32⟩
  | .local .tc .vmem, ⟨8, _⟩ => ⟨S1x512, .f32⟩
  | .local .tc .vmem, ⟨9, _⟩ => ⟨S1x512, .f32⟩
  | .local .tc .vmem, ⟨10, _⟩ => ⟨S1x512, .f32⟩
  | .local .tc .vmem, ⟨11, _⟩ => ⟨S1x512, .f32⟩
  | .local .tc .vmem, ⟨12, _⟩ => ⟨S1x4096, .f32⟩
  | .local .tc .vmem, ⟨13, _⟩ => ⟨S1x4096, .i32⟩
  | .local .tc .vmem, ⟨14, _⟩ => ⟨S1x4096, .f32⟩
  | .local .tc .vmem, ⟨15, _⟩ => ⟨S1x5, .f32⟩
  | .local .tc .vmem, ⟨16, _⟩ => ⟨S1x4096, .f32⟩
  | .local .tc .vmem, ⟨17, _⟩ => ⟨S1x4096, .f32⟩
  | .local .tc .vmem, ⟨18, _⟩ => ⟨S1x4096, .f32⟩
  | .local .tc .vmem, ⟨19, _⟩ => ⟨S256x320, .f32⟩
  | .local .tc .vmem, ⟨20, _⟩ => ⟨S64x6, .f32⟩
  | .local .scVector .vmem, ⟨0, _⟩ => ⟨S256, .i32⟩
  | .local .scVector .vmem, ⟨1, _⟩ => ⟨S256, .f32⟩
  | .local .scVector .vmem, ⟨2, _⟩ => ⟨S256, .f32⟩
  | .local .scVector .vmem, ⟨3, _⟩ => ⟨S5120, .f32⟩
  | _, _ => ⟨S1x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v7_scv : Ref sig .scVector := ⟨.hbm, 17, rfl⟩
abbrev main_v8_scv : Ref sig .scVector := ⟨.hbm, 18, rfl⟩
abbrev main_v9_scv : Ref sig .scVector := ⟨.hbm, 19, rfl⟩
abbrev main_v10_scv : Ref sig .scVector := ⟨.hbm, 20, rfl⟩
abbrev main_v11_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![1, 16], ![false, false]⟩

def k1_off1 (i : grid1.Coords) : Fin 1 → Nat :=
  let arg1 : BitVec 32 := BitVec.ofNat 32 (i 1).val
  let c256_i32 : BitVec 32 := 256#32
  let v0 : BitVec 32 := Scalar.muli arg1 c256_i32
  ![v0.toNat]

def k1_chk1 (v8 : IVec S16 32) : Prop :=
  (∀ a x, ((![v8] : Fin 1 → IVec S16 32) a x).toNat < S5120.size a) ∧
  (∀ a x, ((![v8] : Fin 1 → IVec S16 32) a x).toNat < S5120.size a)
theorem k1_idx1_inb : ∀ (v8 : IVec S16 32) (k1_hw1 : k1_chk1 v8), ∀ a x, ((![v8] : Fin 1 → IVec S16 32) a x).toNat < S5120.size a := fun v8 k1_hw1 => k1_hw1.1
theorem k1_idx2_inb : ∀ (v8 : IVec S16 32) (k1_hw1 : k1_chk1 v8), ∀ a x, ((![v8] : Fin 1 → IVec S16 32) a x).toNat < S5120.size a := fun v8 k1_hw1 => k1_hw1.2

def k1_chk2 (v12 : IVec S16 32) : Prop :=
  (∀ a x, ((![v12] : Fin 1 → IVec S16 32) a x).toNat < S5120.size a)
theorem k1_idx3_inb : ∀ (v12 : IVec S16 32) (k1_hw2 : k1_chk2 v12), ∀ a x, ((![v12] : Fin 1 → IVec S16 32) a x).toNat < S5120.size a := fun v12 k1_hw2 => k1_hw2

def k1_chk3 (v15 : IVec S16 32) : Prop :=
  (∀ a x, ((![v15] : Fin 1 → IVec S16 32) a x).toNat < S5120.size a)
theorem k1_idx4_inb : ∀ (v15 : IVec S16 32) (k1_hw3 : k1_chk3 v15), ∀ a x, ((![v15] : Fin 1 → IVec S16 32) a x).toNat < S5120.size a := fun v15 k1_hw3 => k1_hw3

def k1_chk4 (v18 : IVec S16 32) : Prop :=
  (∀ a x, ((![v18] : Fin 1 → IVec S16 32) a x).toNat < S5120.size a)
theorem k1_idx5_inb : ∀ (v18 : IVec S16 32) (k1_hw4 : k1_chk4 v18), ∀ a x, ((![v18] : Fin 1 → IVec S16 32) a x).toNat < S5120.size a := fun v18 k1_hw4 => k1_hw4

def k1_chk5 (v21 : IVec S16 32) : Prop :=
  (∀ a x, ((![v21] : Fin 1 → IVec S16 32) a x).toNat < S5120.size a)
theorem k1_idx6_inb : ∀ (v21 : IVec S16 32) (k1_hw5 : k1_chk5 v21), ∀ a x, ((![v21] : Fin 1 → IVec S16 32) a x).toNat < S5120.size a := fun v21 k1_hw5 => k1_hw5

def k1_chk6 (v24 : IVec S16 32) : Prop :=
  (∀ a x, ((![v24] : Fin 1 → IVec S16 32) a x).toNat < S5120.size a)
theorem k1_idx7_inb : ∀ (v24 : IVec S16 32) (k1_hw6 : k1_chk6 v24), ∀ a x, ((![v24] : Fin 1 → IVec S16 32) a x).toNat < S5120.size a := fun v24 k1_hw6 => k1_hw6

def k1_chk7 (v27 : IVec S16 32) : Prop :=
  (∀ a x, ((![v27] : Fin 1 → IVec S16 32) a x).toNat < S5120.size a)
theorem k1_idx8_inb : ∀ (v27 : IVec S16 32) (k1_hw7 : k1_chk7 v27), ∀ a x, ((![v27] : Fin 1 → IVec S16 32) a x).toNat < S5120.size a := fun v27 k1_hw7 => k1_hw7

def k1_chk8 (v31 : IVec S16 32) : Prop :=
  (∀ a x, ((![v31] : Fin 1 → IVec S16 32) a x).toNat < S5120.size a) ∧
  (∀ a x, ((![v31] : Fin 1 → IVec S16 32) a x).toNat < S5120.size a)
theorem k1_idx9_inb : ∀ (v31 : IVec S16 32) (k1_hw8 : k1_chk8 v31), ∀ a x, ((![v31] : Fin 1 → IVec S16 32) a x).toNat < S5120.size a := fun v31 k1_hw8 => k1_hw8.1
theorem k1_idx10_inb : ∀ (v31 : IVec S16 32) (k1_hw8 : k1_chk8 v31), ∀ a x, ((![v31] : Fin 1 → IVec S16 32) a x).toNat < S5120.size a := fun v31 k1_hw8 => k1_hw8.2

def k1_chk9 (v39 : IVec S16 32) : Prop :=
  (∀ a x, ((![v39] : Fin 1 → IVec S16 32) a x).toNat < S5120.size a) ∧
  (∀ a x, ((![v39] : Fin 1 → IVec S16 32) a x).toNat < S5120.size a)
theorem k1_idx11_inb : ∀ (v39 : IVec S16 32) (k1_hw9 : k1_chk9 v39), ∀ a x, ((![v39] : Fin 1 → IVec S16 32) a x).toNat < S5120.size a := fun v39 k1_hw9 => k1_hw9.1
theorem k1_idx12_inb : ∀ (v39 : IVec S16 32) (k1_hw9 : k1_chk9 v39), ∀ a x, ((![v39] : Fin 1 → IVec S16 32) a x).toNat < S5120.size a := fun v39 k1_hw9 => k1_hw9.2

def k1_chk10 (v43 : IVec S16 32) : Prop :=
  (∀ a x, ((![v43] : Fin 1 → IVec S16 32) a x).toNat < S5120.size a)
theorem k1_idx13_inb : ∀ (v43 : IVec S16 32) (k1_hw10 : k1_chk10 v43), ∀ a x, ((![v43] : Fin 1 → IVec S16 32) a x).toNat < S5120.size a := fun v43 k1_hw10 => k1_hw10

def k1_chk11 (v46 : IVec S16 32) : Prop :=
  (∀ a x, ((![v46] : Fin 1 → IVec S16 32) a x).toNat < S5120.size a)
theorem k1_idx14_inb : ∀ (v46 : IVec S16 32) (k1_hw11 : k1_chk11 v46), ∀ a x, ((![v46] : Fin 1 → IVec S16 32) a x).toNat < S5120.size a := fun v46 k1_hw11 => k1_hw11

def k1_chk12 (v49 : IVec S16 32) : Prop :=
  (∀ a x, ((![v49] : Fin 1 → IVec S16 32) a x).toNat < S5120.size a)
theorem k1_idx15_inb : ∀ (v49 : IVec S16 32) (k1_hw12 : k1_chk12 v49), ∀ a x, ((![v49] : Fin 1 → IVec S16 32) a x).toNat < S5120.size a := fun v49 k1_hw12 => k1_hw12

def k1_chk13 (v52 : IVec S16 32) : Prop :=
  (∀ a x, ((![v52] : Fin 1 → IVec S16 32) a x).toNat < S5120.size a)
theorem k1_idx16_inb : ∀ (v52 : IVec S16 32) (k1_hw13 : k1_chk13 v52), ∀ a x, ((![v52] : Fin 1 → IVec S16 32) a x).toNat < S5120.size a := fun v52 k1_hw13 => k1_hw13

def k1_chk14 (v55 : IVec S16 32) : Prop :=
  (∀ a x, ((![v55] : Fin 1 → IVec S16 32) a x).toNat < S5120.size a)
theorem k1_idx17_inb : ∀ (v55 : IVec S16 32) (k1_hw14 : k1_chk14 v55), ∀ a x, ((![v55] : Fin 1 → IVec S16 32) a x).toNat < S5120.size a := fun v55 k1_hw14 => k1_hw14

def k1_chk15 (v58 : IVec S16 32) : Prop :=
  (∀ a x, ((![v58] : Fin 1 → IVec S16 32) a x).toNat < S5120.size a)
theorem k1_idx18_inb : ∀ (v58 : IVec S16 32) (k1_hw15 : k1_chk15 v58), ∀ a x, ((![v58] : Fin 1 → IVec S16 32) a x).toNat < S5120.size a := fun v58 k1_hw15 => k1_hw15

def k1_chk16 (v62 : IVec S16 32) : Prop :=
  (∀ a x, ((![v62] : Fin 1 → IVec S16 32) a x).toNat < S5120.size a) ∧
  (∀ a x, ((![v62] : Fin 1 → IVec S16 32) a x).toNat < S5120.size a)
theorem k1_idx19_inb : ∀ (v62 : IVec S16 32) (k1_hw16 : k1_chk16 v62), ∀ a x, ((![v62] : Fin 1 → IVec S16 32) a x).toNat < S5120.size a := fun v62 k1_hw16 => k1_hw16.1
theorem k1_idx20_inb : ∀ (v62 : IVec S16 32) (k1_hw16 : k1_chk16 v62), ∀ a x, ((![v62] : Fin 1 → IVec S16 32) a x).toNat < S5120.size a := fun v62 k1_hw16 => k1_hw16.2

def k1_chk17 (v70 : IVec S16 32) : Prop :=
  (∀ a x, ((![v70] : Fin 1 → IVec S16 32) a x).toNat < S5120.size a) ∧
  (∀ a x, ((![v70] : Fin 1 → IVec S16 32) a x).toNat < S5120.size a)
theorem k1_idx21_inb : ∀ (v70 : IVec S16 32) (k1_hw17 : k1_chk17 v70), ∀ a x, ((![v70] : Fin 1 → IVec S16 32) a x).toNat < S5120.size a := fun v70 k1_hw17 => k1_hw17.1
theorem k1_idx22_inb : ∀ (v70 : IVec S16 32) (k1_hw17 : k1_chk17 v70), ∀ a x, ((![v70] : Fin 1 → IVec S16 32) a x).toNat < S5120.size a := fun v70 k1_hw17 => k1_hw17.2

def k1_chk18 (v74 : IVec S16 32) : Prop :=
  (∀ a x, ((![v74] : Fin 1 → IVec S16 32) a x).toNat < S5120.size a)
theorem k1_idx23_inb : ∀ (v74 : IVec S16 32) (k1_hw18 : k1_chk18 v74), ∀ a x, ((![v74] : Fin 1 → IVec S16 32) a x).toNat < S5120.size a := fun v74 k1_hw18 => k1_hw18

def k1_chk19 (v77 : IVec S16 32) : Prop :=
  (∀ a x, ((![v77] : Fin 1 → IVec S16 32) a x).toNat < S5120.size a)
theorem k1_idx24_inb : ∀ (v77 : IVec S16 32) (k1_hw19 : k1_chk19 v77), ∀ a x, ((![v77] : Fin 1 → IVec S16 32) a x).toNat < S5120.size a := fun v77 k1_hw19 => k1_hw19

def k1_chk20 (v80 : IVec S16 32) : Prop :=
  (∀ a x, ((![v80] : Fin 1 → IVec S16 32) a x).toNat < S5120.size a)
theorem k1_idx25_inb : ∀ (v80 : IVec S16 32) (k1_hw20 : k1_chk20 v80), ∀ a x, ((![v80] : Fin 1 → IVec S16 32) a x).toNat < S5120.size a := fun v80 k1_hw20 => k1_hw20

def k1_chk21 (v83 : IVec S16 32) : Prop :=
  (∀ a x, ((![v83] : Fin 1 → IVec S16 32) a x).toNat < S5120.size a)
theorem k1_idx26_inb : ∀ (v83 : IVec S16 32) (k1_hw21 : k1_chk21 v83), ∀ a x, ((![v83] : Fin 1 → IVec S16 32) a x).toNat < S5120.size a := fun v83 k1_hw21 => k1_hw21

def k1_chk22 (v86 : IVec S16 32) : Prop :=
  (∀ a x, ((![v86] : Fin 1 → IVec S16 32) a x).toNat < S5120.size a)
theorem k1_idx27_inb : ∀ (v86 : IVec S16 32) (k1_hw22 : k1_chk22 v86), ∀ a x, ((![v86] : Fin 1 → IVec S16 32) a x).toNat < S5120.size a := fun v86 k1_hw22 => k1_hw22

def k1_chk23 (v89 : IVec S16 32) : Prop :=
  (∀ a x, ((![v89] : Fin 1 → IVec S16 32) a x).toNat < S5120.size a)
theorem k1_idx28_inb : ∀ (v89 : IVec S16 32) (k1_hw23 : k1_chk23 v89), ∀ a x, ((![v89] : Fin 1 → IVec S16 32) a x).toNat < S5120.size a := fun v89 k1_hw23 => k1_hw23

def k1_chk24 (v93 : IVec S16 32) : Prop :=
  (∀ a x, ((![v93] : Fin 1 → IVec S16 32) a x).toNat < S5120.size a) ∧
  (∀ a x, ((![v93] : Fin 1 → IVec S16 32) a x).toNat < S5120.size a)
theorem k1_idx29_inb : ∀ (v93 : IVec S16 32) (k1_hw24 : k1_chk24 v93), ∀ a x, ((![v93] : Fin 1 → IVec S16 32) a x).toNat < S5120.size a := fun v93 k1_hw24 => k1_hw24.1
theorem k1_idx30_inb : ∀ (v93 : IVec S16 32) (k1_hw24 : k1_chk24 v93), ∀ a x, ((![v93] : Fin 1 → IVec S16 32) a x).toNat < S5120.size a := fun v93 k1_hw24 => k1_hw24.2

def k1_chk25 (v101 : IVec S16 32) : Prop :=
  (∀ a x, ((![v101] : Fin 1 → IVec S16 32) a x).toNat < S5120.size a) ∧
  (∀ a x, ((![v101] : Fin 1 → IVec S16 32) a x).toNat < S5120.size a)
theorem k1_idx31_inb : ∀ (v101 : IVec S16 32) (k1_hw25 : k1_chk25 v101), ∀ a x, ((![v101] : Fin 1 → IVec S16 32) a x).toNat < S5120.size a := fun v101 k1_hw25 => k1_hw25.1
theorem k1_idx32_inb : ∀ (v101 : IVec S16 32) (k1_hw25 : k1_chk25 v101), ∀ a x, ((![v101] : Fin 1 → IVec S16 32) a x).toNat < S5120.size a := fun v101 k1_hw25 => k1_hw25.2

def k1_chk26 (v105 : IVec S16 32) : Prop :=
  (∀ a x, ((![v105] : Fin 1 → IVec S16 32) a x).toNat < S5120.size a)
theorem k1_idx33_inb : ∀ (v105 : IVec S16 32) (k1_hw26 : k1_chk26 v105), ∀ a x, ((![v105] : Fin 1 → IVec S16 32) a x).toNat < S5120.size a := fun v105 k1_hw26 => k1_hw26

def k1_chk27 (v108 : IVec S16 32) : Prop :=
  (∀ a x, ((![v108] : Fin 1 → IVec S16 32) a x).toNat < S5120.size a)
theorem k1_idx34_inb : ∀ (v108 : IVec S16 32) (k1_hw27 : k1_chk27 v108), ∀ a x, ((![v108] : Fin 1 → IVec S16 32) a x).toNat < S5120.size a := fun v108 k1_hw27 => k1_hw27

def k1_chk28 (v111 : IVec S16 32) : Prop :=
  (∀ a x, ((![v111] : Fin 1 → IVec S16 32) a x).toNat < S5120.size a)
theorem k1_idx35_inb : ∀ (v111 : IVec S16 32) (k1_hw28 : k1_chk28 v111), ∀ a x, ((![v111] : Fin 1 → IVec S16 32) a x).toNat < S5120.size a := fun v111 k1_hw28 => k1_hw28

def k1_chk29 (v114 : IVec S16 32) : Prop :=
  (∀ a x, ((![v114] : Fin 1 → IVec S16 32) a x).toNat < S5120.size a)
theorem k1_idx36_inb : ∀ (v114 : IVec S16 32) (k1_hw29 : k1_chk29 v114), ∀ a x, ((![v114] : Fin 1 → IVec S16 32) a x).toNat < S5120.size a := fun v114 k1_hw29 => k1_hw29

def k1_chk30 (v117 : IVec S16 32) : Prop :=
  (∀ a x, ((![v117] : Fin 1 → IVec S16 32) a x).toNat < S5120.size a)
theorem k1_idx37_inb : ∀ (v117 : IVec S16 32) (k1_hw30 : k1_chk30 v117), ∀ a x, ((![v117] : Fin 1 → IVec S16 32) a x).toNat < S5120.size a := fun v117 k1_hw30 => k1_hw30

def k1_chk31 (v120 : IVec S16 32) : Prop :=
  (∀ a x, ((![v120] : Fin 1 → IVec S16 32) a x).toNat < S5120.size a)
theorem k1_idx38_inb : ∀ (v120 : IVec S16 32) (k1_hw31 : k1_chk31 v120), ∀ a x, ((![v120] : Fin 1 → IVec S16 32) a x).toNat < S5120.size a := fun v120 k1_hw31 => k1_hw31

def k1_chk32 (v124 : IVec S16 32) : Prop :=
  (∀ a x, ((![v124] : Fin 1 → IVec S16 32) a x).toNat < S5120.size a) ∧
  (∀ a x, ((![v124] : Fin 1 → IVec S16 32) a x).toNat < S5120.size a)
theorem k1_idx39_inb : ∀ (v124 : IVec S16 32) (k1_hw32 : k1_chk32 v124), ∀ a x, ((![v124] : Fin 1 → IVec S16 32) a x).toNat < S5120.size a := fun v124 k1_hw32 => k1_hw32.1
theorem k1_idx40_inb : ∀ (v124 : IVec S16 32) (k1_hw32 : k1_chk32 v124), ∀ a x, ((![v124] : Fin 1 → IVec S16 32) a x).toNat < S5120.size a := fun v124 k1_hw32 => k1_hw32.2

def k1_chk33 (v132 : IVec S16 32) : Prop :=
  (∀ a x, ((![v132] : Fin 1 → IVec S16 32) a x).toNat < S5120.size a) ∧
  (∀ a x, ((![v132] : Fin 1 → IVec S16 32) a x).toNat < S5120.size a)
theorem k1_idx41_inb : ∀ (v132 : IVec S16 32) (k1_hw33 : k1_chk33 v132), ∀ a x, ((![v132] : Fin 1 → IVec S16 32) a x).toNat < S5120.size a := fun v132 k1_hw33 => k1_hw33.1
theorem k1_idx42_inb : ∀ (v132 : IVec S16 32) (k1_hw33 : k1_chk33 v132), ∀ a x, ((![v132] : Fin 1 → IVec S16 32) a x).toNat < S5120.size a := fun v132 k1_hw33 => k1_hw33.2

def k1_chk34 (v136 : IVec S16 32) : Prop :=
  (∀ a x, ((![v136] : Fin 1 → IVec S16 32) a x).toNat < S5120.size a)
theorem k1_idx43_inb : ∀ (v136 : IVec S16 32) (k1_hw34 : k1_chk34 v136), ∀ a x, ((![v136] : Fin 1 → IVec S16 32) a x).toNat < S5120.size a := fun v136 k1_hw34 => k1_hw34

def k1_chk35 (v139 : IVec S16 32) : Prop :=
  (∀ a x, ((![v139] : Fin 1 → IVec S16 32) a x).toNat < S5120.size a)
theorem k1_idx44_inb : ∀ (v139 : IVec S16 32) (k1_hw35 : k1_chk35 v139), ∀ a x, ((![v139] : Fin 1 → IVec S16 32) a x).toNat < S5120.size a := fun v139 k1_hw35 => k1_hw35

def k1_chk36 (v142 : IVec S16 32) : Prop :=
  (∀ a x, ((![v142] : Fin 1 → IVec S16 32) a x).toNat < S5120.size a)
theorem k1_idx45_inb : ∀ (v142 : IVec S16 32) (k1_hw36 : k1_chk36 v142), ∀ a x, ((![v142] : Fin 1 → IVec S16 32) a x).toNat < S5120.size a := fun v142 k1_hw36 => k1_hw36

def k1_chk37 (v145 : IVec S16 32) : Prop :=
  (∀ a x, ((![v145] : Fin 1 → IVec S16 32) a x).toNat < S5120.size a)
theorem k1_idx46_inb : ∀ (v145 : IVec S16 32) (k1_hw37 : k1_chk37 v145), ∀ a x, ((![v145] : Fin 1 → IVec S16 32) a x).toNat < S5120.size a := fun v145 k1_hw37 => k1_hw37

def k1_chk38 (v148 : IVec S16 32) : Prop :=
  (∀ a x, ((![v148] : Fin 1 → IVec S16 32) a x).toNat < S5120.size a)
theorem k1_idx47_inb : ∀ (v148 : IVec S16 32) (k1_hw38 : k1_chk38 v148), ∀ a x, ((![v148] : Fin 1 → IVec S16 32) a x).toNat < S5120.size a := fun v148 k1_hw38 => k1_hw38

def k1_chk39 (v151 : IVec S16 32) : Prop :=
  (∀ a x, ((![v151] : Fin 1 → IVec S16 32) a x).toNat < S5120.size a)
theorem k1_idx48_inb : ∀ (v151 : IVec S16 32) (k1_hw39 : k1_chk39 v151), ∀ a x, ((![v151] : Fin 1 → IVec S16 32) a x).toNat < S5120.size a := fun v151 k1_hw39 => k1_hw39

def k1_chk40 (v155 : IVec S16 32) : Prop :=
  (∀ a x, ((![v155] : Fin 1 → IVec S16 32) a x).toNat < S5120.size a) ∧
  (∀ a x, ((![v155] : Fin 1 → IVec S16 32) a x).toNat < S5120.size a)
theorem k1_idx49_inb : ∀ (v155 : IVec S16 32) (k1_hw40 : k1_chk40 v155), ∀ a x, ((![v155] : Fin 1 → IVec S16 32) a x).toNat < S5120.size a := fun v155 k1_hw40 => k1_hw40.1
theorem k1_idx50_inb : ∀ (v155 : IVec S16 32) (k1_hw40 : k1_chk40 v155), ∀ a x, ((![v155] : Fin 1 → IVec S16 32) a x).toNat < S5120.size a := fun v155 k1_hw40 => k1_hw40.2

def k1_chk41 (v163 : IVec S16 32) : Prop :=
  (∀ a x, ((![v163] : Fin 1 → IVec S16 32) a x).toNat < S5120.size a) ∧
  (∀ a x, ((![v163] : Fin 1 → IVec S16 32) a x).toNat < S5120.size a)
theorem k1_idx51_inb : ∀ (v163 : IVec S16 32) (k1_hw41 : k1_chk41 v163), ∀ a x, ((![v163] : Fin 1 → IVec S16 32) a x).toNat < S5120.size a := fun v163 k1_hw41 => k1_hw41.1
theorem k1_idx52_inb : ∀ (v163 : IVec S16 32) (k1_hw41 : k1_chk41 v163), ∀ a x, ((![v163] : Fin 1 → IVec S16 32) a x).toNat < S5120.size a := fun v163 k1_hw41 => k1_hw41.2

def k1_chk42 (v167 : IVec S16 32) : Prop :=
  (∀ a x, ((![v167] : Fin 1 → IVec S16 32) a x).toNat < S5120.size a)
theorem k1_idx53_inb : ∀ (v167 : IVec S16 32) (k1_hw42 : k1_chk42 v167), ∀ a x, ((![v167] : Fin 1 → IVec S16 32) a x).toNat < S5120.size a := fun v167 k1_hw42 => k1_hw42

def k1_chk43 (v170 : IVec S16 32) : Prop :=
  (∀ a x, ((![v170] : Fin 1 → IVec S16 32) a x).toNat < S5120.size a)
theorem k1_idx54_inb : ∀ (v170 : IVec S16 32) (k1_hw43 : k1_chk43 v170), ∀ a x, ((![v170] : Fin 1 → IVec S16 32) a x).toNat < S5120.size a := fun v170 k1_hw43 => k1_hw43

def k1_chk44 (v173 : IVec S16 32) : Prop :=
  (∀ a x, ((![v173] : Fin 1 → IVec S16 32) a x).toNat < S5120.size a)
theorem k1_idx55_inb : ∀ (v173 : IVec S16 32) (k1_hw44 : k1_chk44 v173), ∀ a x, ((![v173] : Fin 1 → IVec S16 32) a x).toNat < S5120.size a := fun v173 k1_hw44 => k1_hw44

def k1_chk45 (v176 : IVec S16 32) : Prop :=
  (∀ a x, ((![v176] : Fin 1 → IVec S16 32) a x).toNat < S5120.size a)
theorem k1_idx56_inb : ∀ (v176 : IVec S16 32) (k1_hw45 : k1_chk45 v176), ∀ a x, ((![v176] : Fin 1 → IVec S16 32) a x).toNat < S5120.size a := fun v176 k1_hw45 => k1_hw45

def k1_chk46 (v179 : IVec S16 32) : Prop :=
  (∀ a x, ((![v179] : Fin 1 → IVec S16 32) a x).toNat < S5120.size a)
theorem k1_idx57_inb : ∀ (v179 : IVec S16 32) (k1_hw46 : k1_chk46 v179), ∀ a x, ((![v179] : Fin 1 → IVec S16 32) a x).toNat < S5120.size a := fun v179 k1_hw46 => k1_hw46

def k1_chk47 (v182 : IVec S16 32) : Prop :=
  (∀ a x, ((![v182] : Fin 1 → IVec S16 32) a x).toNat < S5120.size a)
theorem k1_idx58_inb : ∀ (v182 : IVec S16 32) (k1_hw47 : k1_chk47 v182), ∀ a x, ((![v182] : Fin 1 → IVec S16 32) a x).toNat < S5120.size a := fun v182 k1_hw47 => k1_hw47

def k1_chk48 (v186 : IVec S16 32) : Prop :=
  (∀ a x, ((![v186] : Fin 1 → IVec S16 32) a x).toNat < S5120.size a) ∧
  (∀ a x, ((![v186] : Fin 1 → IVec S16 32) a x).toNat < S5120.size a)
theorem k1_idx59_inb : ∀ (v186 : IVec S16 32) (k1_hw48 : k1_chk48 v186), ∀ a x, ((![v186] : Fin 1 → IVec S16 32) a x).toNat < S5120.size a := fun v186 k1_hw48 => k1_hw48.1
theorem k1_idx60_inb : ∀ (v186 : IVec S16 32) (k1_hw48 : k1_chk48 v186), ∀ a x, ((![v186] : Fin 1 → IVec S16 32) a x).toNat < S5120.size a := fun v186 k1_hw48 => k1_hw48.2

def k1_chk49 (v194 : IVec S16 32) : Prop :=
  (∀ a x, ((![v194] : Fin 1 → IVec S16 32) a x).toNat < S5120.size a) ∧
  (∀ a x, ((![v194] : Fin 1 → IVec S16 32) a x).toNat < S5120.size a)
theorem k1_idx61_inb : ∀ (v194 : IVec S16 32) (k1_hw49 : k1_chk49 v194), ∀ a x, ((![v194] : Fin 1 → IVec S16 32) a x).toNat < S5120.size a := fun v194 k1_hw49 => k1_hw49.1
theorem k1_idx62_inb : ∀ (v194 : IVec S16 32) (k1_hw49 : k1_chk49 v194), ∀ a x, ((![v194] : Fin 1 → IVec S16 32) a x).toNat < S5120.size a := fun v194 k1_hw49 => k1_hw49.2

def k1_chk50 (v198 : IVec S16 32) : Prop :=
  (∀ a x, ((![v198] : Fin 1 → IVec S16 32) a x).toNat < S5120.size a)
theorem k1_idx63_inb : ∀ (v198 : IVec S16 32) (k1_hw50 : k1_chk50 v198), ∀ a x, ((![v198] : Fin 1 → IVec S16 32) a x).toNat < S5120.size a := fun v198 k1_hw50 => k1_hw50

def k1_chk51 (v201 : IVec S16 32) : Prop :=
  (∀ a x, ((![v201] : Fin 1 → IVec S16 32) a x).toNat < S5120.size a)
theorem k1_idx64_inb : ∀ (v201 : IVec S16 32) (k1_hw51 : k1_chk51 v201), ∀ a x, ((![v201] : Fin 1 → IVec S16 32) a x).toNat < S5120.size a := fun v201 k1_hw51 => k1_hw51

def k1_chk52 (v204 : IVec S16 32) : Prop :=
  (∀ a x, ((![v204] : Fin 1 → IVec S16 32) a x).toNat < S5120.size a)
theorem k1_idx65_inb : ∀ (v204 : IVec S16 32) (k1_hw52 : k1_chk52 v204), ∀ a x, ((![v204] : Fin 1 → IVec S16 32) a x).toNat < S5120.size a := fun v204 k1_hw52 => k1_hw52

def k1_chk53 (v207 : IVec S16 32) : Prop :=
  (∀ a x, ((![v207] : Fin 1 → IVec S16 32) a x).toNat < S5120.size a)
theorem k1_idx66_inb : ∀ (v207 : IVec S16 32) (k1_hw53 : k1_chk53 v207), ∀ a x, ((![v207] : Fin 1 → IVec S16 32) a x).toNat < S5120.size a := fun v207 k1_hw53 => k1_hw53

def k1_chk54 (v210 : IVec S16 32) : Prop :=
  (∀ a x, ((![v210] : Fin 1 → IVec S16 32) a x).toNat < S5120.size a)
theorem k1_idx67_inb : ∀ (v210 : IVec S16 32) (k1_hw54 : k1_chk54 v210), ∀ a x, ((![v210] : Fin 1 → IVec S16 32) a x).toNat < S5120.size a := fun v210 k1_hw54 => k1_hw54

def k1_chk55 (v213 : IVec S16 32) : Prop :=
  (∀ a x, ((![v213] : Fin 1 → IVec S16 32) a x).toNat < S5120.size a)
theorem k1_idx68_inb : ∀ (v213 : IVec S16 32) (k1_hw55 : k1_chk55 v213), ∀ a x, ((![v213] : Fin 1 → IVec S16 32) a x).toNat < S5120.size a := fun v213 k1_hw55 => k1_hw55

def k1_chk56 (v217 : IVec S16 32) : Prop :=
  (∀ a x, ((![v217] : Fin 1 → IVec S16 32) a x).toNat < S5120.size a) ∧
  (∀ a x, ((![v217] : Fin 1 → IVec S16 32) a x).toNat < S5120.size a)
theorem k1_idx69_inb : ∀ (v217 : IVec S16 32) (k1_hw56 : k1_chk56 v217), ∀ a x, ((![v217] : Fin 1 → IVec S16 32) a x).toNat < S5120.size a := fun v217 k1_hw56 => k1_hw56.1
theorem k1_idx70_inb : ∀ (v217 : IVec S16 32) (k1_hw56 : k1_chk56 v217), ∀ a x, ((![v217] : Fin 1 → IVec S16 32) a x).toNat < S5120.size a := fun v217 k1_hw56 => k1_hw56.2

def k1_chk57 (v225 : IVec S16 32) : Prop :=
  (∀ a x, ((![v225] : Fin 1 → IVec S16 32) a x).toNat < S5120.size a) ∧
  (∀ a x, ((![v225] : Fin 1 → IVec S16 32) a x).toNat < S5120.size a)
theorem k1_idx71_inb : ∀ (v225 : IVec S16 32) (k1_hw57 : k1_chk57 v225), ∀ a x, ((![v225] : Fin 1 → IVec S16 32) a x).toNat < S5120.size a := fun v225 k1_hw57 => k1_hw57.1
theorem k1_idx72_inb : ∀ (v225 : IVec S16 32) (k1_hw57 : k1_chk57 v225), ∀ a x, ((![v225] : Fin 1 → IVec S16 32) a x).toNat < S5120.size a := fun v225 k1_hw57 => k1_hw57.2

def k1_chk58 (v229 : IVec S16 32) : Prop :=
  (∀ a x, ((![v229] : Fin 1 → IVec S16 32) a x).toNat < S5120.size a)
theorem k1_idx73_inb : ∀ (v229 : IVec S16 32) (k1_hw58 : k1_chk58 v229), ∀ a x, ((![v229] : Fin 1 → IVec S16 32) a x).toNat < S5120.size a := fun v229 k1_hw58 => k1_hw58

def k1_chk59 (v232 : IVec S16 32) : Prop :=
  (∀ a x, ((![v232] : Fin 1 → IVec S16 32) a x).toNat < S5120.size a)
theorem k1_idx74_inb : ∀ (v232 : IVec S16 32) (k1_hw59 : k1_chk59 v232), ∀ a x, ((![v232] : Fin 1 → IVec S16 32) a x).toNat < S5120.size a := fun v232 k1_hw59 => k1_hw59

def k1_chk60 (v235 : IVec S16 32) : Prop :=
  (∀ a x, ((![v235] : Fin 1 → IVec S16 32) a x).toNat < S5120.size a)
theorem k1_idx75_inb : ∀ (v235 : IVec S16 32) (k1_hw60 : k1_chk60 v235), ∀ a x, ((![v235] : Fin 1 → IVec S16 32) a x).toNat < S5120.size a := fun v235 k1_hw60 => k1_hw60

def k1_chk61 (v238 : IVec S16 32) : Prop :=
  (∀ a x, ((![v238] : Fin 1 → IVec S16 32) a x).toNat < S5120.size a)
theorem k1_idx76_inb : ∀ (v238 : IVec S16 32) (k1_hw61 : k1_chk61 v238), ∀ a x, ((![v238] : Fin 1 → IVec S16 32) a x).toNat < S5120.size a := fun v238 k1_hw61 => k1_hw61

def k1_chk62 (v241 : IVec S16 32) : Prop :=
  (∀ a x, ((![v241] : Fin 1 → IVec S16 32) a x).toNat < S5120.size a)
theorem k1_idx77_inb : ∀ (v241 : IVec S16 32) (k1_hw62 : k1_chk62 v241), ∀ a x, ((![v241] : Fin 1 → IVec S16 32) a x).toNat < S5120.size a := fun v241 k1_hw62 => k1_hw62

def k1_chk63 (v244 : IVec S16 32) : Prop :=
  (∀ a x, ((![v244] : Fin 1 → IVec S16 32) a x).toNat < S5120.size a)
theorem k1_idx78_inb : ∀ (v244 : IVec S16 32) (k1_hw63 : k1_chk63 v244), ∀ a x, ((![v244] : Fin 1 → IVec S16 32) a x).toNat < S5120.size a := fun v244 k1_hw63 => k1_hw63

def k1_chk64 (v248 : IVec S16 32) : Prop :=
  (∀ a x, ((![v248] : Fin 1 → IVec S16 32) a x).toNat < S5120.size a) ∧
  (∀ a x, ((![v248] : Fin 1 → IVec S16 32) a x).toNat < S5120.size a)
theorem k1_idx79_inb : ∀ (v248 : IVec S16 32) (k1_hw64 : k1_chk64 v248), ∀ a x, ((![v248] : Fin 1 → IVec S16 32) a x).toNat < S5120.size a := fun v248 k1_hw64 => k1_hw64.1
theorem k1_idx80_inb : ∀ (v248 : IVec S16 32) (k1_hw64 : k1_chk64 v248), ∀ a x, ((![v248] : Fin 1 → IVec S16 32) a x).toNat < S5120.size a := fun v248 k1_hw64 => k1_hw64.2

def k1_chk65 (v256 : IVec S16 32) : Prop :=
  (∀ a x, ((![v256] : Fin 1 → IVec S16 32) a x).toNat < S5120.size a) ∧
  (∀ a x, ((![v256] : Fin 1 → IVec S16 32) a x).toNat < S5120.size a)
theorem k1_idx81_inb : ∀ (v256 : IVec S16 32) (k1_hw65 : k1_chk65 v256), ∀ a x, ((![v256] : Fin 1 → IVec S16 32) a x).toNat < S5120.size a := fun v256 k1_hw65 => k1_hw65.1
theorem k1_idx82_inb : ∀ (v256 : IVec S16 32) (k1_hw65 : k1_chk65 v256), ∀ a x, ((![v256] : Fin 1 → IVec S16 32) a x).toNat < S5120.size a := fun v256 k1_hw65 => k1_hw65.2

def k1_chk66 (v260 : IVec S16 32) : Prop :=
  (∀ a x, ((![v260] : Fin 1 → IVec S16 32) a x).toNat < S5120.size a)
theorem k1_idx83_inb : ∀ (v260 : IVec S16 32) (k1_hw66 : k1_chk66 v260), ∀ a x, ((![v260] : Fin 1 → IVec S16 32) a x).toNat < S5120.size a := fun v260 k1_hw66 => k1_hw66

def k1_chk67 (v263 : IVec S16 32) : Prop :=
  (∀ a x, ((![v263] : Fin 1 → IVec S16 32) a x).toNat < S5120.size a)
theorem k1_idx84_inb : ∀ (v263 : IVec S16 32) (k1_hw67 : k1_chk67 v263), ∀ a x, ((![v263] : Fin 1 → IVec S16 32) a x).toNat < S5120.size a := fun v263 k1_hw67 => k1_hw67

def k1_chk68 (v266 : IVec S16 32) : Prop :=
  (∀ a x, ((![v266] : Fin 1 → IVec S16 32) a x).toNat < S5120.size a)
theorem k1_idx85_inb : ∀ (v266 : IVec S16 32) (k1_hw68 : k1_chk68 v266), ∀ a x, ((![v266] : Fin 1 → IVec S16 32) a x).toNat < S5120.size a := fun v266 k1_hw68 => k1_hw68

def k1_chk69 (v269 : IVec S16 32) : Prop :=
  (∀ a x, ((![v269] : Fin 1 → IVec S16 32) a x).toNat < S5120.size a)
theorem k1_idx86_inb : ∀ (v269 : IVec S16 32) (k1_hw69 : k1_chk69 v269), ∀ a x, ((![v269] : Fin 1 → IVec S16 32) a x).toNat < S5120.size a := fun v269 k1_hw69 => k1_hw69

def k1_chk70 (v272 : IVec S16 32) : Prop :=
  (∀ a x, ((![v272] : Fin 1 → IVec S16 32) a x).toNat < S5120.size a)
theorem k1_idx87_inb : ∀ (v272 : IVec S16 32) (k1_hw70 : k1_chk70 v272), ∀ a x, ((![v272] : Fin 1 → IVec S16 32) a x).toNat < S5120.size a := fun v272 k1_hw70 => k1_hw70

def k1_chk71 (v275 : IVec S16 32) : Prop :=
  (∀ a x, ((![v275] : Fin 1 → IVec S16 32) a x).toNat < S5120.size a)
theorem k1_idx88_inb : ∀ (v275 : IVec S16 32) (k1_hw71 : k1_chk71 v275), ∀ a x, ((![v275] : Fin 1 → IVec S16 32) a x).toNat < S5120.size a := fun v275 k1_hw71 => k1_hw71

def k1_chk72 (v279 : IVec S16 32) : Prop :=
  (∀ a x, ((![v279] : Fin 1 → IVec S16 32) a x).toNat < S5120.size a) ∧
  (∀ a x, ((![v279] : Fin 1 → IVec S16 32) a x).toNat < S5120.size a)
theorem k1_idx89_inb : ∀ (v279 : IVec S16 32) (k1_hw72 : k1_chk72 v279), ∀ a x, ((![v279] : Fin 1 → IVec S16 32) a x).toNat < S5120.size a := fun v279 k1_hw72 => k1_hw72.1
theorem k1_idx90_inb : ∀ (v279 : IVec S16 32) (k1_hw72 : k1_chk72 v279), ∀ a x, ((![v279] : Fin 1 → IVec S16 32) a x).toNat < S5120.size a := fun v279 k1_hw72 => k1_hw72.2

def k1_chk73 (v287 : IVec S16 32) : Prop :=
  (∀ a x, ((![v287] : Fin 1 → IVec S16 32) a x).toNat < S5120.size a) ∧
  (∀ a x, ((![v287] : Fin 1 → IVec S16 32) a x).toNat < S5120.size a)
theorem k1_idx91_inb : ∀ (v287 : IVec S16 32) (k1_hw73 : k1_chk73 v287), ∀ a x, ((![v287] : Fin 1 → IVec S16 32) a x).toNat < S5120.size a := fun v287 k1_hw73 => k1_hw73.1
theorem k1_idx92_inb : ∀ (v287 : IVec S16 32) (k1_hw73 : k1_chk73 v287), ∀ a x, ((![v287] : Fin 1 → IVec S16 32) a x).toNat < S5120.size a := fun v287 k1_hw73 => k1_hw73.2

def k1_chk74 (v291 : IVec S16 32) : Prop :=
  (∀ a x, ((![v291] : Fin 1 → IVec S16 32) a x).toNat < S5120.size a)
theorem k1_idx93_inb : ∀ (v291 : IVec S16 32) (k1_hw74 : k1_chk74 v291), ∀ a x, ((![v291] : Fin 1 → IVec S16 32) a x).toNat < S5120.size a := fun v291 k1_hw74 => k1_hw74

def k1_chk75 (v294 : IVec S16 32) : Prop :=
  (∀ a x, ((![v294] : Fin 1 → IVec S16 32) a x).toNat < S5120.size a)
theorem k1_idx94_inb : ∀ (v294 : IVec S16 32) (k1_hw75 : k1_chk75 v294), ∀ a x, ((![v294] : Fin 1 → IVec S16 32) a x).toNat < S5120.size a := fun v294 k1_hw75 => k1_hw75

def k1_chk76 (v297 : IVec S16 32) : Prop :=
  (∀ a x, ((![v297] : Fin 1 → IVec S16 32) a x).toNat < S5120.size a)
theorem k1_idx95_inb : ∀ (v297 : IVec S16 32) (k1_hw76 : k1_chk76 v297), ∀ a x, ((![v297] : Fin 1 → IVec S16 32) a x).toNat < S5120.size a := fun v297 k1_hw76 => k1_hw76

def k1_chk77 (v300 : IVec S16 32) : Prop :=
  (∀ a x, ((![v300] : Fin 1 → IVec S16 32) a x).toNat < S5120.size a)
theorem k1_idx96_inb : ∀ (v300 : IVec S16 32) (k1_hw77 : k1_chk77 v300), ∀ a x, ((![v300] : Fin 1 → IVec S16 32) a x).toNat < S5120.size a := fun v300 k1_hw77 => k1_hw77

def k1_chk78 (v303 : IVec S16 32) : Prop :=
  (∀ a x, ((![v303] : Fin 1 → IVec S16 32) a x).toNat < S5120.size a)
theorem k1_idx97_inb : ∀ (v303 : IVec S16 32) (k1_hw78 : k1_chk78 v303), ∀ a x, ((![v303] : Fin 1 → IVec S16 32) a x).toNat < S5120.size a := fun v303 k1_hw78 => k1_hw78

def k1_chk79 (v306 : IVec S16 32) : Prop :=
  (∀ a x, ((![v306] : Fin 1 → IVec S16 32) a x).toNat < S5120.size a)
theorem k1_idx98_inb : ∀ (v306 : IVec S16 32) (k1_hw79 : k1_chk79 v306), ∀ a x, ((![v306] : Fin 1 → IVec S16 32) a x).toNat < S5120.size a := fun v306 k1_hw79 => k1_hw79

def k1_chk80 (v310 : IVec S16 32) : Prop :=
  (∀ a x, ((![v310] : Fin 1 → IVec S16 32) a x).toNat < S5120.size a) ∧
  (∀ a x, ((![v310] : Fin 1 → IVec S16 32) a x).toNat < S5120.size a)
theorem k1_idx99_inb : ∀ (v310 : IVec S16 32) (k1_hw80 : k1_chk80 v310), ∀ a x, ((![v310] : Fin 1 → IVec S16 32) a x).toNat < S5120.size a := fun v310 k1_hw80 => k1_hw80.1
theorem k1_idx100_inb : ∀ (v310 : IVec S16 32) (k1_hw80 : k1_chk80 v310), ∀ a x, ((![v310] : Fin 1 → IVec S16 32) a x).toNat < S5120.size a := fun v310 k1_hw80 => k1_hw80.2

def k1_chk81 (v318 : IVec S16 32) : Prop :=
  (∀ a x, ((![v318] : Fin 1 → IVec S16 32) a x).toNat < S5120.size a) ∧
  (∀ a x, ((![v318] : Fin 1 → IVec S16 32) a x).toNat < S5120.size a)
theorem k1_idx101_inb : ∀ (v318 : IVec S16 32) (k1_hw81 : k1_chk81 v318), ∀ a x, ((![v318] : Fin 1 → IVec S16 32) a x).toNat < S5120.size a := fun v318 k1_hw81 => k1_hw81.1
theorem k1_idx102_inb : ∀ (v318 : IVec S16 32) (k1_hw81 : k1_chk81 v318), ∀ a x, ((![v318] : Fin 1 → IVec S16 32) a x).toNat < S5120.size a := fun v318 k1_hw81 => k1_hw81.2

def k1_chk82 (v322 : IVec S16 32) : Prop :=
  (∀ a x, ((![v322] : Fin 1 → IVec S16 32) a x).toNat < S5120.size a)
theorem k1_idx103_inb : ∀ (v322 : IVec S16 32) (k1_hw82 : k1_chk82 v322), ∀ a x, ((![v322] : Fin 1 → IVec S16 32) a x).toNat < S5120.size a := fun v322 k1_hw82 => k1_hw82

def k1_chk83 (v325 : IVec S16 32) : Prop :=
  (∀ a x, ((![v325] : Fin 1 → IVec S16 32) a x).toNat < S5120.size a)
theorem k1_idx104_inb : ∀ (v325 : IVec S16 32) (k1_hw83 : k1_chk83 v325), ∀ a x, ((![v325] : Fin 1 → IVec S16 32) a x).toNat < S5120.size a := fun v325 k1_hw83 => k1_hw83

def k1_chk84 (v328 : IVec S16 32) : Prop :=
  (∀ a x, ((![v328] : Fin 1 → IVec S16 32) a x).toNat < S5120.size a)
theorem k1_idx105_inb : ∀ (v328 : IVec S16 32) (k1_hw84 : k1_chk84 v328), ∀ a x, ((![v328] : Fin 1 → IVec S16 32) a x).toNat < S5120.size a := fun v328 k1_hw84 => k1_hw84

def k1_chk85 (v331 : IVec S16 32) : Prop :=
  (∀ a x, ((![v331] : Fin 1 → IVec S16 32) a x).toNat < S5120.size a)
theorem k1_idx106_inb : ∀ (v331 : IVec S16 32) (k1_hw85 : k1_chk85 v331), ∀ a x, ((![v331] : Fin 1 → IVec S16 32) a x).toNat < S5120.size a := fun v331 k1_hw85 => k1_hw85

def k1_chk86 (v334 : IVec S16 32) : Prop :=
  (∀ a x, ((![v334] : Fin 1 → IVec S16 32) a x).toNat < S5120.size a)
theorem k1_idx107_inb : ∀ (v334 : IVec S16 32) (k1_hw86 : k1_chk86 v334), ∀ a x, ((![v334] : Fin 1 → IVec S16 32) a x).toNat < S5120.size a := fun v334 k1_hw86 => k1_hw86

def k1_chk87 (v337 : IVec S16 32) : Prop :=
  (∀ a x, ((![v337] : Fin 1 → IVec S16 32) a x).toNat < S5120.size a)
theorem k1_idx108_inb : ∀ (v337 : IVec S16 32) (k1_hw87 : k1_chk87 v337), ∀ a x, ((![v337] : Fin 1 → IVec S16 32) a x).toNat < S5120.size a := fun v337 k1_hw87 => k1_hw87

def k1_chk88 (v341 : IVec S16 32) : Prop :=
  (∀ a x, ((![v341] : Fin 1 → IVec S16 32) a x).toNat < S5120.size a) ∧
  (∀ a x, ((![v341] : Fin 1 → IVec S16 32) a x).toNat < S5120.size a)
theorem k1_idx109_inb : ∀ (v341 : IVec S16 32) (k1_hw88 : k1_chk88 v341), ∀ a x, ((![v341] : Fin 1 → IVec S16 32) a x).toNat < S5120.size a := fun v341 k1_hw88 => k1_hw88.1
theorem k1_idx110_inb : ∀ (v341 : IVec S16 32) (k1_hw88 : k1_chk88 v341), ∀ a x, ((![v341] : Fin 1 → IVec S16 32) a x).toNat < S5120.size a := fun v341 k1_hw88 => k1_hw88.2

def k1_chk89 (v349 : IVec S16 32) : Prop :=
  (∀ a x, ((![v349] : Fin 1 → IVec S16 32) a x).toNat < S5120.size a) ∧
  (∀ a x, ((![v349] : Fin 1 → IVec S16 32) a x).toNat < S5120.size a)
theorem k1_idx111_inb : ∀ (v349 : IVec S16 32) (k1_hw89 : k1_chk89 v349), ∀ a x, ((![v349] : Fin 1 → IVec S16 32) a x).toNat < S5120.size a := fun v349 k1_hw89 => k1_hw89.1
theorem k1_idx112_inb : ∀ (v349 : IVec S16 32) (k1_hw89 : k1_chk89 v349), ∀ a x, ((![v349] : Fin 1 → IVec S16 32) a x).toNat < S5120.size a := fun v349 k1_hw89 => k1_hw89.2

def k1_chk90 (v353 : IVec S16 32) : Prop :=
  (∀ a x, ((![v353] : Fin 1 → IVec S16 32) a x).toNat < S5120.size a)
theorem k1_idx113_inb : ∀ (v353 : IVec S16 32) (k1_hw90 : k1_chk90 v353), ∀ a x, ((![v353] : Fin 1 → IVec S16 32) a x).toNat < S5120.size a := fun v353 k1_hw90 => k1_hw90

def k1_chk91 (v356 : IVec S16 32) : Prop :=
  (∀ a x, ((![v356] : Fin 1 → IVec S16 32) a x).toNat < S5120.size a)
theorem k1_idx114_inb : ∀ (v356 : IVec S16 32) (k1_hw91 : k1_chk91 v356), ∀ a x, ((![v356] : Fin 1 → IVec S16 32) a x).toNat < S5120.size a := fun v356 k1_hw91 => k1_hw91

def k1_chk92 (v359 : IVec S16 32) : Prop :=
  (∀ a x, ((![v359] : Fin 1 → IVec S16 32) a x).toNat < S5120.size a)
theorem k1_idx115_inb : ∀ (v359 : IVec S16 32) (k1_hw92 : k1_chk92 v359), ∀ a x, ((![v359] : Fin 1 → IVec S16 32) a x).toNat < S5120.size a := fun v359 k1_hw92 => k1_hw92

def k1_chk93 (v362 : IVec S16 32) : Prop :=
  (∀ a x, ((![v362] : Fin 1 → IVec S16 32) a x).toNat < S5120.size a)
theorem k1_idx116_inb : ∀ (v362 : IVec S16 32) (k1_hw93 : k1_chk93 v362), ∀ a x, ((![v362] : Fin 1 → IVec S16 32) a x).toNat < S5120.size a := fun v362 k1_hw93 => k1_hw93

def k1_chk94 (v365 : IVec S16 32) : Prop :=
  (∀ a x, ((![v365] : Fin 1 → IVec S16 32) a x).toNat < S5120.size a)
theorem k1_idx117_inb : ∀ (v365 : IVec S16 32) (k1_hw94 : k1_chk94 v365), ∀ a x, ((![v365] : Fin 1 → IVec S16 32) a x).toNat < S5120.size a := fun v365 k1_hw94 => k1_hw94

def k1_chk95 (v368 : IVec S16 32) : Prop :=
  (∀ a x, ((![v368] : Fin 1 → IVec S16 32) a x).toNat < S5120.size a)
theorem k1_idx118_inb : ∀ (v368 : IVec S16 32) (k1_hw95 : k1_chk95 v368), ∀ a x, ((![v368] : Fin 1 → IVec S16 32) a x).toNat < S5120.size a := fun v368 k1_hw95 => k1_hw95

def k1_chk96 (v372 : IVec S16 32) : Prop :=
  (∀ a x, ((![v372] : Fin 1 → IVec S16 32) a x).toNat < S5120.size a) ∧
  (∀ a x, ((![v372] : Fin 1 → IVec S16 32) a x).toNat < S5120.size a)
theorem k1_idx119_inb : ∀ (v372 : IVec S16 32) (k1_hw96 : k1_chk96 v372), ∀ a x, ((![v372] : Fin 1 → IVec S16 32) a x).toNat < S5120.size a := fun v372 k1_hw96 => k1_hw96.1
theorem k1_idx120_inb : ∀ (v372 : IVec S16 32) (k1_hw96 : k1_chk96 v372), ∀ a x, ((![v372] : Fin 1 → IVec S16 32) a x).toNat < S5120.size a := fun v372 k1_hw96 => k1_hw96.2

def k1_chk97 (v380 : IVec S16 32) : Prop :=
  (∀ a x, ((![v380] : Fin 1 → IVec S16 32) a x).toNat < S5120.size a) ∧
  (∀ a x, ((![v380] : Fin 1 → IVec S16 32) a x).toNat < S5120.size a)
theorem k1_idx121_inb : ∀ (v380 : IVec S16 32) (k1_hw97 : k1_chk97 v380), ∀ a x, ((![v380] : Fin 1 → IVec S16 32) a x).toNat < S5120.size a := fun v380 k1_hw97 => k1_hw97.1
theorem k1_idx122_inb : ∀ (v380 : IVec S16 32) (k1_hw97 : k1_chk97 v380), ∀ a x, ((![v380] : Fin 1 → IVec S16 32) a x).toNat < S5120.size a := fun v380 k1_hw97 => k1_hw97.2

def k1_chk98 (v384 : IVec S16 32) : Prop :=
  (∀ a x, ((![v384] : Fin 1 → IVec S16 32) a x).toNat < S5120.size a)
theorem k1_idx123_inb : ∀ (v384 : IVec S16 32) (k1_hw98 : k1_chk98 v384), ∀ a x, ((![v384] : Fin 1 → IVec S16 32) a x).toNat < S5120.size a := fun v384 k1_hw98 => k1_hw98

def k1_chk99 (v387 : IVec S16 32) : Prop :=
  (∀ a x, ((![v387] : Fin 1 → IVec S16 32) a x).toNat < S5120.size a)
theorem k1_idx124_inb : ∀ (v387 : IVec S16 32) (k1_hw99 : k1_chk99 v387), ∀ a x, ((![v387] : Fin 1 → IVec S16 32) a x).toNat < S5120.size a := fun v387 k1_hw99 => k1_hw99

def k1_chk100 (v390 : IVec S16 32) : Prop :=
  (∀ a x, ((![v390] : Fin 1 → IVec S16 32) a x).toNat < S5120.size a)
theorem k1_idx125_inb : ∀ (v390 : IVec S16 32) (k1_hw100 : k1_chk100 v390), ∀ a x, ((![v390] : Fin 1 → IVec S16 32) a x).toNat < S5120.size a := fun v390 k1_hw100 => k1_hw100

def k1_chk101 (v393 : IVec S16 32) : Prop :=
  (∀ a x, ((![v393] : Fin 1 → IVec S16 32) a x).toNat < S5120.size a)
theorem k1_idx126_inb : ∀ (v393 : IVec S16 32) (k1_hw101 : k1_chk101 v393), ∀ a x, ((![v393] : Fin 1 → IVec S16 32) a x).toNat < S5120.size a := fun v393 k1_hw101 => k1_hw101

def k1_chk102 (v396 : IVec S16 32) : Prop :=
  (∀ a x, ((![v396] : Fin 1 → IVec S16 32) a x).toNat < S5120.size a)
theorem k1_idx127_inb : ∀ (v396 : IVec S16 32) (k1_hw102 : k1_chk102 v396), ∀ a x, ((![v396] : Fin 1 → IVec S16 32) a x).toNat < S5120.size a := fun v396 k1_hw102 => k1_hw102

def k1_chk103 (v399 : IVec S16 32) : Prop :=
  (∀ a x, ((![v399] : Fin 1 → IVec S16 32) a x).toNat < S5120.size a)
theorem k1_idx128_inb : ∀ (v399 : IVec S16 32) (k1_hw103 : k1_chk103 v399), ∀ a x, ((![v399] : Fin 1 → IVec S16 32) a x).toNat < S5120.size a := fun v399 k1_hw103 => k1_hw103

def k1_chk104 (v403 : IVec S16 32) : Prop :=
  (∀ a x, ((![v403] : Fin 1 → IVec S16 32) a x).toNat < S5120.size a) ∧
  (∀ a x, ((![v403] : Fin 1 → IVec S16 32) a x).toNat < S5120.size a)
theorem k1_idx129_inb : ∀ (v403 : IVec S16 32) (k1_hw104 : k1_chk104 v403), ∀ a x, ((![v403] : Fin 1 → IVec S16 32) a x).toNat < S5120.size a := fun v403 k1_hw104 => k1_hw104.1
theorem k1_idx130_inb : ∀ (v403 : IVec S16 32) (k1_hw104 : k1_chk104 v403), ∀ a x, ((![v403] : Fin 1 → IVec S16 32) a x).toNat < S5120.size a := fun v403 k1_hw104 => k1_hw104.2

def k1_chk105 (v411 : IVec S16 32) : Prop :=
  (∀ a x, ((![v411] : Fin 1 → IVec S16 32) a x).toNat < S5120.size a) ∧
  (∀ a x, ((![v411] : Fin 1 → IVec S16 32) a x).toNat < S5120.size a)
theorem k1_idx131_inb : ∀ (v411 : IVec S16 32) (k1_hw105 : k1_chk105 v411), ∀ a x, ((![v411] : Fin 1 → IVec S16 32) a x).toNat < S5120.size a := fun v411 k1_hw105 => k1_hw105.1
theorem k1_idx132_inb : ∀ (v411 : IVec S16 32) (k1_hw105 : k1_chk105 v411), ∀ a x, ((![v411] : Fin 1 → IVec S16 32) a x).toNat < S5120.size a := fun v411 k1_hw105 => k1_hw105.2

def k1_chk106 (v415 : IVec S16 32) : Prop :=
  (∀ a x, ((![v415] : Fin 1 → IVec S16 32) a x).toNat < S5120.size a)
theorem k1_idx133_inb : ∀ (v415 : IVec S16 32) (k1_hw106 : k1_chk106 v415), ∀ a x, ((![v415] : Fin 1 → IVec S16 32) a x).toNat < S5120.size a := fun v415 k1_hw106 => k1_hw106

def k1_chk107 (v418 : IVec S16 32) : Prop :=
  (∀ a x, ((![v418] : Fin 1 → IVec S16 32) a x).toNat < S5120.size a)
theorem k1_idx134_inb : ∀ (v418 : IVec S16 32) (k1_hw107 : k1_chk107 v418), ∀ a x, ((![v418] : Fin 1 → IVec S16 32) a x).toNat < S5120.size a := fun v418 k1_hw107 => k1_hw107

def k1_chk108 (v421 : IVec S16 32) : Prop :=
  (∀ a x, ((![v421] : Fin 1 → IVec S16 32) a x).toNat < S5120.size a)
theorem k1_idx135_inb : ∀ (v421 : IVec S16 32) (k1_hw108 : k1_chk108 v421), ∀ a x, ((![v421] : Fin 1 → IVec S16 32) a x).toNat < S5120.size a := fun v421 k1_hw108 => k1_hw108

def k1_chk109 (v424 : IVec S16 32) : Prop :=
  (∀ a x, ((![v424] : Fin 1 → IVec S16 32) a x).toNat < S5120.size a)
theorem k1_idx136_inb : ∀ (v424 : IVec S16 32) (k1_hw109 : k1_chk109 v424), ∀ a x, ((![v424] : Fin 1 → IVec S16 32) a x).toNat < S5120.size a := fun v424 k1_hw109 => k1_hw109

def k1_chk110 (v427 : IVec S16 32) : Prop :=
  (∀ a x, ((![v427] : Fin 1 → IVec S16 32) a x).toNat < S5120.size a)
theorem k1_idx137_inb : ∀ (v427 : IVec S16 32) (k1_hw110 : k1_chk110 v427), ∀ a x, ((![v427] : Fin 1 → IVec S16 32) a x).toNat < S5120.size a := fun v427 k1_hw110 => k1_hw110

def k1_chk111 (v430 : IVec S16 32) : Prop :=
  (∀ a x, ((![v430] : Fin 1 → IVec S16 32) a x).toNat < S5120.size a)
theorem k1_idx138_inb : ∀ (v430 : IVec S16 32) (k1_hw111 : k1_chk111 v430), ∀ a x, ((![v430] : Fin 1 → IVec S16 32) a x).toNat < S5120.size a := fun v430 k1_hw111 => k1_hw111

def k1_chk112 (v434 : IVec S16 32) : Prop :=
  (∀ a x, ((![v434] : Fin 1 → IVec S16 32) a x).toNat < S5120.size a) ∧
  (∀ a x, ((![v434] : Fin 1 → IVec S16 32) a x).toNat < S5120.size a)
theorem k1_idx139_inb : ∀ (v434 : IVec S16 32) (k1_hw112 : k1_chk112 v434), ∀ a x, ((![v434] : Fin 1 → IVec S16 32) a x).toNat < S5120.size a := fun v434 k1_hw112 => k1_hw112.1
theorem k1_idx140_inb : ∀ (v434 : IVec S16 32) (k1_hw112 : k1_chk112 v434), ∀ a x, ((![v434] : Fin 1 → IVec S16 32) a x).toNat < S5120.size a := fun v434 k1_hw112 => k1_hw112.2

def k1_chk113 (v442 : IVec S16 32) : Prop :=
  (∀ a x, ((![v442] : Fin 1 → IVec S16 32) a x).toNat < S5120.size a) ∧
  (∀ a x, ((![v442] : Fin 1 → IVec S16 32) a x).toNat < S5120.size a)
theorem k1_idx141_inb : ∀ (v442 : IVec S16 32) (k1_hw113 : k1_chk113 v442), ∀ a x, ((![v442] : Fin 1 → IVec S16 32) a x).toNat < S5120.size a := fun v442 k1_hw113 => k1_hw113.1
theorem k1_idx142_inb : ∀ (v442 : IVec S16 32) (k1_hw113 : k1_chk113 v442), ∀ a x, ((![v442] : Fin 1 → IVec S16 32) a x).toNat < S5120.size a := fun v442 k1_hw113 => k1_hw113.2

def k1_chk114 (v446 : IVec S16 32) : Prop :=
  (∀ a x, ((![v446] : Fin 1 → IVec S16 32) a x).toNat < S5120.size a)
theorem k1_idx143_inb : ∀ (v446 : IVec S16 32) (k1_hw114 : k1_chk114 v446), ∀ a x, ((![v446] : Fin 1 → IVec S16 32) a x).toNat < S5120.size a := fun v446 k1_hw114 => k1_hw114

def k1_chk115 (v449 : IVec S16 32) : Prop :=
  (∀ a x, ((![v449] : Fin 1 → IVec S16 32) a x).toNat < S5120.size a)
theorem k1_idx144_inb : ∀ (v449 : IVec S16 32) (k1_hw115 : k1_chk115 v449), ∀ a x, ((![v449] : Fin 1 → IVec S16 32) a x).toNat < S5120.size a := fun v449 k1_hw115 => k1_hw115

def k1_chk116 (v452 : IVec S16 32) : Prop :=
  (∀ a x, ((![v452] : Fin 1 → IVec S16 32) a x).toNat < S5120.size a)
theorem k1_idx145_inb : ∀ (v452 : IVec S16 32) (k1_hw116 : k1_chk116 v452), ∀ a x, ((![v452] : Fin 1 → IVec S16 32) a x).toNat < S5120.size a := fun v452 k1_hw116 => k1_hw116

def k1_chk117 (v455 : IVec S16 32) : Prop :=
  (∀ a x, ((![v455] : Fin 1 → IVec S16 32) a x).toNat < S5120.size a)
theorem k1_idx146_inb : ∀ (v455 : IVec S16 32) (k1_hw117 : k1_chk117 v455), ∀ a x, ((![v455] : Fin 1 → IVec S16 32) a x).toNat < S5120.size a := fun v455 k1_hw117 => k1_hw117

def k1_chk118 (v458 : IVec S16 32) : Prop :=
  (∀ a x, ((![v458] : Fin 1 → IVec S16 32) a x).toNat < S5120.size a)
theorem k1_idx147_inb : ∀ (v458 : IVec S16 32) (k1_hw118 : k1_chk118 v458), ∀ a x, ((![v458] : Fin 1 → IVec S16 32) a x).toNat < S5120.size a := fun v458 k1_hw118 => k1_hw118

def k1_chk119 (v461 : IVec S16 32) : Prop :=
  (∀ a x, ((![v461] : Fin 1 → IVec S16 32) a x).toNat < S5120.size a)
theorem k1_idx148_inb : ∀ (v461 : IVec S16 32) (k1_hw119 : k1_chk119 v461), ∀ a x, ((![v461] : Fin 1 → IVec S16 32) a x).toNat < S5120.size a := fun v461 k1_hw119 => k1_hw119

def k1_chk120 (v465 : IVec S16 32) : Prop :=
  (∀ a x, ((![v465] : Fin 1 → IVec S16 32) a x).toNat < S5120.size a) ∧
  (∀ a x, ((![v465] : Fin 1 → IVec S16 32) a x).toNat < S5120.size a)
theorem k1_idx149_inb : ∀ (v465 : IVec S16 32) (k1_hw120 : k1_chk120 v465), ∀ a x, ((![v465] : Fin 1 → IVec S16 32) a x).toNat < S5120.size a := fun v465 k1_hw120 => k1_hw120.1
theorem k1_idx150_inb : ∀ (v465 : IVec S16 32) (k1_hw120 : k1_chk120 v465), ∀ a x, ((![v465] : Fin 1 → IVec S16 32) a x).toNat < S5120.size a := fun v465 k1_hw120 => k1_hw120.2

def k1_chk121 (v473 : IVec S16 32) : Prop :=
  (∀ a x, ((![v473] : Fin 1 → IVec S16 32) a x).toNat < S5120.size a) ∧
  (∀ a x, ((![v473] : Fin 1 → IVec S16 32) a x).toNat < S5120.size a)
theorem k1_idx151_inb : ∀ (v473 : IVec S16 32) (k1_hw121 : k1_chk121 v473), ∀ a x, ((![v473] : Fin 1 → IVec S16 32) a x).toNat < S5120.size a := fun v473 k1_hw121 => k1_hw121.1
theorem k1_idx152_inb : ∀ (v473 : IVec S16 32) (k1_hw121 : k1_chk121 v473), ∀ a x, ((![v473] : Fin 1 → IVec S16 32) a x).toNat < S5120.size a := fun v473 k1_hw121 => k1_hw121.2

def k1_chk122 (v477 : IVec S16 32) : Prop :=
  (∀ a x, ((![v477] : Fin 1 → IVec S16 32) a x).toNat < S5120.size a)
theorem k1_idx153_inb : ∀ (v477 : IVec S16 32) (k1_hw122 : k1_chk122 v477), ∀ a x, ((![v477] : Fin 1 → IVec S16 32) a x).toNat < S5120.size a := fun v477 k1_hw122 => k1_hw122

def k1_chk123 (v480 : IVec S16 32) : Prop :=
  (∀ a x, ((![v480] : Fin 1 → IVec S16 32) a x).toNat < S5120.size a)
theorem k1_idx154_inb : ∀ (v480 : IVec S16 32) (k1_hw123 : k1_chk123 v480), ∀ a x, ((![v480] : Fin 1 → IVec S16 32) a x).toNat < S5120.size a := fun v480 k1_hw123 => k1_hw123

def k1_chk124 (v483 : IVec S16 32) : Prop :=
  (∀ a x, ((![v483] : Fin 1 → IVec S16 32) a x).toNat < S5120.size a)
theorem k1_idx155_inb : ∀ (v483 : IVec S16 32) (k1_hw124 : k1_chk124 v483), ∀ a x, ((![v483] : Fin 1 → IVec S16 32) a x).toNat < S5120.size a := fun v483 k1_hw124 => k1_hw124

def k1_chk125 (v486 : IVec S16 32) : Prop :=
  (∀ a x, ((![v486] : Fin 1 → IVec S16 32) a x).toNat < S5120.size a)
theorem k1_idx156_inb : ∀ (v486 : IVec S16 32) (k1_hw125 : k1_chk125 v486), ∀ a x, ((![v486] : Fin 1 → IVec S16 32) a x).toNat < S5120.size a := fun v486 k1_hw125 => k1_hw125

def k1_chk126 (v489 : IVec S16 32) : Prop :=
  (∀ a x, ((![v489] : Fin 1 → IVec S16 32) a x).toNat < S5120.size a)
theorem k1_idx157_inb : ∀ (v489 : IVec S16 32) (k1_hw126 : k1_chk126 v489), ∀ a x, ((![v489] : Fin 1 → IVec S16 32) a x).toNat < S5120.size a := fun v489 k1_hw126 => k1_hw126

def k1_chk127 (v492 : IVec S16 32) : Prop :=
  (∀ a x, ((![v492] : Fin 1 → IVec S16 32) a x).toNat < S5120.size a)
theorem k1_idx158_inb : ∀ (v492 : IVec S16 32) (k1_hw127 : k1_chk127 v492), ∀ a x, ((![v492] : Fin 1 → IVec S16 32) a x).toNat < S5120.size a := fun v492 k1_hw127 => k1_hw127

def k1_chk128 (v496 : IVec S16 32) : Prop :=
  (∀ a x, ((![v496] : Fin 1 → IVec S16 32) a x).toNat < S5120.size a) ∧
  (∀ a x, ((![v496] : Fin 1 → IVec S16 32) a x).toNat < S5120.size a)
theorem k1_idx159_inb : ∀ (v496 : IVec S16 32) (k1_hw128 : k1_chk128 v496), ∀ a x, ((![v496] : Fin 1 → IVec S16 32) a x).toNat < S5120.size a := fun v496 k1_hw128 => k1_hw128.1
theorem k1_idx160_inb : ∀ (v496 : IVec S16 32) (k1_hw128 : k1_chk128 v496), ∀ a x, ((![v496] : Fin 1 → IVec S16 32) a x).toNat < S5120.size a := fun v496 k1_hw128 => k1_hw128.2
def k1_off2 (i : grid1.Coords) : Fin 2 → Nat :=
  let arg1 : BitVec 32 := BitVec.ofNat 32 (i 1).val
  let c0_i32_r4 : BitVec 32 := 0#32
  ![arg1.toNat, 0]
abbrev grid2 : Pipeline.Grid := .none

abbrev stage2_0 : Fin 1 → Memref sig .tc .vmem S1x4096 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x320 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S64x6 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x4096 : Shape := ⟨2, ![1, 4096]⟩
abbrev S1x4096x4096 : Shape := ⟨3, ![1, 4096, 4096]⟩
abbrev S5 : Shape := ⟨1, ![5]⟩
abbrev S4096 : Shape := ⟨1, ![4096]⟩
abbrev S4096x4096 : Shape := ⟨2, ![4096, 4096]⟩
abbrev S_ : Shape := ⟨0, ![]⟩
abbrev S64 : Shape := ⟨1, ![64]⟩
abbrev S4096x1 : Shape := ⟨2, ![4096, 1]⟩
abbrev S64x1 : Shape := ⟨2, ![64, 1]⟩
abbrev S64x4096 : Shape := ⟨2, ![64, 4096]⟩
abbrev S1x64 : Shape := ⟨2, ![1, 64]⟩
abbrev S4096x64 : Shape := ⟨2, ![4096, 64]⟩
abbrev S1 : Shape := ⟨1, ![1]⟩
abbrev S64x6 : Shape := ⟨2, ![64, 6]⟩

abbrev nBuf : Space → Nat
  | .hbm => 165
  | .vmem => 0
  | .smem => 0
  | _ => 0

abbrev hbmTy0_0 (i : Nat) : BufTy := match i % 128 with
  | 0 => ⟨S1x4096, .i32⟩
  | 1 => ⟨S1x4096, .f32⟩
  | 2 => ⟨S1x4096, .f32⟩
  | 3 => ⟨S1x4096x4096, .f32⟩
  | 4 => ⟨S1x4096x4096, .f32⟩
  | 5 => ⟨S5, .f32⟩
  | 6 => ⟨S4096, .i32⟩
  | 7 => ⟨S4096, .f32⟩
  | 8 => ⟨S4096, .f32⟩
  | 9 => ⟨S4096x4096, .f32⟩
  | 10 => ⟨S4096x4096, .f32⟩
  | 11 => ⟨S_, .f32⟩
  | 12 => ⟨S4096, .f32⟩
  | 13 => ⟨S_, .f32⟩
  | 14 => ⟨S64, .f32⟩
  | 15 => ⟨S4096x1, .i32⟩
  | 16 => ⟨S64, .f32⟩
  | 17 => ⟨S_, .f32⟩
  | 18 => ⟨S64, .f32⟩
  | 19 => ⟨S4096x1, .i32⟩
  | 20 => ⟨S64, .f32⟩
  | 21 => ⟨S_, .f32⟩
  | 22 => ⟨S64, .f32⟩
  | 23 => ⟨S4096x1, .i32⟩
  | 24 => ⟨S64, .f32⟩
  | 25 => ⟨S64, .f32⟩
  | 26 => ⟨S_, .f32⟩
  | 27 => ⟨S64, .f32⟩
  | 28 => ⟨S64, .f32⟩
  | 29 => ⟨S64, .f32⟩
  | 30 => ⟨S1x4096, .i32⟩
  | 31 => ⟨S64, .i32⟩
  | 32 => ⟨S64x1, .i32⟩
  | 33 => ⟨S64x4096, .i32⟩
  | 34 => ⟨S64x4096, .i32⟩
  | 35 => ⟨S64x4096, .i1⟩
  | 36 => ⟨S1x4096, .f32⟩
  | 37 => ⟨S_, .f32⟩
  | 38 => ⟨S_, .f32⟩
  | 39 => ⟨S64x4096, .f32⟩
  | 40 => ⟨S64x4096, .f32⟩
  | 41 => ⟨S64x4096, .f32⟩
  | 42 => ⟨S_, .f32⟩
  | 43 => ⟨S64, .f32⟩
  | 44 => ⟨S4096x4096, .f32⟩
  | 45 => ⟨S_, .f32⟩
  | 46 => ⟨S4096, .f32⟩
  | 47 => ⟨S4096, .f32⟩
  | 48 => ⟨S1x4096, .i32⟩
  | 49 => ⟨S64, .i32⟩
  | 50 => ⟨S64x1, .i32⟩
  | 51 => ⟨S64x4096, .i32⟩
  | 52 => ⟨S64x4096, .i32⟩
  | 53 => ⟨S64x4096, .i1⟩
  | 54 => ⟨S1x4096, .f32⟩
  | 55 => ⟨S_, .f32⟩
  | 56 => ⟨S_, .f32⟩
  | 57 => ⟨S64x4096, .f32⟩
  | 58 => ⟨S64x4096, .f32⟩
  | 59 => ⟨S64x4096, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S64, .f32⟩
  | 67 => ⟨S4096, .f32⟩
  | 68 => ⟨S_, .f32⟩
  | 69 => ⟨S64, .f32⟩
  | 70 => ⟨S4096x1, .i32⟩
  | 71 => ⟨S64, .f32⟩
  | 72 => ⟨S_, .f32⟩
  | 73 => ⟨S64, .f32⟩
  | 74 => ⟨S64, .f32⟩
  | 75 => ⟨S64, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S64, .f32⟩
  | 86 => ⟨S_, .f32⟩
  | 87 => ⟨S64, .f32⟩
  | 88 => ⟨S64, .f32⟩
  | 89 => ⟨S64, .f32⟩
  | 90 => ⟨S_, .f32⟩
  | 91 => ⟨S64, .f32⟩
  | 92 => ⟨S64, .f32⟩
  | 93 => ⟨S64, .f32⟩
  | 94 => ⟨S4096x1, .i32⟩
  | 95 => ⟨S1x64, .i32⟩
  | 96 => ⟨S4096x64, .i32⟩
  | 97 => ⟨S4096x64, .i32⟩
  | 98 => ⟨S4096x64, .i1⟩
  | 99 => ⟨S4096x64, .f32⟩
  | 100 => ⟨S64x4096, .f32⟩
  | 101 => ⟨S64x4096, .f32⟩
  | 102 => ⟨S64x4096, .f32⟩
  | 103 => ⟨S64x4096, .f32⟩
  | 104 => ⟨S_, .f32⟩
  | 105 => ⟨S64, .f32⟩
  | 106 => ⟨S64x4096, .f32⟩
  | 107 => ⟨S4096x4096, .f32⟩
  | 108 => ⟨S64x4096, .f32⟩
  | 109 => ⟨S64x4096, .f32⟩
  | 110 => ⟨S64x4096, .f32⟩
  | 111 => ⟨S_, .f32⟩
  | 112 => ⟨S64, .f32⟩
  | 113 => ⟨S_, .f32⟩
  | 114 => ⟨S64, .f32⟩
  | 115 => ⟨S64, .i1⟩
  | 116 => ⟨S_, .f32⟩
  | 117 => ⟨S_, .f32⟩
  | 118 => ⟨S64, .f32⟩
  | 119 => ⟨S64, .f32⟩
  | 120 => ⟨S_, .f32⟩
  | 121 => ⟨S64, .f32⟩
  | 122 => ⟨S64, .i1⟩
  | 123 => ⟨S64, .f32⟩
  | 124 => ⟨S_, .f32⟩
  | 125 => ⟨S_, .f32⟩
  | 126 => ⟨S64, .f32⟩
  | 127 => ⟨S64, .f32⟩
  | _ => ⟨S1x4096, .i32⟩

abbrev hbmTy0_1 (i : Nat) : BufTy := match i % 128 with
  | 0 => ⟨S_, .f32⟩
  | 1 => ⟨S64, .f32⟩
  | 2 => ⟨S64, .f32⟩
  | 3 => ⟨S1, .f32⟩
  | 4 => ⟨S_, .f32⟩
  | 5 => ⟨S64, .f32⟩
  | 6 => ⟨S64, .f32⟩
  | 7 => ⟨S1, .f32⟩
  | 8 => ⟨S_, .f32⟩
  | 9 => ⟨S64, .f32⟩
  | 10 => ⟨S64, .f32⟩
  | 11 => ⟨S64, .f32⟩
  | 12 => ⟨S1, .f32⟩
  | 13 => ⟨S_, .f32⟩
  | 14 => ⟨S64, .f32⟩
  | 15 => ⟨S64, .f32⟩
  | 16 => ⟨S64, .f32⟩
  | 17 => ⟨S1, .f32⟩
  | 18 => ⟨S_, .f32⟩
  | 19 => ⟨S64, .f32⟩
  | 20 => ⟨S64, .f32⟩
  | 21 => ⟨S64, .f32⟩
  | 22 => ⟨S1, .f32⟩
  | 23 => ⟨S_, .f32⟩
  | 24 => ⟨S_, .f32⟩
  | 25 => ⟨S64, .f32⟩
  | 26 => ⟨S64, .f32⟩
  | 27 => ⟨S64, .f32⟩
  | 28 => ⟨S64, .f32⟩
  | 29 => ⟨S64, .f32⟩
  | 30 => ⟨S64x1, .f32⟩
  | 31 => ⟨S64x1, .f32⟩
  | 32 => ⟨S64x1, .f32⟩
  | 33 => ⟨S64x1, .f32⟩
  | 34 => ⟨S64x1, .f32⟩
  | 35 => ⟨S64x1, .f32⟩
  | 36 => ⟨S64x6, .f32⟩
  | _ => ⟨S1x4096, .i32⟩

abbrev hbmTy (i : Nat) : BufTy := match i / 128 with
  | 0 => hbmTy0_0 i
  | 1 => hbmTy0_1 i
  | _ => ⟨S1x4096, .i32⟩

abbrev bufTy : (tb : Table) → Fin (tcTables nBuf tb) → BufTy
  | .hbm, ⟨i, _⟩ => hbmTy i
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_call3_v0 : Ref sig .tc := ⟨.hbm, 117, rfl⟩
abbrev main_call3_v1 : Ref sig .tc := ⟨.hbm, 118, rfl⟩
abbrev main_v79 : Ref sig .tc := ⟨.hbm, 119, rfl⟩
abbrev main_cst_20 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_21 : Ref sig .tc := ⟨.hbm, 124, rfl⟩
abbrev main_call4_v0 : Ref sig .tc := ⟨.hbm, 125, rfl⟩
abbrev main_call4_v1 : Ref sig .tc := ⟨.hbm, 126, rfl⟩
abbrev main_v83 : Ref sig .tc := ⟨.hbm, 127, rfl⟩
abbrev main_cst_22 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩

abbrev nD : Nat := 1
abbrev τ : Topo := Topo.v7x

variable {F : FTy → Type} [FloatOps F]
-- ==== Proof.Setup.lean ====
/-
  The program as the launch theorem of SparseCore kernels sees it: its call table, the resource algebra (the launch
  handshakes' rounds, the TensorCore pipelines' rounds, the counters of the tiles' own transfers), and the buffers by name.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.RegionArraysS
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The kernels' labels with the two TensorCore pipelines'. -/
abbrev ΛP : Labels := Pipeline.Sig Λ₀ (Fin 2) fun p => (pcfgs (F := F) p).Adm
/-- The table of the one SparseCore call. -/
abbrev K : SparseCore.Cfg τ sig (ΛP (F := F)) 1 := sc (F := F)
/-- The body table under the SparseCore launch: the kernels' and the pipelines'. -/
abbrev D [FloatOps F] : Defs nD τ sig (Elt F) (ΛP (F := F)) := Pipeline.defs pcfgs defs₀
/-- No variants in the regions. -/
abbrev 𝒱₀ : Variants := Variants.none
/-- The variants, lifted to the launch. -/
abbrev 𝒱 : Variants := 𝒱₀.lift
/-- The launch's only variant. -/
abbrev v₀ : 𝒱.V := Sum.inl none

/-- The call uses sixteen tiles. -/
theorem nSub_zero : (K (F := F)).nSub 0 = 16 := rfl

/-- The side conditions of the launch: its four semaphores told apart and unscoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- Beside them the pipelines' rounds and the counters of the tiles' transfers. -/
abbrev UU : Type := UH × (UR sig nD τ × Counters)

local notation "𝕄" => MT nD τ sig (HIx 1) (Elt F) ℕ UU ℕ

/-- The launch's part of the ghost state. -/
abbrev EH : Emb UH (MT nD τ sig (HIx 1) (Elt F) ℕ UU ℕ) := embL
/-- The pipelines' rounds: the left factor of the right factor. -/
def EP : Emb (UR sig nD τ) (MT nD τ sig (HIx 1) (Elt F) ℕ UU ℕ) :=
  (Emb.inl : Emb (UR sig nD τ) (UR sig nD τ × Counters)).trans
    ((Emb.inr : Emb (UR sig nD τ × Counters) UU).trans
      (uEmb (nD := nD) (sig := sig) (Ix := HIx 1) (Val := Elt F) (Name := ℕ) (U := UU) (Lvl := ℕ)).toEmb)

instance EP_landsIn : (EP : Emb (UR sig nD τ) 𝕄).LandsIn (upEmb : UEmb _ 𝕄) := by unfold EP; infer_instance

end Cert.Proof.Seg

end
-- ==== Proof.Access.lean ====
/-
  A load and a store of the whole of a memref, over `owns`: through the rectangle of the memref's own sizes at
  offset zero a load reads what the memref holds, and a store leaves what was stored.
-/
module

public import proofs.«01_k».proof.Proof.Setup

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A unit-stride rectangle of all of a shape's sizes at offset zero sends every index to itself. -/
theorem full_emb {s : Shape} {off : Fin s.rank → ℕ} (h : off = fun _ => 0) (inb : ∀ a, off a + s.size a ≤ s.size a) (x : s.Idx) :
    (Rect.unit (s := s) off s.size inb).emb x = x := by
  subst h
  funext a; apply Fin.ext; rw [Rect.emb_apply]
  show 0 + 1 * (x a).val = (x a).val; omega

/-- Reading through such a rectangle reads the memref. -/
theorem full_read (c : Thread nD τ) {sp : Space} {s : Shape} {e : EltTy} (m : Memref sig c.2.kind sp s e)
    {off : Fin s.rank → ℕ} (h : off = fun _ => 0) (inb : ∀ a, off a + s.size a ≤ s.size a)
    (f : Buf (Elt F) (m.view.loc c)) :
    (m.access (Rect.unit (s := s) off s.size inb)).read (Elt F) f = m.view.read (Elt F) f := by
  funext x
  show _root_.cast _ (f (m.view.emb ((Rect.unit (s := s) off s.size inb).emb x))) = _root_.cast _ (f (m.view.emb x))
  rw [full_emb h]

/-- What the memref reads after a write of all of it through such a rectangle. -/
theorem full_read_write (c : Thread nD τ) {sp : Space} {s : Shape} {e : EltTy} (m : Memref sig c.2.kind sp s e)
    {off : Fin s.rank → ℕ} (h : off = fun _ => 0) (inb : ∀ a, off a + s.size a ≤ s.size a)
    (f : Buf (Elt F) (m.view.loc c)) (w : s.Idx → Elt F e) :
    m.view.read (Elt F) ((m.access (Rect.unit (s := s) off s.size inb)).write (Elt F) f w Finset.univ) = w :=
  (full_read c m h inb _).symm.trans (View.read_write_univ _ _)

/-- Loading all of a memref that is held at `X` continues at `X`. -/
theorem own_load (c : Thread nD τ) {Λ : Labels} {defs : Defs nD τ sig (Elt F) Λ} {𝒱 : Variants} {bd : Option 𝒱.V} {E : Set ℕ} {α : Type}
    {Q : α → sProp 𝕄} {cs : CoreSpace} {s : Shape} {e : EltTy} {m : Memref sig c.2.kind cs s e}
    {off : Fin s.rank → ℕ} {inb : ∀ a, off a + s.size a ≤ s.size a}
    {hl : m.view.LoadsAt (Rect.unit (s := s) off s.size inb).toLoadRect} {q : PosShare TreeShare} {X : s.Idx → Elt F e}
    {k : (s.Idx → Elt F e) → Prog (TpuEff nD τ sig (Elt F) Λ c.2) α} (h : off = fun _ => 0) :
    owns c m q X ⊢ iprop((owns c m q X -∗ wp frame (wpE defs 𝒱 c bd) E (k X) Q)
      -∗ wp frame (wpE defs 𝒱 c bd) E (.op (.load m (Rect.unit (s := s) off s.size inb).toLoadRect hl) k) Q) := by
  unfold owns
  iintro ⟨%f, %hf, H⟩ Hk
  iapply (wp_load_rect 𝒱 c bd E (m := m) (r := Rect.unit (s := s) off s.size inb) (View.set_slice_subset _ _)) $$ H
  iintro H
  rw [full_read c m h inb f, hf]
  iapply Hk
  iexists f; isplitr; · ipureintro; exact hf
  iexact H

/-- Storing `w` over all of a memref leaves it held at `w`. -/
theorem own_store (c : Thread nD τ) {Λ : Labels} {defs : Defs nD τ sig (Elt F) Λ} {𝒱 : Variants} {bd : Option 𝒱.V} {E : Set ℕ} {α : Type}
    {Q : α → sProp 𝕄} {cs : CoreSpace} {s : Shape} {e : EltTy} {m : Memref sig c.2.kind cs s e}
    {off : Fin s.rank → ℕ} {inb : ∀ a, off a + s.size a ≤ s.size a} {w X : s.Idx → Elt F e}
    {hx : (m.access (Rect.unit (s := s) off s.size inb)).Stores Finset.univ} {hm}
    {k : PUnit → Prog (TpuEff nD τ sig (Elt F) Λ c.2) α} (h : off = fun _ => 0) :
    owns c m fullShare X ⊢ iprop((owns c m fullShare w -∗ wp frame (wpE defs 𝒱 c bd) E (k ⟨⟩) Q)
      -∗ wp frame (wpE defs 𝒱 c bd) E (.op (.store m (Rect.unit (s := s) off s.size inb) w Finset.univ hx hm) k) Q) := by
  unfold owns
  iintro ⟨%f, %hf, H⟩ Hk
  iapply (wp_store 𝒱 c bd E (m := m) (r := Rect.unit (s := s) off s.size inb) (Mk := Finset.univ) (View.set_slice_subset _ _)) $$ H
  iintro H
  iapply Hk
  iexists _; isplitr
  swap; · iexact H
  ipureintro; exact full_read_write c m h inb f w

end Cert.Proof.Seg

end
-- ==== Proof.Bodies.lean ====
/-
  The bodies of the two TensorCore kernels, run on any whole memrefs: what each leaves in its result blocks and in
  its scratch block as a function of what its operands hold.
-/
module

public import proofs.«01_k».proof.Proof.Access
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The streaming kernel's running column sums after a step from `A` at grid point `i`: restarted at the first point. -/
def accStep (i : grid0.Coords) (v0 v2 : Vec F S1x512x4096 .f32) (A : Vec F S1x4096 .f32) : Vec F S1x4096 .f32 :=
  if (i 0).val = 0 then k0_pay5 v0 v2 else k0_pay6 v0 v2 A

/-- The body's test for the first point holds exactly at point 0. -/
theorem first_iff (a : Fin 8) : (Scalar.cmpi .ne (Scalar.extui (Scalar.cmpi .eq (BitVec.ofNat 32 a.val) 0#32) : BitVec 32) 0#32 = 1#1) ↔ a.val = 0 := by
  revert a; decide

/-- The body's test for a later point holds exactly at the points other than 0. -/
theorem later_iff (a : Fin 8) : (Scalar.cmpi .ne (Scalar.extui (Scalar.cmpi .ne (BitVec.ofNat 32 a.val) 0#32) : BitVec 32) 0#32 = 1#1) ↔ a.val ≠ 0 := by
  revert a; decide

/-- The body's test for the last point holds exactly at point 7. -/
theorem last_iff (i : grid0.Coords) : k0_cond3 i = 1#1 ↔ (i 0).val = 7 := by
  have key : ∀ a : Fin 8, (Scalar.cmpi .ne (Scalar.extui (Scalar.cmpi .eq (BitVec.ofNat 32 a.val) 7#32) : BitVec 32) 0#32 = 1#1) ↔ a.val = 7 := by decide
  exact key (i 0)

/-- The two-dimensional origin is the constant zero. -/
theorem z2 : (![0, 0] : Fin 2 → ℕ) = fun _ => 0 := by funext a; fin_cases a <;> rfl
/-- The three-dimensional origin is the constant zero. -/
theorem z3 : (![0, 0, 0] : Fin 3 → ℕ) = fun _ => 0 := by funext a; fin_cases a <;> rfl

/-- The streaming kernel's body at one grid point: the operands are left as they were, the column-sum scratch takes one
    step, the column-sum result takes the scratch at the last point only, and the two row results take the masked row sums. -/
theorem stream_run (c : Dev nD) (E : Set ℕ) (i : grid0.Coords)
    (arg1 : Memref sig .tc .vmem S1x512 .i32) (harg1 : arg1.IsWhole) (arg2 : Memref sig .tc .vmem S1x4096 .i32) (harg2 : arg2.IsWhole)
    (arg3 : Memref sig .tc .vmem S1x512x4096 .f32) (harg3 : arg3.IsWhole) (arg4 : Memref sig .tc .vmem S1x512x4096 .f32) (harg4 : arg4.IsWhole)
    (arg5 : Memref sig .tc .vmem S1x4096 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x4096 .f32) (harg8 : arg8.IsWhole)
    (x1 : Vec F S1x512 .i32) (x2 : Vec F S1x4096 .i32) (x3 x4 : Vec F S1x512x4096 .f32) (x5 : Vec F S1x4096 .f32)
    (x6 x7 : Vec F S1x512 .f32) (x8 : Vec F S1x4096 .f32) (Q : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (if (i 0).val = 7 then k0_pay1 (accStep i x3 x4 x8) else x5)
            ∗ owns (c : Thread nD τ) arg6 fullShare (k0_pay8 x3 x1 x2)
            ∗ owns (c : Thread nD τ) arg7 fullShare (k0_pay9 x3 x4 x1 x2)
            ∗ owns (c : Thread nD τ) arg8 fullShare (accStep i x3 x4 x8)) -∗ Q ⟨⟩))
      ⊢ wp frame (wpE (defs₀ (F := F)) 𝒱₀ c none) E
          (cc0__stream_body i arg1 harg1 arg2 harg2 arg3 harg3 arg4 harg4 arg5 harg5 arg6 harg6 arg7 harg7 arg8 harg8) Q := by
  rw [cc0__stream_body_eq_skeleton]
  unfold cc0__stream_body_skel
  rw [k0_part1_eq_skeleton]
  unfold k0_part1_skel accStep
  have h1 := first_iff (i 0)
  have h2 := later_iff (i 0)
  have h3 := last_iff i
  by_cases c1 : (i 0).val = 0
  · have c3 : ¬ (i 0).val = 7 := by omega
    simp only [dif_pos (h1.2 c1), dif_neg (fun e => h2.1 e c1), dif_neg (fun e => c3 (h3.1 e)), if_pos c1, if_neg c3]
    iintro ⟨H1, H2, H3, H4, H5, H6, H7, H8, Hk⟩
    iapply (own_load (c : Thread nD τ) z3) $$ H3; iintro H3
    iapply (own_load (c : Thread nD τ) z3) $$ H4; iintro H4
    iapply (own_load (c : Thread nD τ) z2) $$ H8; iintro H8
    iapply (own_store (c : Thread nD τ) z2) $$ H8; iintro H8
    iapply (own_load (c : Thread nD τ) z2) $$ H1; iintro H1
    iapply (own_load (c : Thread nD τ) z2) $$ H2; iintro H2
    iapply (own_load (c : Thread nD τ) z2) $$ H6; iintro H6
    iapply (own_store (c : Thread nD τ) z2) $$ H6; iintro H6
    iapply (own_load (c : Thread nD τ) z2) $$ H7; iintro H7
    iapply (own_store (c : Thread nD τ) z2) $$ H7; iintro H7
    iapply (show Q ⟨⟩ ⊢ wp frame _ E (.ret ⟨⟩) Q by rw [wp_ret]; exact BI.fupd_intro)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases c3 : (i 0).val = 7
  · simp only [dif_neg (fun e => c1 (h1.1 e)), dif_pos (h2.2 c1), dif_pos (h3.2 c3), if_neg c1, if_pos c3]
    iintro ⟨H1, H2, H3, H4, H5, H6, H7, H8, Hk⟩
    iapply (own_load (c : Thread nD τ) z3) $$ H3; iintro H3
    iapply (own_load (c : Thread nD τ) z3) $$ H4; iintro H4
    iapply (own_load (c : Thread nD τ) z2) $$ H8; iintro H8
    iapply (own_load (c : Thread nD τ) z2) $$ H8; iintro H8
    iapply (own_store (c : Thread nD τ) z2) $$ H8; iintro H8
    iapply (own_load (c : Thread nD τ) z2) $$ H1; iintro H1
    iapply (own_load (c : Thread nD τ) z2) $$ H2; iintro H2
    iapply (own_load (c : Thread nD τ) z2) $$ H6; iintro H6
    iapply (own_store (c : Thread nD τ) z2) $$ H6; iintro H6
    iapply (own_load (c : Thread nD τ) z2) $$ H7; iintro H7
    iapply (own_store (c : Thread nD τ) z2) $$ H7; iintro H7
    iapply (own_load (c : Thread nD τ) z2) $$ H8; iintro H8
    iapply (own_load (c : Thread nD τ) z2) $$ H5; iintro H5
    iapply (own_store (c : Thread nD τ) z2) $$ H5; iintro H5
    iapply (show Q ⟨⟩ ⊢ wp frame _ E (.ret ⟨⟩) Q by rw [wp_ret]; exact BI.fupd_intro)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [dif_neg (fun e => c1 (h1.1 e)), dif_pos (h2.2 c1), dif_neg (fun e => c3 (h3.1 e)), if_neg c1, if_neg c3]
    iintro ⟨H1, H2, H3, H4, H5, H6, H7, H8, Hk⟩
    iapply (own_load (c : Thread nD τ) z3) $$ H3; iintro H3
    iapply (own_load (c : Thread nD τ) z3) $$ H4; iintro H4
    iapply (own_load (c : Thread nD τ) z2) $$ H8; iintro H8
    iapply (own_load (c : Thread nD τ) z2) $$ H8; iintro H8
    iapply (own_store (c : Thread nD τ) z2) $$ H8; iintro H8
    iapply (own_load (c : Thread nD τ) z2) $$ H1; iintro H1
    iapply (own_load (c : Thread nD τ) z2) $$ H2; iintro H2
    iapply (own_load (c : Thread nD τ) z2) $$ H6; iintro H6
    iapply (own_store (c : Thread nD τ) z2) $$ H6; iintro H6
    iapply (own_load (c : Thread nD τ) z2) $$ H7; iintro H7
    iapply (own_store (c : Thread nD τ) z2) $$ H7; iintro H7
    iapply (show Q ⟨⟩ ⊢ wp frame _ E (.ret ⟨⟩) Q by rw [wp_ret]; exact BI.fupd_intro)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- What the combining kernel stores from its seven operands: the 64 × 6 table of metrics. -/
def combineOut (x0 : Vec F S1x4096 .i32) (x1 : Vec F S1x4096 .f32) (x2 : Vec F S1x5 .f32) (x3 x4 x5 : Vec F S1x4096 .f32)
    (x6 : Vec F S256x320 .f32) : Vec F S64x6 .f32 :=
  k2_pay1 (k2_pay14 (k2_pay5 x6) (k2_pay6 x6)) (k2_pay15 (k2_pay8 x6) (k2_pay11 x0 x1 x3))
    (k2_pay16 (k2_pay4 x6) (k2_pay6 x6) (k2_pay7 x6)) (k2_pay17 (k2_pay2 x5) (k2_pay9 x0) (k2_pay10 (F := F)) (k2_pay12 x0 x4))
    (k2_pay18 (k2_pay5 x6) (k2_pay6 x6)) (k2_pay19 x2) (k2_pay20 x2)

/-- The combining kernel's body: the operands are left as they were and the result holds the table of metrics. -/
theorem combine_run (c : Dev nD) (E : Set ℕ)
    (arg0 : Memref sig .tc .vmem S1x4096 .i32) (harg0 : arg0.IsWhole) (arg1 : Memref sig .tc .vmem S1x4096 .f32) (harg1 : arg1.IsWhole)
    (arg2 : Memref sig .tc .vmem S1x5 .f32) (harg2 : arg2.IsWhole) (arg3 : Memref sig .tc .vmem S1x4096 .f32) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S256x320 .f32) (harg6 : arg6.IsWhole) (arg7 : Memref sig .tc .vmem S64x6 .f32) (harg7 : arg7.IsWhole)
    (x0 : Vec F S1x4096 .i32) (x1 : Vec F S1x4096 .f32) (x2 : Vec F S1x5 .f32) (x3 x4 x5 : Vec F S1x4096 .f32)
    (x6 : Vec F S256x320 .f32) (x7 : Vec F S64x6 .f32) (Q : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6
            ∗ owns (c : Thread nD τ) arg7 fullShare (combineOut x0 x1 x2 x3 x4 x5 x6)) -∗ Q ⟨⟩))
      ⊢ wp frame (wpE (defs₀ (F := F)) 𝒱₀ c none) E
          (cc2__combine_body arg0 harg0 arg1 harg1 arg2 harg2 arg3 harg3 arg4 harg4 arg5 harg5 arg6 harg6 arg7 harg7) Q := by
  rw [cc2__combine_body_eq_skeleton]
  unfold cc2__combine_body_skel
  rw [k2_part1_eq_skeleton, k2_part2_eq_skeleton]
  unfold k2_part1_skel k2_part2_skel combineOut
  iintro ⟨H0, H1, H2, H3, H4, H5, H6, H7, Hk⟩
  iapply (own_load (c : Thread nD τ) z2) $$ H0; iintro H0
  iapply (own_load (c : Thread nD τ) z2) $$ H1; iintro H1
  iapply (own_load (c : Thread nD τ) z2) $$ H3; iintro H3
  iapply (own_load (c : Thread nD τ) z2) $$ H4; iintro H4
  iapply (own_load (c : Thread nD τ) z2) $$ H5; iintro H5
  iapply (own_load (c : Thread nD τ) z2) $$ H6; iintro H6
  iapply (own_load (c : Thread nD τ) z2) $$ H2; iintro H2
  iapply (own_load (c : Thread nD τ) z2) $$ H7; iintro H7
  iapply (own_store (c : Thread nD τ) z2) $$ H7; iintro H7
  iapply (show Q ⟨⟩ ⊢ wp frame _ E (.ret ⟨⟩) Q by rw [wp_ret]; exact BI.fupd_intro)
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.Seg

end
-- ==== Proof.Regions.lean ====
/-
  The two TensorCore regions: the contents their windows' staging blocks hold at every grid point, and the bodies
  meeting them there.
-/
module

public import proofs.«01_k».proof.Proof.Bodies
public import Idealize.ShloMosaic.Lib.Pipeline.FrameBody
public import Idealize.ShloMosaic.Lib.Pipeline.FrameSuffix
public import Idealize.ShloMosaic.Lib.Pipeline.RegionsLoop

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation)

/-! ### The data of the streaming kernel -/

section Stream

variable (V : Valuation τ sig (Elt F))

/-- The rows' clusters at a grid point: 512 of them. -/
def rowsAt (t : Fin cfg0.N) : Vec F S1x512 .i32 := ((cfg0.win 0).blk t).view.read (Elt F) (V main_arg0)
/-- All the clusters, as the streaming kernel's second operand holds them. -/
def segAt (t : Fin cfg0.N) : Vec F S1x4096 .i32 := ((cfg0.win 1).blk t).view.read (Elt F) (V main_arg0)
/-- The sharing rows of a grid point. -/
def shareAt (t : Fin cfg0.N) : Vec F S1x512x4096 .f32 := ((cfg0.win 2).blk t).view.read (Elt F) (V main_arg3)
/-- The efficiency rows of a grid point. -/
def effAt (t : Fin cfg0.N) : Vec F S1x512x4096 .f32 := ((cfg0.win 3).blk t).view.read (Elt F) (V main_arg4)

/-- The column sums of the rows up to and with grid point `n`. -/
def accS : ℕ → Vec F S1x4096 .f32
  | 0 => k0_pay5 (shareAt V t0_0) (effAt V t0_0)
  | n + 1 => if h : n + 1 < cfg0.N then k0_pay6 (shareAt V ⟨n + 1, h⟩) (effAt V ⟨n + 1, h⟩) (accS n) else accS n

/-- A point's coordinate in the streaming grid is its number. -/
theorem coord_val (t : Fin cfg0.N) : ((grid0.coords t) 0).val = t.val := by
  rcases fin_N0 t with h | h | h | h | h | h | h | h <;> subst h <;> decide

/-- One step of the scratch at a grid point, from what the points before left there. -/
theorem accStep_eq (t : Fin cfg0.N) (X : Vec F S1x4096 .f32) (hX : t.val ≠ 0 → X = accS V (t.val - 1)) :
    accStep (grid0.coords t) (shareAt V t) (effAt V t) X = accS V t.val := by
  unfold accStep
  rw [coord_val]
  obtain ⟨n, hn⟩ := t
  cases n with
  | zero => rw [if_pos rfl]; rfl
  | succ n =>
    rw [if_neg (Nat.succ_ne_zero n), hX (Nat.succ_ne_zero n)]
    show _ = accS V (n + 1)
    rw [accS, dif_pos hn]; rfl

/-- The scoped buffers the streaming kernel does not use. -/
def idle0Bufs (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg7_0), ((c : Thread nD τ).loc cc2_stg7_0) ↦{fullShare} f))

/-- What holds of the scratch before grid point `n`: from the second point on, the column sums so far. -/
def colInv (c : Dev nD) (n : ℕ) : sProp 𝕄 :=
  iprop((∃ X, ⌜n ≠ 0 → X = accS V (n - 1)⌝ ∗ owns (c : Thread nD τ) (Memref.whole cc0_scratch0) fullShare X) ∗ idle0Bufs c)

/-- The pairs a wait of the core may have recorded before the region. -/
def recAt (c : Dev nD) (n : ℕ) : Set (SemLoc sig × HIx 1) := {p | (K (F := F)).lev (SparseCore.T c, p.1) p.2 ≤ 8 * n}

/-- The streaming region's data over a valuation of the core's buffers: the operands' blocks are left in place, the
    column sums end in the first result, the masked row sums of each point's rows in the other two. -/
def dat0 (c : Dev nD) : Dat τ (Elt F) (HIx 1) ℕ UU ℕ cfg0 c where
  A := fun
    | 0 => V main_arg0
    | 1 => V main_arg0
    | 2 => V main_arg3
    | 3 => V main_arg4
    | 4 => V main_v1_0
    | 5 => V main_v1_1
    | 6 => V main_v1_2
    | ⟨_ + 7, h⟩ => absurd h (Nat.not_lt.2 (Nat.le_add_left _ _))
  after := fun
    | 0 => fun t => rowsAt V t
    | 1 => fun t => segAt V t
    | 2 => fun t => shareAt V t
    | 3 => fun t => effAt V t
    | 4 => fun t => k0_pay1 (accS V t.val)
    | 5 => fun t => k0_pay8 (shareAt V t) (rowsAt V t) (segAt V t)
    | 6 => fun t => k0_pay9 (shareAt V t) (effAt V t) (rowsAt V t) (segAt V t)
    | ⟨_ + 7, h⟩ => absurd h (Nat.not_lt.2 (Nat.le_add_left _ _))
  Φ t := colInv V c t.val
  q w := Pipeline.shareOf spec0 w
  owed _ := (K (F := F)).Otc c 0
  recorded _ := recAt (F := F) c 0

/-- Before a point its window of rows' cluster numbers is filled from the argument. -/
theorem before0_0 (c : Dev nD) (t : Fin cfg0.N) (d) : (dat0 V c).before 0 t d = rowsAt V t :=
  ((dat0 V c).before_in_eq_fetched 0 rfl (fun _ => rfl) (fun _ _ _ => rfl) (fun _ => rfl) t d).trans rfl
/-- Before a point the window of all cluster numbers is filled from the argument. -/
theorem before0_1 (c : Dev nD) (t : Fin cfg0.N) (d) : (dat0 V c).before 1 t d = segAt V t :=
  ((dat0 V c).before_in_eq_fetched 1 rfl (fun _ => rfl) (fun _ _ _ => rfl) (fun _ => rfl) t d).trans rfl
/-- Before a point the sharing window is filled from the argument. -/
theorem before0_2 (c : Dev nD) (t : Fin cfg0.N) (d) : (dat0 V c).before 2 t d = shareAt V t :=
  ((dat0 V c).before_in_eq_fetched 2 rfl (fun _ => rfl) (fun _ _ _ => rfl) (fun _ => rfl) t d).trans rfl
/-- Before a point the efficiency window is filled from the argument. -/
theorem before0_3 (c : Dev nD) (t : Fin cfg0.N) (d) : (dat0 V c).before 3 t d = effAt V t :=
  ((dat0 V c).before_in_eq_fetched 3 rfl (fun _ => rfl) (fun _ _ _ => rfl) (fun _ => rfl) t d).trans rfl

/-- The column sums' window is left alone at every point but the last. -/
theorem idle4_iff (t : Fin cfg0.N) : idle0 4 (grid0.coords t) = !(decide (t.val = 7)) := by
  rcases fin_N0 t with h | h | h | h | h | h | h | h <;> subst h <;> decide

/-- The column sums' window is copied out at the last point alone. -/
theorem flush4 (t : Fin cfg0.N) : (win0 4).flush t = decide (t.val = 7) := by
  have h := flush0_4 t
  have ht : t.val < 8 := lt_of_lt_of_eq t.isLt N_0
  rw [Nat.mod_eq_of_lt ht] at h
  exact (Bool.eq_iff_iff.2 (by rw [h, decide_eq_true_iff]))

/-- The streaming kernel's body meets the region's data at every point. -/
theorem body0 (c : Dev nD) : BodyObligation (dat0 V c) (defs₀ (F := F)) 𝒱₀ none Set.univ := fun t => by
  rw [bigSep_W0, bigSep_W0]
  dsimp only
  rw [show (dat0 V c).Φ t.castSucc = colInv V c t.val from rfl, show (dat0 V c).Φ t.succ = colInv V c (t.val + 1) from rfl,
    show (dat0 V c).owesAt none t.succ = (dat0 V c).owesAt none t.castSucc from rfl]
  rw [idle4_iff, flush4]
  unfold colInv
  dsimp only [dat0]
  iintro ⟨⟨⟨%X, %hX, HS⟩, HI⟩, HO, ⟨%d0, H0⟩, ⟨%d1, H1⟩, ⟨%d2, H2⟩, ⟨%d3, H3⟩, ⟨%d4, H4⟩, ⟨%d5, H5⟩, ⟨%d6, H6⟩⟩
  have e0 := before0_0 V c t d0
  have e1 := before0_1 V c t d1
  have e2 := before0_2 V c t d2
  have e3 := before0_3 V c t d3
  dsimp only [dat0] at e0 e1 e2 e3
  rw [e0, e1, e2, e3]
  have hA := accStep_eq V t X hX
  iapply (stream_run c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) (Memref.whole cc0_scratch0) (Memref.isWhole_whole _)
    (rowsAt V t) (segAt V t) (shareAt V t) (effAt V t) _ _ _ X _)
  rw [hA, coord_val]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS HI]
  · isplitl [HS]
    · iexists _
      isplitr
      · ipureintro; intro _; exact congrArg (accS V) (Nat.add_sub_cancel _ _).symm
      iexact HS
    iexact HI
  isplitl [HO]; · iexact HO
  isplitl [H0]; · iexact H0
  isplitl [H1]; · iexact H1
  isplitl [H2]; · iexact H2
  isplitl [H3]; · iexact H3
  isplitl [H4]
  · by_cases h7 : t.val = 7
    · simp only [decide_eq_true h7, if_pos h7, Bool.not_true]; iexact H4
    · simp only [decide_eq_false h7, if_neg h7, Bool.not_false]; iexists d4; iexact H4
  isplitl [H5]; · iexact H5
  iexact H6

end Stream

/-! ### The data of the combining kernel -/

section Combine

variable (V : Valuation τ sig (Elt F))

/-- What the combining kernel's operands hold. -/
def in2_0 (t : Fin cfg2.N) : Vec F S1x4096 .i32 := ((cfg2.win 0).blk t).view.read (Elt F) (V main_arg0)
/-- The consumptions, as the combining call reads them. -/
def in2_1 (t : Fin cfg2.N) : Vec F S1x4096 .f32 := ((cfg2.win 1).blk t).view.read (Elt F) (V main_arg2)
/-- The weights, as the combining call reads them. -/
def in2_2 (t : Fin cfg2.N) : Vec F S1x5 .f32 := ((cfg2.win 2).blk t).view.read (Elt F) (V main_v0)
/-- The energy received, as the combining call reads it. -/
def in2_3 (t : Fin cfg2.N) : Vec F S1x4096 .f32 := ((cfg2.win 3).blk t).view.read (Elt F) (V main_v1_0)
/-- The energy sent, as the combining call reads it. -/
def in2_4 (t : Fin cfg2.N) : Vec F S1x4096 .f32 := ((cfg2.win 4).blk t).view.read (Elt F) (V main_v1_1)
/-- The energy delivered, as the combining call reads it. -/
def in2_5 (t : Fin cfg2.N) : Vec F S1x4096 .f32 := ((cfg2.win 5).blk t).view.read (Elt F) (V main_v1_2)
/-- The partial results, as the combining call reads them. -/
def in2_6 (t : Fin cfg2.N) : Vec F S256x320 .f32 := ((cfg2.win 6).blk t).view.read (Elt F) (V main_v12)

/-- The combining region's data over a valuation of the core's buffers: the operands left in place, the result. -/
def dat1 (c : Dev nD) : Dat τ (Elt F) (HIx 1) ℕ UU ℕ cfg2 c where
  A := fun
    | 0 => V main_arg0
    | 1 => V main_arg2
    | 2 => V main_v0
    | 3 => V main_v1_0
    | 4 => V main_v1_1
    | 5 => V main_v1_2
    | 6 => V main_v12
    | 7 => V main_v13
    | ⟨_ + 8, h⟩ => absurd h (Nat.not_lt.2 (Nat.le_add_left _ _))
  after := fun
    | 0 => fun t => in2_0 V t
    | 1 => fun t => in2_1 V t
    | 2 => fun t => in2_2 V t
    | 3 => fun t => in2_3 V t
    | 4 => fun t => in2_4 V t
    | 5 => fun t => in2_5 V t
    | 6 => fun t => in2_6 V t
    | 7 => fun t => combineOut (in2_0 V t) (in2_1 V t) (in2_2 V t) (in2_3 V t) (in2_4 V t) (in2_5 V t) (in2_6 V t)
    | ⟨_ + 8, h⟩ => absurd h (Nat.not_lt.2 (Nat.le_add_left _ _))
  Φ _ := Pipeline.scopedRest spec2 c
  q _ := fullShare
  owed _ := (K (F := F)).Otc c 1
  recorded _ := recAt (F := F) c 1

/-- Before the combining body, window 0 is filled from its buffer. -/
theorem before2_0 (c : Dev nD) (t : Fin cfg2.N) (d) : (dat1 V c).before 0 t d = in2_0 V t :=
  ((dat1 V c).before_in_eq_fetched 0 rfl (fun _ => rfl) (fun _ _ _ => rfl) (fun _ => rfl) t d).trans rfl
/-- Before the combining body, window 1 is filled from its buffer. -/
theorem before2_1 (c : Dev nD) (t : Fin cfg2.N) (d) : (dat1 V c).before 1 t d = in2_1 V t :=
  ((dat1 V c).before_in_eq_fetched 1 rfl (fun _ => rfl) (fun _ _ _ => rfl) (fun _ => rfl) t d).trans rfl
/-- Before the combining body, window 2 is filled from its buffer. -/
theorem before2_2 (c : Dev nD) (t : Fin cfg2.N) (d) : (dat1 V c).before 2 t d = in2_2 V t :=
  ((dat1 V c).before_in_eq_fetched 2 rfl (fun _ => rfl) (fun _ _ _ => rfl) (fun _ => rfl) t d).trans rfl
/-- Before the combining body, window 3 is filled from its buffer. -/
theorem before2_3 (c : Dev nD) (t : Fin cfg2.N) (d) : (dat1 V c).before 3 t d = in2_3 V t :=
  ((dat1 V c).before_in_eq_fetched 3 rfl (fun _ => rfl) (fun _ _ _ => rfl) (fun _ => rfl) t d).trans rfl
/-- Before the combining body, window 4 is filled from its buffer. -/
theorem before2_4 (c : Dev nD) (t : Fin cfg2.N) (d) : (dat1 V c).before 4 t d = in2_4 V t :=
  ((dat1 V c).before_in_eq_fetched 4 rfl (fun _ => rfl) (fun _ _ _ => rfl) (fun _ => rfl) t d).trans rfl
/-- Before the combining body, window 5 is filled from its buffer. -/
theorem before2_5 (c : Dev nD) (t : Fin cfg2.N) (d) : (dat1 V c).before 5 t d = in2_5 V t :=
  ((dat1 V c).before_in_eq_fetched 5 rfl (fun _ => rfl) (fun _ _ _ => rfl) (fun _ => rfl) t d).trans rfl
/-- Before the combining body, window 6 is filled from its buffer. -/
theorem before2_6 (c : Dev nD) (t : Fin cfg2.N) (d) : (dat1 V c).before 6 t d = in2_6 V t :=
  ((dat1 V c).before_in_eq_fetched 6 rfl (fun _ => rfl) (fun _ _ _ => rfl) (fun _ => rfl) t d).trans rfl

/-- The combining kernel's body meets the region's data at its one point. -/
theorem body1 (c : Dev nD) : BodyObligation (dat1 V c) (defs₀ (F := F)) 𝒱₀ none Set.univ := fun t => by
  rw [bigSep_W2, bigSep_W2]
  dsimp only
  rw [show (dat1 V c).Φ t.castSucc = Pipeline.scopedRest spec2 c from rfl, show (dat1 V c).Φ t.succ = Pipeline.scopedRest spec2 c from rfl,
    show (dat1 V c).owesAt none t.succ = (dat1 V c).owesAt none t.castSucc from rfl]
  iintro ⟨HS, HO, ⟨%d0, H0⟩, ⟨%d1, H1⟩, ⟨%d2, H2⟩, ⟨%d3, H3⟩, ⟨%d4, H4⟩, ⟨%d5, H5⟩, ⟨%d6, H6⟩, ⟨%d7, H7⟩⟩
  rw [before2_0, before2_1, before2_2, before2_3, before2_4, before2_5, before2_6]
  dsimp only [dat1]
  iapply (combine_run c Set.univ _ (hstage2_0 0) _ (hstage2_1 0) _ (hstage2_2 0) _ (hstage2_3 0) _ (hstage2_4 0) _ (hstage2_5 0)
    _ (hstage2_6 0) _ (hstage2_7 0) (in2_0 V t) (in2_1 V t) (in2_2 V t) (in2_3 V t) (in2_4 V t) (in2_5 V t) (in2_6 V t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HS]; · iexact HS
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Combine

end Cert.Proof.Seg

end
-- ==== Proof.Segs.lean ====
/-
  The two TensorCore regions as segments of the device's main program: each taken from all of the core's buffers at a
  valuation to all of them at the valuation updated at the region's arrays.
-/
module

public import proofs.«01_k».proof.Proof.Regions

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation RegionSeg)

/-- No pipeline takes a prefetched table. -/
abbrev adm : (p : Fin 2) → (pcfgs (F := F) p).Adm := fun p => (cfgs p).toPCfg_adm

/-- The data of both regions, over the valuations they are entered at. -/
def pdats (V0 V1 : Dev nD → Valuation τ sig (Elt F)) :
    (p : Fin 2) → (c : Dev nD) → Dat τ (Elt F) (HIx 1) ℕ UU ℕ (Pipeline.pin (pcfgs (F := F)) adm p) c
  | 0 => fun c => dat0 (V0 c) c
  | 1 => fun c => dat1 (V1 c) c

/-- The core's buffers as the streaming region leaves them, -/
def after0 (c : Dev nD) (V : Valuation τ sig (Elt F)) : Valuation τ sig (Elt F) :=
  Pipeline.withArrays spec0 c V ((dat0 V c).arrAt · cfg0.N)
/-- and as the combining region does. -/
def after1 (c : Dev nD) (V : Valuation τ sig (Elt F)) : Valuation τ sig (Elt F) :=
  Pipeline.withArrays spec2 c V ((dat1 V c).arrAt · cfg2.N)

/-- The core's buffers at a valuation, beside what the core still owes before call `n`. -/
def coreAt (n : ℕ) (c : Dev nD) (V : Valuation τ sig (Elt F)) : sProp 𝕄 :=
  iprop(unscopedBufs c (fun b => V (Proc.devRef .tc b))
    ∗ ∃ W, ⌜(K (F := F)).WBelow (SparseCore.T c) W (8 * n)⌝ ∗ owes (SparseCore.T c) ((K (F := F)).Otc c n) W)

/-- The core owes nothing outside the call. -/
theorem otc_none (c : Dev nD) (n : ℕ) (g : GSem nD τ sig) : (K (F := F)).Otc c n g none = 0 := by
  have h : ∀ (q : Fin 1), (if n ≤ q.val then ∑ c' : Fin ((K (F := F)).nCore q),
      tallyAt ((K (F := F)).startCell c ((K (F := F)).core q c')) (some q : HIx 1) 1 else (0 : CellTallies nD τ sig (HIx 1))) g none = 0 := by
    intro q
    by_cases h : n ≤ q.val
    · rw [if_pos h, Finset.sum_apply, Finsupp.finset_sum_apply]
      refine Finset.sum_eq_zero fun c' _ => ?_
      rw [tallyAt_apply, if_neg]
      exact fun e => Option.some_ne_none _ e.2.symm
    · rw [if_neg h]; rfl
  unfold SparseCore.Cfg.Otc
  rw [Finset.sum_apply, Finsupp.finset_sum_apply]
  exact Finset.sum_eq_zero fun q _ => h q

section Segs

variable (V0 V1 : Dev nD → Valuation τ sig (Elt F))

/-- The streaming region starts from the buffers' contents. -/
theorem hA0 (c : Dev nD) : ∀ w : Fin 7, (pdats V0 V1 0 c).A w = V0 c (Proc.devRef .tc (Pipeline.arrRef spec0 w))
  | 0 => rfl | 1 => rfl | 2 => rfl | 3 => rfl | 4 => rfl | 5 => rfl | 6 => rfl | ⟨_ + 7, h⟩ => absurd h (Nat.not_lt.2 (Nat.le_add_left _ _))

/-- The streaming region ends with the contents named after it. -/
theorem hF0 (V : Valuation τ sig (Elt F)) (c : Dev nD) (w : Fin 7) :
    (dat0 V c).arrAt w cfg0.N = after0 c V (Proc.devRef .tc (Pipeline.arrRef spec0 w)) :=
  (Pipeline.Dat.withArrays_arrAt (dat0 V c) sharedIn0 V (hA0 (fun _ => V) (fun _ => V) c) w).symm

/-- The streaming region leaves the buffers of no window as they were. -/
theorem hR0 (V : Valuation τ sig (Elt F)) (c : Dev nD) (b : Ref sig .tc) (hb : b ∉ Finset.univ.image (Pipeline.arrRef spec0)) :
    after0 c V (Proc.devRef .tc b) = V (Proc.devRef .tc b) :=
  Pipeline.withArrays_of_ne spec0 c V _ b fun w e => hb (Finset.mem_image.mpr ⟨w, Finset.mem_univ _, e⟩)

/-- The streaming region's invariant at its start. -/
theorem in0 (V : Valuation τ sig (Elt F)) (c : Dev nD) :
    iprop(BI.emp ∗ Pipeline.prefHeld (pcfgs (F := F) 0).pre c (fun _ => fullShare) (adm (F := F) 0).1 ∗ Pipeline.scopedRest spec0 c)
      ⊢ colInv V c 0 := by
  rw [Pipeline.prefHeld_of_none _ rfl, scopedRest0_eq]
  unfold colInv idle0Bufs
  iintro ⟨-, -, ⟨%f, HS⟩, HI⟩
  isplitl [HS]
  · iexists f
    isplitr; · ipureintro; exact fun h => absurd rfl h
    rw [owns_whole_eq]
    iexists f
    isplitr; · ipureintro; rfl
    iexact HS
  iexact HI

/-- The streaming region's invariant at its end gives the scratch back. -/
theorem out0 (V : Valuation τ sig (Elt F)) (c : Dev nD) :
    colInv V c cfg0.N ⊢ iprop(BI.emp ∗ BI.emp ∗ Pipeline.scopedRest spec0 c) := by
  rw [scopedRest0_eq]
  unfold colInv idle0Bufs
  iintro ⟨⟨%X, -, HS⟩, HI⟩
  isplitr; · iempintro
  isplitr; · iempintro
  isplitl [HS]
  · ihave HS := (Entails.of_eq (owns_whole_eq _ _ _ _)) $$ HS
    icases HS with ⟨%f, -, HS⟩
    iexists f; iexact HS
  iexact HI

/-- What a region may wait for is below what the launch allows at that step. -/
theorem rec_below (c : Dev nD) (n : ℕ) {W : Waits sig (HIx 1)} {cfg : Pipeline.Cfg sig Λ₀}
    (hW : ∀ p ∈ W, p ∈ recAt (F := F) c n ∪ cfg.waitPairs none) : (K (F := F)).WBelow (SparseCore.T c) W (8 * n) := fun p hp => by
  rcases hW p hp with h | ⟨w, s, h⟩
  · exact h
  · rw [h]; exact Nat.zero_le _

/-- The streaming region. -/
def seg0 : RegionSeg (pcfgs (F := F)) adm (pdats V0 V1) none defs₀ 𝒱₀ (K (F := F)).L (K (F := F)).lev 0 where
  win := winFacts₀0
  block_pos := block_pos0
  stage_whole := stage_whole0
  K := PEmpty
  osem k := k.elim
  ho := Pipeline.OwnSemFacts.none _
  hbody c := (body0 (V0 c) c).loose
  hwaits c := Pipeline.cellsWaits_intro (Pipeline.pin (pcfgs (F := F)) adm) (pdats V0 V1) none 0 c fun w s t =>
    (K (F := F)).mayWait_none _ (otc_none c 0)
  pre c := coreAt 0 c (V0 c)
  post c := coreAt 0 c (after0 c (V0 c))
  X _ := BI.emp
  Y _ := BI.emp
  Z c := Pipeline.unscopedRest spec0 c (fun b => V0 c (Proc.devRef .tc b))
  hentry c := by
    rw [Pipeline.ownSems0_none, Pipeline.prefHeld_of_none _ rfl]
    have hE := Pipeline.arrays_of_unscopedBufs_shared (pcfgs (F := F)) adm (pdats V0 V1) (p := 0) winFacts₀0 sharedIn0 arr_whole0 c
      (fun _ _ => rfl) (fun b => V0 c (Proc.devRef .tc b)) (hA0 V0 V1 c)
    unfold coreAt
    iintro ⟨⟨HB, HO⟩, -, -⟩
    imodintro
    ihave HB := hE $$ HB
    icases HB with ⟨HA, HR⟩
    isplitl [HA]; · iexact HA
    isplitr; · iempintro
    isplitl [HO]
    · unfold Dat.owesAt Pipeline.owesWithin
      icases HO with ⟨%W, %hW, HO⟩; iexists W; isplitr; · ipureintro; exact fun p hp => Or.inl (hW p hp)
      iexact HO
    isplitr; · iempintro
    iexact HR
  hin c := in0 (V0 c) c
  hout c := by
    rw [Pipeline.ownSems0_none]
    exact out0 (V0 c) c
  hexit c := by
    have hE := Pipeline.unscopedBufs_of_arrays_shared (pcfgs (F := F)) adm (p := 0) winFacts₀0 sharedIn0 arr_whole0 c (pdats V0 V1)
      (fun _ _ => rfl) (fun b => V0 c (Proc.devRef .tc b)) (fun b => after0 c (V0 c) (Proc.devRef .tc b))
      ((dat0 (V0 c) c).arrAt · cfg0.N) (hF0 (V0 c) c) (hR0 (V0 c) c)
    unfold coreAt Dat.owesAt Pipeline.owesWithin
    iintro ⟨HA, HO, -, HR⟩
    icases HO with ⟨%W, %hW, HO⟩
    imodintro
    isplitl [HA HR]
    · iapply hE
      isplitl [HA]; · iexact HA
      iexact HR
    iexists W
    isplitr
    · ipureintro; exact rec_below c 0 hW
    iexact HO

/-- The combining region starts from the buffers' contents. -/
theorem hA1 (c : Dev nD) : ∀ w : Fin 8, (pdats V0 V1 1 c).A w = V1 c (Proc.devRef .tc (Pipeline.arrRef spec2 w))
  | 0 => rfl | 1 => rfl | 2 => rfl | 3 => rfl | 4 => rfl | 5 => rfl | 6 => rfl | 7 => rfl
  | ⟨_ + 8, h⟩ => absurd h (Nat.not_lt.2 (Nat.le_add_left _ _))

/-- The combining region ends with the contents named after it. -/
theorem hF1 (V : Valuation τ sig (Elt F)) (c : Dev nD) (w : Fin 8) :
    (dat1 V c).arrAt w cfg2.N = after1 c V (Proc.devRef .tc (Pipeline.arrRef spec2 w)) :=
  (Pipeline.withArrays_arr spec2 winFacts2.arr_inj c V ((dat1 V c).arrAt · cfg2.N) w).symm

/-- The combining region leaves the buffers of no window as they were. -/
theorem hR1 (V : Valuation τ sig (Elt F)) (c : Dev nD) (b : Ref sig .tc) (hb : b ∉ Finset.univ.image (Pipeline.arrRef spec2)) :
    after1 c V (Proc.devRef .tc b) = V (Proc.devRef .tc b) :=
  Pipeline.withArrays_of_ne spec2 c V _ b fun w e => hb (Finset.mem_image.mpr ⟨w, Finset.mem_univ _, e⟩)

/-- The combining region holds its buffers whole. -/
theorem share1 (V : Valuation τ sig (Elt F)) (c : Dev nD) (w : Fin 8) : (dat1 V c).share w = fullShare := by
  unfold Pipeline.Dat.share
  split <;> rfl

/-- The combining region's invariant at its start. -/
theorem in1 (c : Dev nD) :
    iprop(BI.emp ∗ Pipeline.prefHeld (pcfgs (F := F) 1).pre c (fun _ => fullShare) (adm (F := F) 1).1 ∗ Pipeline.scopedRest spec2 c)
      ⊢ (Pipeline.scopedRest spec2 c : sProp 𝕄) := by
  rw [Pipeline.prefHeld_of_none _ rfl]
  iintro ⟨-, -, H⟩
  iexact H

omit [FloatOps F] in
/-- The combining region's invariant at its end. -/
theorem out1 (c : Dev nD) :
    (Pipeline.scopedRest spec2 c : sProp 𝕄) ⊢ iprop(BI.emp ∗ BI.emp ∗ Pipeline.scopedRest spec2 c) := by
  iintro H
  isplitr; · iempintro
  isplitr; · iempintro
  iexact H

/-- The combining region. -/
def seg1 : RegionSeg (pcfgs (F := F)) adm (pdats V0 V1) none defs₀ 𝒱₀ (K (F := F)).L (K (F := F)).lev 1 where
  win := winFacts2.to₀
  block_pos := block_pos2
  stage_whole := stage_whole2
  K := PEmpty
  osem k := k.elim
  ho := Pipeline.OwnSemFacts.none _
  hbody c := (body1 (V1 c) c).loose
  hwaits c := Pipeline.cellsWaits_intro (Pipeline.pin (pcfgs (F := F)) adm) (pdats V0 V1) none 1 c fun w s t =>
    (K (F := F)).mayWait_none _ (otc_none c 1)
  pre c := coreAt 1 c (V1 c)
  post c := coreAt 1 c (after1 c (V1 c))
  X _ := BI.emp
  Y _ := BI.emp
  Z c := Pipeline.unscopedRest spec2 c (fun b => V1 c (Proc.devRef .tc b))
  hentry c := by
    rw [Pipeline.ownSems0_none, Pipeline.prefHeld_of_none _ rfl]
    have hE := Pipeline.arrays_of_unscopedBufs (pcfgs (F := F)) adm (pdats V0 V1) (p := 1) winFacts2 arr_whole2 c
      (share1 (V1 c) c) (fun b => V1 c (Proc.devRef .tc b)) (hA1 V0 V1 c)
    unfold coreAt
    iintro ⟨⟨HB, HO⟩, -, -⟩
    imodintro
    ihave HB := hE $$ HB
    icases HB with ⟨HA, HR⟩
    isplitl [HA]; · iexact HA
    isplitr; · iempintro
    isplitl [HO]
    · unfold Dat.owesAt Pipeline.owesWithin
      icases HO with ⟨%W, %hW, HO⟩; iexists W; isplitr; · ipureintro; exact fun p hp => Or.inl (hW p hp)
      iexact HO
    isplitr; · iempintro
    iexact HR
  hin c := in1 c
  hout c := by
    rw [Pipeline.ownSems0_none]
    exact out1 c
  hexit c := by
    have hE := Pipeline.unscopedBufs_of_arrays (pcfgs (F := F)) adm (p := 1) winFacts2 arr_whole2 c (pdats V0 V1)
      (share1 (V1 c) c) (fun b => V1 c (Proc.devRef .tc b)) (fun b => after1 c (V1 c) (Proc.devRef .tc b))
      ((dat1 (V1 c) c).arrAt · cfg2.N) (hF1 (V1 c) c) (hR1 (V1 c) c)
    unfold coreAt Dat.owesAt Pipeline.owesWithin
    iintro ⟨HA, HO, -, HR⟩
    icases HO with ⟨%W, %hW, HO⟩
    imodintro
    isplitl [HA HR]
    · iapply hE
      isplitl [HA]; · iexact HA
      iexact HR
    iexists W
    isplitr
    · ipureintro; exact rec_below c 1 hW
    iexact HO

end Segs

end Cert.Proof.Seg

end
-- ==== Proof.Banks.lean ====
/-
  What one tile computes, as a pure function of the words and values it fetched, and the rules that run the statements of
  the tile's unrolled loop one by one: a load of sixteen fetched elements, the check of an index vector, the gather from
  the accumulator and the scatter into it.
-/
module

public import proofs.«01_k».proof.Proof.Setup

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The pure computation -/

/-- Element `n` of a 256-element buffer (taken modulo 256). -/
def at256 (n : ℕ) : S256.Idx := fun a => ⟨n % 256, by obtain rfl : a = 0 := Subsingleton.elim _ _; exact Nat.mod_lt _ (by decide)⟩

/-- The sixteen elements of group `n` of a fetched buffer. -/
def grp {e : EltTy} (s : Vec F S256 e) (n : ℕ) : Vec F S16 e := fun j => s (at256 (16 * n + (j 0).val))

/-- The words `320 * lane + seg`, the base index of each lane's own accumulator bank. -/
def ix0 (s : IVec S16 32) : IVec S16 32 :=
  addi (muli (iota .scVector S16 32 [0] iota_S16_d0_w32_scVector) (broadcast S16 320#32)) s

/-- The same, `o` words further: the bank of another quantity. -/
def ixo (s : IVec S16 32) (o : BitVec 32) : IVec S16 32 := addi (ix0 s) (broadcast S16 o)

/-- Every lane's index lies in the accumulator. -/
abbrev InB (ix : IVec S16 32) : Prop := ∀ a x, ((![ix] : Fin 1 → IVec S16 32) a x).toNat < S5120.size a

/-- One read-modify-write of the accumulator: gather at `ix`, apply `g` to the sixteen values, scatter back. -/
def bank [FloatOps F] (f : Vec F S5120 .f32) (ix : IVec S16 32) (g : Vec F S16 .f32 → Vec F S16 .f32) : Vec F S5120 .f32 :=
  open Classical in if h : InB ix then storeIdx f ![ix] (g (loadIdx f ![ix] h)) (fun _ => 1#1) false h else f

variable [FloatOps F]

/-- Sixteen ones. -/
def ones16 : Vec F S16 .f32 := broadcast S16 (Scalar.ofBits .f32 0x3F800000#32 : F .f32)

/-- The five updates of one group: the count, the two sums, the sum of squares, the maximum. -/
def b1 (s : IVec S16 32) (f : Vec F S5120 .f32) : Vec F S5120 .f32 := bank f (ix0 s) fun v => addf v ones16
/-- The accumulator with the group's generations added into the second bank. -/
def b2 (s : IVec S16 32) (g : Vec F S16 .f32) (f : Vec F S5120 .f32) : Vec F S5120 .f32 := bank f (ixo s 64#32) fun v => addf v g
/-- The accumulator with the group's consumptions added into the third bank. -/
def b3 (s : IVec S16 32) (c : Vec F S16 .f32) (f : Vec F S5120 .f32) : Vec F S5120 .f32 := bank f (ixo s 128#32) fun v => addf v c
/-- The accumulator with the squares of the group's consumptions added into the fourth bank. -/
def b4 (s : IVec S16 32) (c : Vec F S16 .f32) (f : Vec F S5120 .f32) : Vec F S5120 .f32 := bank f (ixo s 192#32) fun v => addf v (mulf c c)
/-- The accumulator with the group's consumptions taken into the maxima of the fifth bank. -/
def b5 (s : IVec S16 32) (c : Vec F S16 .f32) (f : Vec F S5120 .f32) : Vec F S5120 .f32 := bank f (ixo s 256#32) fun v => maximumf v c

/-- One group's five updates in turn. -/
def stepG (s : IVec S16 32) (g c : Vec F S16 .f32) (f : Vec F S5120 .f32) : Vec F S5120 .f32 := b5 s c (b4 s c (b3 s c (b2 s g (b1 s f))))

/-- The accumulator after `n` groups. -/
def accN (s : Vec F S256 .i32) (g c : Vec F S256 .f32) (f : Vec F S5120 .f32) : ℕ → Vec F S5120 .f32
  | 0 => f
  | n + 1 => stepG (grp (F := F) s n) (grp g n) (grp c n) (accN s g c f n)

/-- One group more applies the five banks' updates of that group, in order. -/
theorem accN_succ (s : Vec F S256 .i32) (g c : Vec F S256 .f32) (f : Vec F S5120 .f32) (n : ℕ) :
    accN s g c f (n + 1) = b5 (grp (F := F) s n) (grp c n) (b4 (grp (F := F) s n) (grp c n) (b3 (grp (F := F) s n) (grp c n)
      (b2 (grp (F := F) s n) (grp g n) (b1 (grp (F := F) s n) (accN s g c f n))))) := rfl

/-! ## The index checks -/

/-- A fetched word below 64. -/
abbrev Small (s : IVec S16 32) : Prop := ∀ j, (s j).toNat < 64

/-- The first bank's word of a lane is 320 times the lane, plus its segment: nothing overflows. -/
theorem ix0_toNat {s : IVec S16 32} (h : Small s) (j : S16.Idx) : (ix0 s j).toNat = 320 * (j 0).val + (s j).toNat := by
  have hj : (j 0).val < 16 := (j 0).isLt
  have hs := h j
  have e : ix0 s j = BitVec.ofNat 32 (j 0).val * 320#32 + s j := by
    unfold ix0 addi muli iota broadcast
    simp
    rfl
  rw [e]
  have h1 : (BitVec.ofNat 32 (j 0).val * 320#32).toNat = 320 * (j 0).val := by
    rw [BitVec.toNat_mul, BitVec.toNat_ofNat, Nat.mod_eq_of_lt (show (j 0).val < 2 ^ 32 by omega)]
    show (j 0).val * 320 % 2 ^ 32 = _
    rw [Nat.mod_eq_of_lt (by omega)]; omega
  rw [BitVec.toNat_add, h1, Nat.mod_eq_of_lt (by omega)]

/-- A later bank's word of a lane is 320 times the lane, plus the offset, plus the segment. -/
theorem ixo_toNat {s : IVec S16 32} (h : Small s) {o : BitVec 32} (ho : o.toNat ≤ 256) (j : S16.Idx) :
    (ixo s o j).toNat = 320 * (j 0).val + o.toNat + (s j).toNat := by
  have hj : (j 0).val < 16 := (j 0).isLt
  have hs := h j
  have e : ixo s o j = ix0 s j + o := rfl
  rw [e, BitVec.toNat_add, ix0_toNat h, Nat.mod_eq_of_lt (by omega)]; omega

/-- The first bank's words lie in the accumulator. -/
theorem inB0 {s : IVec S16 32} (h : Small s) : InB (ix0 s) := by
  intro a x
  have hj : (x 0).val < 16 := (x 0).isLt
  have hs := h x
  obtain rfl : a = 0 := Subsingleton.elim _ _
  show (ix0 s x).toNat < 5120
  rw [ix0_toNat h]; omega
/-- A later bank's words lie in the accumulator. -/
theorem inBo {s : IVec S16 32} (h : Small s) {o : BitVec 32} (ho : o.toNat ≤ 256) : InB (ixo s o) := by
  intro a x
  have hj : (x 0).val < 16 := (x 0).isLt
  have hs := h x
  obtain rfl : a = 0 := Subsingleton.elim _ _
  show (ixo s o x).toNat < 5120
  rw [ixo_toNat h ho]; omega

/-! ## The statements' rules -/

section Rules

variable (thr : Thread nD τ)

/-- What a tile holds while it accumulates: the three fetched buffers, the accumulator and the rest. -/
def Held (d : Dev nD) (c : Fin τ.nSC) (i : Fin τ.nSub) (R : sProp 𝕄) (s : Vec F S256 .i32) (g k : Vec F S256 .f32) (f : Vec F S5120 .f32) : sProp 𝕄 :=
  iprop(((V d c i).loc cc1_scratch0 ↦{fullShare} s) ∗ ((V d c i).loc cc1_scratch1 ↦{fullShare} g)
    ∗ ((V d c i).loc cc1_scratch2 ↦{fullShare} k) ∗ ((V d c i).loc cc1_scratch3 ↦{fullShare} f) ∗ R)

/-- The tile's scratch of segments. -/
abbrev sS : Memref sig .scVector .vmem S256 .i32 := Memref.whole cc1_scratch0
/-- The tile's scratch of generations. -/
abbrev sG : Memref sig .scVector .vmem S256 .f32 := Memref.whole cc1_scratch1
/-- The tile's scratch of consumptions. -/
abbrev sC : Memref sig .scVector .vmem S256 .f32 := Memref.whole cc1_scratch2
/-- The tile's accumulator. -/
abbrev sA : Memref sig .scVector .vmem S5120 .f32 := Memref.whole cc1_scratch3

variable {d : Dev nD} {c : Fin τ.nSC} {i : Fin τ.nSub} {α : Type} {Q : α → sProp 𝕄}
variable {s : Vec F S256 .i32} {g k : Vec F S256 .f32} {f : Vec F S5120 .f32}

local notation "WP" => wp frame (wpE (defs₀ (F := F)) 𝒱₀ (V d c i) none) Set.univ

/-- Sixteen words loaded at `16 * n` are the `n`-th group. -/
theorem grp_eq {e : EltTy} (s : Vec F S256 e) {o : ℕ} {inb} (n : ℕ) (hn : o = 16 * n) (h16 : n < 16) :
    (fun j => s ((Rect.unit (s := S256) ![o] S16.size inb).toLoadRect.idx j)) = grp s n := by
  funext j
  unfold grp
  congr 1
  funext a; apply Fin.ext
  obtain rfl : a = 0 := Subsingleton.elim _ _
  have hj : (j 0).val < 16 := (j 0).isLt
  rw [LoadRect.idx_apply]
  have e : (at256 (16 * n + (j 0).val) 0).val = 16 * n + (j 0).val := Nat.mod_eq_of_lt (by omega)
  rw [e]
  show o + 1 * (j 0).val = _
  omega

/-- A load of group `n` of the fetched segment words. -/
theorem ldS {R : sProp 𝕄} {Q : α → sProp 𝕄} {o : ℕ} {inb : ∀ a, (![o] : Fin 1 → ℕ) a + S16.size a ≤ S256.size a} {hl} (n : ℕ) (hn : o = 16 * n) (h16 : n < 16)
    {K : Vec F S16 .i32 → Prog (TpuEff nD τ sig (Elt F) Λ₀ (.scVector c i)) α}
    (H : Held (F := F) d c i R s g k f ⊢ WP (K (grp (F := F) s n)) Q) :
    Held (F := F) d c i R s g k f ⊢ WP (Prog.lift (.load sS (Rect.unit (s := S256) ![o] S16.size inb).toLoadRect hl) >>= K) Q := by
  rw [← grp_eq s (inb := inb) n hn h16] at H
  change _ ⊢ WP (.op (.load sS (Rect.unit (s := S256) ![o] S16.size inb).toLoadRect hl) K) Q
  unfold Held at H ⊢
  iintro ⟨Hs, Hr⟩
  iapply (wp_load 𝒱₀ (V d c i) none Set.univ (m := sS) (S := Finset.univ) (Finset.subset_univ _)) $$ Hs
  iintro Hs
  iapply H
  isplitl [Hs]; · iexact Hs
  iexact Hr

/-- A load of group `n` of the fetched generation values. -/
theorem ldG {R : sProp 𝕄} {Q : α → sProp 𝕄} {o : ℕ} {inb : ∀ a, (![o] : Fin 1 → ℕ) a + S16.size a ≤ S256.size a} {hl} (n : ℕ) (hn : o = 16 * n) (h16 : n < 16)
    {K : Vec F S16 .f32 → Prog (TpuEff nD τ sig (Elt F) Λ₀ (.scVector c i)) α}
    (H : Held (F := F) d c i R s g k f ⊢ WP (K (grp (F := F) g n)) Q) :
    Held (F := F) d c i R s g k f ⊢ WP (Prog.lift (.load sG (Rect.unit (s := S256) ![o] S16.size inb).toLoadRect hl) >>= K) Q := by
  rw [← grp_eq g (inb := inb) n hn h16] at H
  change _ ⊢ WP (.op (.load sG (Rect.unit (s := S256) ![o] S16.size inb).toLoadRect hl) K) Q
  unfold Held at H ⊢
  iintro ⟨Hs, Hg, Hr⟩
  iapply (wp_load 𝒱₀ (V d c i) none Set.univ (m := sG) (S := Finset.univ) (Finset.subset_univ _)) $$ Hg
  iintro Hg
  iapply H
  isplitl [Hs]; · iexact Hs
  isplitl [Hg]; · iexact Hg
  iexact Hr

/-- A load of group `n` of the fetched consumption values. -/
theorem ldC {R : sProp 𝕄} {Q : α → sProp 𝕄} {o : ℕ} {inb : ∀ a, (![o] : Fin 1 → ℕ) a + S16.size a ≤ S256.size a} {hl} (n : ℕ) (hn : o = 16 * n) (h16 : n < 16)
    {K : Vec F S16 .f32 → Prog (TpuEff nD τ sig (Elt F) Λ₀ (.scVector c i)) α}
    (H : Held (F := F) d c i R s g k f ⊢ WP (K (grp (F := F) k n)) Q) :
    Held (F := F) d c i R s g k f ⊢ WP (Prog.lift (.load sC (Rect.unit (s := S256) ![o] S16.size inb).toLoadRect hl) >>= K) Q := by
  rw [← grp_eq k (inb := inb) n hn h16] at H
  change _ ⊢ WP (.op (.load sC (Rect.unit (s := S256) ![o] S16.size inb).toLoadRect hl) K) Q
  unfold Held at H ⊢
  iintro ⟨Hs, Hg, Hk, Hr⟩
  iapply (wp_load 𝒱₀ (V d c i) none Set.univ (m := sC) (S := Finset.univ) (Finset.subset_univ _)) $$ Hk
  iintro Hk
  iapply H
  isplitl [Hs]; · iexact Hs
  isplitl [Hg]; · iexact Hg
  isplitl [Hk]; · iexact Hk
  iexact Hr

/-- A check that holds. -/
theorem chk {Q : α → sProp 𝕄} {P : Prop} {dec : Decidable P} {A : sProp 𝕄} (hP : P) {K : PLift P → Prog (TpuEff nD τ sig (Elt F) Λ₀ (.scVector c i)) α}
    (H : A ⊢ WP (K ⟨hP⟩) Q) : A ⊢ WP (Prog.lift (.assume P dec) >>= K) Q := by
  change _ ⊢ WP (.op (.assume P dec) K) Q
  rw [wp_assume_of 𝒱₀ (V d c i) none Set.univ hP]
  exact H

/-- The whole accumulator's window sends each word to itself. -/
theorem acc_emb (x : S5120.Idx) : ((sA : Memref sig .scVector .vmem S5120 .f32).access (.whole S5120)).emb x = x := by
  funext a; apply Fin.ext
  show 0 + 1 * (x a).val = (x a).val
  omega

/-- The whole accumulator's window is all its words. -/
theorem acc_set : ((sA : Memref sig .scVector .vmem S5120 .f32).access (.whole S5120)).set = Finset.univ :=
  Finset.eq_univ_of_forall fun x => Finset.mem_map.mpr ⟨x, Finset.mem_univ _, acc_emb x⟩

/-- Writing the whole accumulator replaces its contents. -/
theorem acc_write (f w : Vec F S5120 .f32) :
    ((sA : Memref sig .scVector .vmem S5120 .f32).access (.whole S5120)).write (Elt F) f w Finset.univ = w := by
  funext x
  have := View.write_emb_of_mem (Val := Elt F) (v := ((sA : Memref sig .scVector .vmem S5120 .f32).access (.whole S5120))) f w (Finset.mem_univ x)
  rw [acc_emb] at this
  exact this

/-- Reading the whole accumulator gives its contents. -/
theorem acc_read (f : Vec F S5120 .f32) : ((sA : Memref sig .scVector .vmem S5120 .f32).access (.whole S5120)).read (Elt F) f = f := by
  funext x
  show f (((sA : Memref sig .scVector .vmem S5120 .f32).access (.whole S5120)).emb x) = f x
  rw [acc_emb]

/-- A gather from the accumulator. -/
theorem gat {R : sProp 𝕄} {Q : α → sProp 𝕄} {ix : IVec S16 32} {h : InB ix} {hl} {K : Vec F S16 .f32 → Prog (TpuEff nD τ sig (Elt F) Λ₀ (.scVector c i)) α}
    (H : Held (F := F) d c i R s g k f ⊢ WP (K (loadIdx (F := F) (e := .f32) f ![ix] h)) Q) :
    Held (F := F) d c i R s g k f ⊢ WP (SparseCore.vectorLoadIdx sA ![ix] h hl >>= K) Q := by
  unfold Held at H ⊢
  iintro ⟨Hs, Hg, Hk, Hf, HR⟩
  iapply (SparseCore.wp_vectorLoadIdx 𝒱₀ (V d c i) none Set.univ (base := sA) (S := Finset.univ) (q := fullShare) (Finset.subset_univ _)) $$ Hf
  rw [acc_read]
  iintro Hf
  iapply H
  isplitl [Hs]; · iexact Hs
  isplitl [Hg]; · iexact Hg
  isplitl [Hk]; · iexact Hk
  isplitl [Hf]; · iexact Hf
  iexact HR

/-- A scatter of `gf` of the values just gathered, at the same indices: the accumulator is read, modified and written. -/
theorem sca {R : sProp 𝕄} {Q : α → sProp 𝕄} (ix : IVec S16 32) (gf : Vec F S16 .f32 → Vec F S16 .f32) {h : InB ix} {hl}
    {K : PUnit → Prog (TpuEff nD τ sig (Elt F) Λ₀ (.scVector c i)) α}
    (H : Held (F := F) d c i R s g k (bank f ix gf) ⊢ WP (K ⟨⟩) Q) :
    Held (F := F) d c i R s g k f
      ⊢ WP (SparseCore.vectorStoreIdx sA ![ix] (gf (loadIdx (F := F) (e := .f32) f ![ix] h)) (fun _ => 1#1) false h hl >>= K) Q := by
  unfold bank at H
  rw [dif_pos h] at H
  unfold Held at H ⊢
  iintro ⟨Hs, Hg, Hk, Hf, HR⟩
  ihave Hf' := (Entails.of_eq (show (((V d c i).loc cc1_scratch3 ↦{fullShare} f : sProp 𝕄)
    = ((sA.access (.whole S5120)).loc (V d c i) ↦[(sA.access (.whole S5120)).set]{fullShare} f)) from by rw [acc_set])) $$ Hf
  iapply (SparseCore.wp_vectorStoreIdx 𝒱₀ (V d c i) none Set.univ (base := sA)) $$ Hf'
  rw [acc_write, acc_read, acc_set]
  iintro Hf
  iapply H
  isplitl [Hs]; · iexact Hs
  isplitl [Hg]; · iexact Hg
  isplitl [Hk]; · iexact Hk
  isplitl [Hf]; · iexact Hf
  iexact HR

/-- The end of a part: the values it hands on. -/
theorem ret {Q : α → sProp 𝕄} {a : α} {A : sProp 𝕄} (H : A ⊢ Q a) :
    A ⊢ WP (pure a : Prog (TpuEff nD τ sig (Elt F) Λ₀ (.scVector c i)) α) Q := by
  rw [wp_pure]
  exact H.trans fupd_intro

end Rules

/-! ## The memrefs the body is run at -/

/-- The SparseCore a grid point runs on. -/
abbrev cV (L : grid1.Coords) : Fin τ.nSC := (L 0).castLE hcore1
/-- The tile a grid point runs on. -/
abbrev jV (L : grid1.Coords) : Fin τ.nSub := (L 1).castLE hsub1
/-- The initial accumulator, the segment words, the two value arrays and the result, whole, as a tile addresses them. -/
abbrev sI : Memref sig .scVector .hbm S5120 .f32 := Memref.whole main_v7_scv
/-- The segments, in the large memory. -/
abbrev hS3 : Memref sig .scVector .hbm S4096 .i32 := Memref.whole main_v8_scv
/-- The generations, in the large memory. -/
abbrev hG4 : Memref sig .scVector .hbm S4096 .f32 := Memref.whole main_v9_scv
/-- The consumptions, in the large memory. -/
abbrev hC5 : Memref sig .scVector .hbm S4096 .f32 := Memref.whole main_v10_scv
/-- The result's rows, in the large memory. -/
abbrev hO6 : Memref sig .scVector .hbm S16x5120 .f32 := Memref.whole main_v11_scv

end Cert.Proof.Seg

end
-- ==== Proof.PartsA.lean ====
/-
  The tile's unrolled loop, part by part: each part of the printed body takes the accumulator from one state of the pure
  computation to a later one.
-/
module

public import proofs.«01_k».proof.Proof.Banks

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid1.Coords}
variable {s : Vec F S256 .i32} {g k : Vec F S256 .f32} {f : Vec F S5120 .f32}

local notation "WP" => wp frame (wpE (defs₀ (F := F)) 𝒱₀ (V d (cV L) (jV L)) none) Set.univ

/-- Part 2 of the tile's body: from 2 updates into group 0 to 3 updates into group 1. -/
theorem part2 (hS : ∀ n, Small (grp (F := F) s n)) {R : sProp (MT nD τ sig (HIx 1) (Elt F) ℕ UU ℕ)} {Q} (H : Held (F := F) d (cV L) (jV L) R s g k (b3 (grp (F := F) s 1) (grp k 1) (b2 (grp (F := F) s 1) (grp g 1) (b1 (grp (F := F) s 1) (accN s g k f 1)))) ⊢ Q ⟨(grp k 1), (ix0 (grp (F := F) s 1)), broadcast S16 (192#32)⟩) :
    Held (F := F) d (cV L) (jV L) R s g k (b2 (grp (F := F) s 0) (grp g 0) (b1 (grp (F := F) s 0) (accN s g k f 0)))
      ⊢ WP (k1_part2 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 0)) ((ix0 (grp (F := F) s 0))) ((loadIdx (F := F) (e := .f32) (b2 (grp (F := F) s 0) (grp g 0) (b1 (grp (F := F) s 0) (accN s g k f 0))) ![(ixo (grp (F := F) s 0) 128#32)] (inBo (hS 0) (by decide)))) (addi ((ix0 (grp (F := F) s 0))) (broadcast S16 (128#32)))) Q := by
  unfold k1_part2
  refine chk (P := k1_chk5 (ixo (grp (F := F) s 0) 128#32)) (inBo (hS 0) (by decide)) ?_
  refine sca (ixo (grp (F := F) s 0) 128#32) (fun v => addf v (grp k 0)) ?_
  refine chk (P := k1_chk6 (ixo (grp (F := F) s 0) 192#32)) (inBo (hS 0) (by decide)) ?_
  refine gat (ix := (ixo (grp (F := F) s 0) 192#32)) ?_
  refine chk (P := k1_chk7 (ixo (grp (F := F) s 0) 192#32)) (inBo (hS 0) (by decide)) ?_
  refine sca (ixo (grp (F := F) s 0) 192#32) (fun v => addf v (mulf (grp k 0) (grp k 0))) ?_
  refine chk (P := k1_chk8 (ixo (grp (F := F) s 0) 256#32)) ⟨(inBo (hS 0) (by decide)), (inBo (hS 0) (by decide))⟩ ?_
  refine gat (ix := (ixo (grp (F := F) s 0) 256#32)) ?_
  refine sca (ixo (grp (F := F) s 0) 256#32) (fun v => maximumf v (grp k 0)) ?_
  refine ldS 1 rfl (by decide) ?_
  refine ldG 1 rfl (by decide) ?_
  refine ldC 1 rfl (by decide) ?_
  refine chk (P := k1_chk9 (ix0 (grp (F := F) s 1))) ⟨(inB0 (hS 1)), (inB0 (hS 1))⟩ ?_
  refine gat (ix := (ix0 (grp (F := F) s 1))) ?_
  refine sca (ix0 (grp (F := F) s 1)) (fun v => addf v ones16) ?_
  refine chk (P := k1_chk10 (ixo (grp (F := F) s 1) 64#32)) (inBo (hS 1) (by decide)) ?_
  refine gat (ix := (ixo (grp (F := F) s 1) 64#32)) ?_
  refine chk (P := k1_chk11 (ixo (grp (F := F) s 1) 64#32)) (inBo (hS 1) (by decide)) ?_
  refine sca (ixo (grp (F := F) s 1) 64#32) (fun v => addf v (grp g 1)) ?_
  refine chk (P := k1_chk12 (ixo (grp (F := F) s 1) 128#32)) (inBo (hS 1) (by decide)) ?_
  refine gat (ix := (ixo (grp (F := F) s 1) 128#32)) ?_
  refine chk (P := k1_chk13 (ixo (grp (F := F) s 1) 128#32)) (inBo (hS 1) (by decide)) ?_
  refine sca (ixo (grp (F := F) s 1) 128#32) (fun v => addf v (grp k 1)) ?_
  exact ret H

/-- Part 3 of the tile's body: from 3 updates into group 1 to 3 updates into group 2. -/
theorem part3 (hS : ∀ n, Small (grp (F := F) s n)) {R : sProp (MT nD τ sig (HIx 1) (Elt F) ℕ UU ℕ)} {Q} (H : Held (F := F) d (cV L) (jV L) R s g k (b3 (grp (F := F) s 2) (grp k 2) (b2 (grp (F := F) s 2) (grp g 2) (b1 (grp (F := F) s 2) (accN s g k f 2)))) ⊢ Q ⟨(grp k 2), (ix0 (grp (F := F) s 2)), (loadIdx (F := F) (e := .f32) (b3 (grp (F := F) s 2) (grp k 2) (b2 (grp (F := F) s 2) (grp g 2) (b1 (grp (F := F) s 2) (accN s g k f 2)))) ![(ixo (grp (F := F) s 2) 192#32)] (inBo (hS 2) (by decide))), broadcast S16 (192#32)⟩) :
    Held (F := F) d (cV L) (jV L) R s g k (b3 (grp (F := F) s 1) (grp k 1) (b2 (grp (F := F) s 1) (grp g 1) (b1 (grp (F := F) s 1) (accN s g k f 1))))
      ⊢ WP (k1_part3 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 1)) ((ix0 (grp (F := F) s 1))) (broadcast S16 (192#32))) Q := by
  unfold k1_part3
  refine chk (P := k1_chk14 (ixo (grp (F := F) s 1) 192#32)) (inBo (hS 1) (by decide)) ?_
  refine gat (ix := (ixo (grp (F := F) s 1) 192#32)) ?_
  refine chk (P := k1_chk15 (ixo (grp (F := F) s 1) 192#32)) (inBo (hS 1) (by decide)) ?_
  refine sca (ixo (grp (F := F) s 1) 192#32) (fun v => addf v (mulf (grp k 1) (grp k 1))) ?_
  refine chk (P := k1_chk16 (ixo (grp (F := F) s 1) 256#32)) ⟨(inBo (hS 1) (by decide)), (inBo (hS 1) (by decide))⟩ ?_
  refine gat (ix := (ixo (grp (F := F) s 1) 256#32)) ?_
  refine sca (ixo (grp (F := F) s 1) 256#32) (fun v => maximumf v (grp k 1)) ?_
  refine ldS 2 rfl (by decide) ?_
  refine ldG 2 rfl (by decide) ?_
  refine ldC 2 rfl (by decide) ?_
  refine chk (P := k1_chk17 (ix0 (grp (F := F) s 2))) ⟨(inB0 (hS 2)), (inB0 (hS 2))⟩ ?_
  refine gat (ix := (ix0 (grp (F := F) s 2))) ?_
  refine sca (ix0 (grp (F := F) s 2)) (fun v => addf v ones16) ?_
  refine chk (P := k1_chk18 (ixo (grp (F := F) s 2) 64#32)) (inBo (hS 2) (by decide)) ?_
  refine gat (ix := (ixo (grp (F := F) s 2) 64#32)) ?_
  refine chk (P := k1_chk19 (ixo (grp (F := F) s 2) 64#32)) (inBo (hS 2) (by decide)) ?_
  refine sca (ixo (grp (F := F) s 2) 64#32) (fun v => addf v (grp g 2)) ?_
  refine chk (P := k1_chk20 (ixo (grp (F := F) s 2) 128#32)) (inBo (hS 2) (by decide)) ?_
  refine gat (ix := (ixo (grp (F := F) s 2) 128#32)) ?_
  refine chk (P := k1_chk21 (ixo (grp (F := F) s 2) 128#32)) (inBo (hS 2) (by decide)) ?_
  refine sca (ixo (grp (F := F) s 2) 128#32) (fun v => addf v (grp k 2)) ?_
  refine chk (P := k1_chk22 (ixo (grp (F := F) s 2) 192#32)) (inBo (hS 2) (by decide)) ?_
  refine gat (ix := (ixo (grp (F := F) s 2) 192#32)) ?_
  exact ret H

/-- Part 4 of the tile's body: from 3 updates into group 2 to 4 updates into group 3. -/
theorem part4 (hS : ∀ n, Small (grp (F := F) s n)) {R : sProp (MT nD τ sig (HIx 1) (Elt F) ℕ UU ℕ)} {Q} (H : Held (F := F) d (cV L) (jV L) R s g k (b4 (grp (F := F) s 3) (grp k 3) (b3 (grp (F := F) s 3) (grp k 3) (b2 (grp (F := F) s 3) (grp g 3) (b1 (grp (F := F) s 3) (accN s g k f 3))))) ⊢ Q ⟨(grp k 3), (ix0 (grp (F := F) s 3))⟩) :
    Held (F := F) d (cV L) (jV L) R s g k (b3 (grp (F := F) s 2) (grp k 2) (b2 (grp (F := F) s 2) (grp g 2) (b1 (grp (F := F) s 2) (accN s g k f 2))))
      ⊢ WP (k1_part4 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 2)) ((ix0 (grp (F := F) s 2))) ((loadIdx (F := F) (e := .f32) (b3 (grp (F := F) s 2) (grp k 2) (b2 (grp (F := F) s 2) (grp g 2) (b1 (grp (F := F) s 2) (accN s g k f 2)))) ![(ixo (grp (F := F) s 2) 192#32)] (inBo (hS 2) (by decide)))) (broadcast S16 (192#32))) Q := by
  unfold k1_part4
  refine chk (P := k1_chk23 (ixo (grp (F := F) s 2) 192#32)) (inBo (hS 2) (by decide)) ?_
  refine sca (ixo (grp (F := F) s 2) 192#32) (fun v => addf v (mulf (grp k 2) (grp k 2))) ?_
  refine chk (P := k1_chk24 (ixo (grp (F := F) s 2) 256#32)) ⟨(inBo (hS 2) (by decide)), (inBo (hS 2) (by decide))⟩ ?_
  refine gat (ix := (ixo (grp (F := F) s 2) 256#32)) ?_
  refine sca (ixo (grp (F := F) s 2) 256#32) (fun v => maximumf v (grp k 2)) ?_
  refine ldS 3 rfl (by decide) ?_
  refine ldG 3 rfl (by decide) ?_
  refine ldC 3 rfl (by decide) ?_
  refine chk (P := k1_chk25 (ix0 (grp (F := F) s 3))) ⟨(inB0 (hS 3)), (inB0 (hS 3))⟩ ?_
  refine gat (ix := (ix0 (grp (F := F) s 3))) ?_
  refine sca (ix0 (grp (F := F) s 3)) (fun v => addf v ones16) ?_
  refine chk (P := k1_chk26 (ixo (grp (F := F) s 3) 64#32)) (inBo (hS 3) (by decide)) ?_
  refine gat (ix := (ixo (grp (F := F) s 3) 64#32)) ?_
  refine chk (P := k1_chk27 (ixo (grp (F := F) s 3) 64#32)) (inBo (hS 3) (by decide)) ?_
  refine sca (ixo (grp (F := F) s 3) 64#32) (fun v => addf v (grp g 3)) ?_
  refine chk (P := k1_chk28 (ixo (grp (F := F) s 3) 128#32)) (inBo (hS 3) (by decide)) ?_
  refine gat (ix := (ixo (grp (F := F) s 3) 128#32)) ?_
  refine chk (P := k1_chk29 (ixo (grp (F := F) s 3) 128#32)) (inBo (hS 3) (by decide)) ?_
  refine sca (ixo (grp (F := F) s 3) 128#32) (fun v => addf v (grp k 3)) ?_
  refine chk (P := k1_chk30 (ixo (grp (F := F) s 3) 192#32)) (inBo (hS 3) (by decide)) ?_
  refine gat (ix := (ixo (grp (F := F) s 3) 192#32)) ?_
  refine chk (P := k1_chk31 (ixo (grp (F := F) s 3) 192#32)) (inBo (hS 3) (by decide)) ?_
  refine sca (ixo (grp (F := F) s 3) 192#32) (fun v => addf v (mulf (grp k 3) (grp k 3))) ?_
  exact ret H

/-- Part 5 of the tile's body: from 4 updates into group 3 to 4 updates into group 4. -/
theorem part5 (hS : ∀ n, Small (grp (F := F) s n)) {R : sProp (MT nD τ sig (HIx 1) (Elt F) ℕ UU ℕ)} {Q} (H : Held (F := F) d (cV L) (jV L) R s g k (b4 (grp (F := F) s 4) (grp k 4) (b3 (grp (F := F) s 4) (grp k 4) (b2 (grp (F := F) s 4) (grp g 4) (b1 (grp (F := F) s 4) (accN s g k f 4))))) ⊢ Q ⟨(grp k 4), (ixo (grp (F := F) s 4) 256#32), (show k1_chk40 (ixo (grp (F := F) s 4) 256#32) from ⟨(inBo (hS 4) (by decide)), (inBo (hS 4) (by decide))⟩), (loadIdx (F := F) (e := .f32) (b4 (grp (F := F) s 4) (grp k 4) (b3 (grp (F := F) s 4) (grp k 4) (b2 (grp (F := F) s 4) (grp g 4) (b1 (grp (F := F) s 4) (accN s g k f 4))))) ![(ixo (grp (F := F) s 4) 256#32)] (inBo (hS 4) (by decide)))⟩) :
    Held (F := F) d (cV L) (jV L) R s g k (b4 (grp (F := F) s 3) (grp k 3) (b3 (grp (F := F) s 3) (grp k 3) (b2 (grp (F := F) s 3) (grp g 3) (b1 (grp (F := F) s 3) (accN s g k f 3)))))
      ⊢ WP (k1_part5 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 3)) ((ix0 (grp (F := F) s 3)))) Q := by
  unfold k1_part5
  refine chk (P := k1_chk32 (ixo (grp (F := F) s 3) 256#32)) ⟨(inBo (hS 3) (by decide)), (inBo (hS 3) (by decide))⟩ ?_
  refine gat (ix := (ixo (grp (F := F) s 3) 256#32)) ?_
  refine sca (ixo (grp (F := F) s 3) 256#32) (fun v => maximumf v (grp k 3)) ?_
  refine ldS 4 rfl (by decide) ?_
  refine ldG 4 rfl (by decide) ?_
  refine ldC 4 rfl (by decide) ?_
  refine chk (P := k1_chk33 (ix0 (grp (F := F) s 4))) ⟨(inB0 (hS 4)), (inB0 (hS 4))⟩ ?_
  refine gat (ix := (ix0 (grp (F := F) s 4))) ?_
  refine sca (ix0 (grp (F := F) s 4)) (fun v => addf v ones16) ?_
  refine chk (P := k1_chk34 (ixo (grp (F := F) s 4) 64#32)) (inBo (hS 4) (by decide)) ?_
  refine gat (ix := (ixo (grp (F := F) s 4) 64#32)) ?_
  refine chk (P := k1_chk35 (ixo (grp (F := F) s 4) 64#32)) (inBo (hS 4) (by decide)) ?_
  refine sca (ixo (grp (F := F) s 4) 64#32) (fun v => addf v (grp g 4)) ?_
  refine chk (P := k1_chk36 (ixo (grp (F := F) s 4) 128#32)) (inBo (hS 4) (by decide)) ?_
  refine gat (ix := (ixo (grp (F := F) s 4) 128#32)) ?_
  refine chk (P := k1_chk37 (ixo (grp (F := F) s 4) 128#32)) (inBo (hS 4) (by decide)) ?_
  refine sca (ixo (grp (F := F) s 4) 128#32) (fun v => addf v (grp k 4)) ?_
  refine chk (P := k1_chk38 (ixo (grp (F := F) s 4) 192#32)) (inBo (hS 4) (by decide)) ?_
  refine gat (ix := (ixo (grp (F := F) s 4) 192#32)) ?_
  refine chk (P := k1_chk39 (ixo (grp (F := F) s 4) 192#32)) (inBo (hS 4) (by decide)) ?_
  refine sca (ixo (grp (F := F) s 4) 192#32) (fun v => addf v (mulf (grp k 4) (grp k 4))) ?_
  refine chk (P := k1_chk40 (ixo (grp (F := F) s 4) 256#32)) ⟨(inBo (hS 4) (by decide)), (inBo (hS 4) (by decide))⟩ ?_
  refine gat (ix := (ixo (grp (F := F) s 4) 256#32)) ?_
  exact ret H

end Cert.Proof.Seg

end
-- ==== Proof.PartsB.lean ====
/-
  The tile's unrolled loop, part by part: each part of the printed body takes the accumulator from one state of the pure
  computation to a later one.
-/
module

public import proofs.«01_k».proof.Proof.PartsA

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid1.Coords}
variable {s : Vec F S256 .i32} {g k : Vec F S256 .f32} {f : Vec F S5120 .f32}

local notation "WP" => wp frame (wpE (defs₀ (F := F)) 𝒱₀ (V d (cV L) (jV L)) none) Set.univ

/-- Part 6 of the tile's body: from 4 updates into group 4 to 0 updates into group 6. -/
theorem part6 (hS : ∀ n, Small (grp (F := F) s n)) {R : sProp (MT nD τ sig (HIx 1) (Elt F) ℕ UU ℕ)} {Q} (H : Held (F := F) d (cV L) (jV L) R s g k (accN s g k f 6) ⊢ Q (grp (F := F) s 6)) :
    Held (F := F) d (cV L) (jV L) R s g k (b4 (grp (F := F) s 4) (grp k 4) (b3 (grp (F := F) s 4) (grp k 4) (b2 (grp (F := F) s 4) (grp g 4) (b1 (grp (F := F) s 4) (accN s g k f 4)))))
      ⊢ WP (k1_part6 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 4)) ((ixo (grp (F := F) s 4) 256#32)) ((show k1_chk40 (ixo (grp (F := F) s 4) 256#32) from ⟨(inBo (hS 4) (by decide)), (inBo (hS 4) (by decide))⟩)) ((loadIdx (F := F) (e := .f32) (b4 (grp (F := F) s 4) (grp k 4) (b3 (grp (F := F) s 4) (grp k 4) (b2 (grp (F := F) s 4) (grp g 4) (b1 (grp (F := F) s 4) (accN s g k f 4))))) ![(ixo (grp (F := F) s 4) 256#32)] (inBo (hS 4) (by decide))))) Q := by
  unfold k1_part6
  refine sca (ixo (grp (F := F) s 4) 256#32) (fun v => maximumf v (grp k 4)) ?_
  refine ldS 5 rfl (by decide) ?_
  refine ldG 5 rfl (by decide) ?_
  refine ldC 5 rfl (by decide) ?_
  refine chk (P := k1_chk41 (ix0 (grp (F := F) s 5))) ⟨(inB0 (hS 5)), (inB0 (hS 5))⟩ ?_
  refine gat (ix := (ix0 (grp (F := F) s 5))) ?_
  refine sca (ix0 (grp (F := F) s 5)) (fun v => addf v ones16) ?_
  refine chk (P := k1_chk42 (ixo (grp (F := F) s 5) 64#32)) (inBo (hS 5) (by decide)) ?_
  refine gat (ix := (ixo (grp (F := F) s 5) 64#32)) ?_
  refine chk (P := k1_chk43 (ixo (grp (F := F) s 5) 64#32)) (inBo (hS 5) (by decide)) ?_
  refine sca (ixo (grp (F := F) s 5) 64#32) (fun v => addf v (grp g 5)) ?_
  refine chk (P := k1_chk44 (ixo (grp (F := F) s 5) 128#32)) (inBo (hS 5) (by decide)) ?_
  refine gat (ix := (ixo (grp (F := F) s 5) 128#32)) ?_
  refine chk (P := k1_chk45 (ixo (grp (F := F) s 5) 128#32)) (inBo (hS 5) (by decide)) ?_
  refine sca (ixo (grp (F := F) s 5) 128#32) (fun v => addf v (grp k 5)) ?_
  refine chk (P := k1_chk46 (ixo (grp (F := F) s 5) 192#32)) (inBo (hS 5) (by decide)) ?_
  refine gat (ix := (ixo (grp (F := F) s 5) 192#32)) ?_
  refine chk (P := k1_chk47 (ixo (grp (F := F) s 5) 192#32)) (inBo (hS 5) (by decide)) ?_
  refine sca (ixo (grp (F := F) s 5) 192#32) (fun v => addf v (mulf (grp k 5) (grp k 5))) ?_
  refine chk (P := k1_chk48 (ixo (grp (F := F) s 5) 256#32)) ⟨(inBo (hS 5) (by decide)), (inBo (hS 5) (by decide))⟩ ?_
  refine gat (ix := (ixo (grp (F := F) s 5) 256#32)) ?_
  refine sca (ixo (grp (F := F) s 5) 256#32) (fun v => maximumf v (grp k 5)) ?_
  refine ldS 6 rfl (by decide) ?_
  exact ret H

/-- Part 7 of the tile's body: from 0 updates into group 6 to 0 updates into group 7. -/
theorem part7 (hS : ∀ n, Small (grp (F := F) s n)) {R : sProp (MT nD τ sig (HIx 1) (Elt F) ℕ UU ℕ)} {Q} (H : Held (F := F) d (cV L) (jV L) R s g k (accN s g k f 7) ⊢ Q ⟨(grp (F := F) s 7), (grp g 7), (grp k 7), broadcast S16 (320#32)⟩) :
    Held (F := F) d (cV L) (jV L) R s g k (accN s g k f 6)
      ⊢ WP (k1_part7 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp (F := F) s 6))) Q := by
  unfold k1_part7
  refine ldG 6 rfl (by decide) ?_
  refine ldC 6 rfl (by decide) ?_
  refine chk (P := k1_chk49 (ix0 (grp (F := F) s 6))) ⟨(inB0 (hS 6)), (inB0 (hS 6))⟩ ?_
  refine gat (ix := (ix0 (grp (F := F) s 6))) ?_
  refine sca (ix0 (grp (F := F) s 6)) (fun v => addf v ones16) ?_
  refine chk (P := k1_chk50 (ixo (grp (F := F) s 6) 64#32)) (inBo (hS 6) (by decide)) ?_
  refine gat (ix := (ixo (grp (F := F) s 6) 64#32)) ?_
  refine chk (P := k1_chk51 (ixo (grp (F := F) s 6) 64#32)) (inBo (hS 6) (by decide)) ?_
  refine sca (ixo (grp (F := F) s 6) 64#32) (fun v => addf v (grp g 6)) ?_
  refine chk (P := k1_chk52 (ixo (grp (F := F) s 6) 128#32)) (inBo (hS 6) (by decide)) ?_
  refine gat (ix := (ixo (grp (F := F) s 6) 128#32)) ?_
  refine chk (P := k1_chk53 (ixo (grp (F := F) s 6) 128#32)) (inBo (hS 6) (by decide)) ?_
  refine sca (ixo (grp (F := F) s 6) 128#32) (fun v => addf v (grp k 6)) ?_
  refine chk (P := k1_chk54 (ixo (grp (F := F) s 6) 192#32)) (inBo (hS 6) (by decide)) ?_
  refine gat (ix := (ixo (grp (F := F) s 6) 192#32)) ?_
  refine chk (P := k1_chk55 (ixo (grp (F := F) s 6) 192#32)) (inBo (hS 6) (by decide)) ?_
  refine sca (ixo (grp (F := F) s 6) 192#32) (fun v => addf v (mulf (grp k 6) (grp k 6))) ?_
  refine chk (P := k1_chk56 (ixo (grp (F := F) s 6) 256#32)) ⟨(inBo (hS 6) (by decide)), (inBo (hS 6) (by decide))⟩ ?_
  refine gat (ix := (ixo (grp (F := F) s 6) 256#32)) ?_
  refine sca (ixo (grp (F := F) s 6) 256#32) (fun v => maximumf v (grp k 6)) ?_
  refine ldS 7 rfl (by decide) ?_
  refine ldG 7 rfl (by decide) ?_
  refine ldC 7 rfl (by decide) ?_
  exact ret H

/-- Part 8 of the tile's body: from 0 updates into group 7 to 0 updates into group 8. -/
theorem part8 (hS : ∀ n, Small (grp (F := F) s n)) {R : sProp (MT nD τ sig (HIx 1) (Elt F) ℕ UU ℕ)} {Q} (H : Held (F := F) d (cV L) (jV L) R s g k (accN s g k f 8) ⊢ Q ⟨(grp g 8), (grp k 8), (ix0 (grp (F := F) s 8)), (show k1_chk65 (ix0 (grp (F := F) s 8)) from ⟨(inB0 (hS 8)), (inB0 (hS 8))⟩), addf ((loadIdx (F := F) (e := .f32) (accN s g k f 8) ![(ix0 (grp (F := F) s 8))] (inB0 (hS 8)))) (broadcast S16 (Scalar.ofBits .f32 0x3F800000#32))⟩) :
    Held (F := F) d (cV L) (jV L) R s g k (accN s g k f 7)
      ⊢ WP (k1_part8 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp (F := F) s 7)) ((grp g 7)) ((grp k 7)) (broadcast S16 (320#32))) Q := by
  unfold k1_part8
  refine chk (P := k1_chk57 (ix0 (grp (F := F) s 7))) ⟨(inB0 (hS 7)), (inB0 (hS 7))⟩ ?_
  refine gat (ix := (ix0 (grp (F := F) s 7))) ?_
  refine sca (ix0 (grp (F := F) s 7)) (fun v => addf v ones16) ?_
  refine chk (P := k1_chk58 (ixo (grp (F := F) s 7) 64#32)) (inBo (hS 7) (by decide)) ?_
  refine gat (ix := (ixo (grp (F := F) s 7) 64#32)) ?_
  refine chk (P := k1_chk59 (ixo (grp (F := F) s 7) 64#32)) (inBo (hS 7) (by decide)) ?_
  refine sca (ixo (grp (F := F) s 7) 64#32) (fun v => addf v (grp g 7)) ?_
  refine chk (P := k1_chk60 (ixo (grp (F := F) s 7) 128#32)) (inBo (hS 7) (by decide)) ?_
  refine gat (ix := (ixo (grp (F := F) s 7) 128#32)) ?_
  refine chk (P := k1_chk61 (ixo (grp (F := F) s 7) 128#32)) (inBo (hS 7) (by decide)) ?_
  refine sca (ixo (grp (F := F) s 7) 128#32) (fun v => addf v (grp k 7)) ?_
  refine chk (P := k1_chk62 (ixo (grp (F := F) s 7) 192#32)) (inBo (hS 7) (by decide)) ?_
  refine gat (ix := (ixo (grp (F := F) s 7) 192#32)) ?_
  refine chk (P := k1_chk63 (ixo (grp (F := F) s 7) 192#32)) (inBo (hS 7) (by decide)) ?_
  refine sca (ixo (grp (F := F) s 7) 192#32) (fun v => addf v (mulf (grp k 7) (grp k 7))) ?_
  refine chk (P := k1_chk64 (ixo (grp (F := F) s 7) 256#32)) ⟨(inBo (hS 7) (by decide)), (inBo (hS 7) (by decide))⟩ ?_
  refine gat (ix := (ixo (grp (F := F) s 7) 256#32)) ?_
  refine sca (ixo (grp (F := F) s 7) 256#32) (fun v => maximumf v (grp k 7)) ?_
  refine ldS 8 rfl (by decide) ?_
  refine ldG 8 rfl (by decide) ?_
  refine ldC 8 rfl (by decide) ?_
  refine chk (P := k1_chk65 (ix0 (grp (F := F) s 8))) ⟨(inB0 (hS 8)), (inB0 (hS 8))⟩ ?_
  refine gat (ix := (ix0 (grp (F := F) s 8))) ?_
  exact ret H

/-- Part 9 of the tile's body: from 0 updates into group 8 to 1 updates into group 9. -/
theorem part9 (hS : ∀ n, Small (grp (F := F) s n)) {R : sProp (MT nD τ sig (HIx 1) (Elt F) ℕ UU ℕ)} {Q} (H : Held (F := F) d (cV L) (jV L) R s g k (b1 (grp (F := F) s 9) (accN s g k f 9)) ⊢ Q ⟨(grp g 9), (grp k 9), (ix0 (grp (F := F) s 9)), (ixo (grp (F := F) s 9) 64#32), (show k1_chk74 (ixo (grp (F := F) s 9) 64#32) from (inBo (hS 9) (by decide)))⟩) :
    Held (F := F) d (cV L) (jV L) R s g k (accN s g k f 8)
      ⊢ WP (k1_part9 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp g 8)) ((grp k 8)) ((ix0 (grp (F := F) s 8))) ((show k1_chk65 (ix0 (grp (F := F) s 8)) from ⟨(inB0 (hS 8)), (inB0 (hS 8))⟩)) (addf ((loadIdx (F := F) (e := .f32) (accN s g k f 8) ![(ix0 (grp (F := F) s 8))] (inB0 (hS 8)))) (broadcast S16 (Scalar.ofBits .f32 0x3F800000#32)))) Q := by
  unfold k1_part9
  refine sca (ix0 (grp (F := F) s 8)) (fun v => addf v ones16) ?_
  refine chk (P := k1_chk66 (ixo (grp (F := F) s 8) 64#32)) (inBo (hS 8) (by decide)) ?_
  refine gat (ix := (ixo (grp (F := F) s 8) 64#32)) ?_
  refine chk (P := k1_chk67 (ixo (grp (F := F) s 8) 64#32)) (inBo (hS 8) (by decide)) ?_
  refine sca (ixo (grp (F := F) s 8) 64#32) (fun v => addf v (grp g 8)) ?_
  refine chk (P := k1_chk68 (ixo (grp (F := F) s 8) 128#32)) (inBo (hS 8) (by decide)) ?_
  refine gat (ix := (ixo (grp (F := F) s 8) 128#32)) ?_
  refine chk (P := k1_chk69 (ixo (grp (F := F) s 8) 128#32)) (inBo (hS 8) (by decide)) ?_
  refine sca (ixo (grp (F := F) s 8) 128#32) (fun v => addf v (grp k 8)) ?_
  refine chk (P := k1_chk70 (ixo (grp (F := F) s 8) 192#32)) (inBo (hS 8) (by decide)) ?_
  refine gat (ix := (ixo (grp (F := F) s 8) 192#32)) ?_
  refine chk (P := k1_chk71 (ixo (grp (F := F) s 8) 192#32)) (inBo (hS 8) (by decide)) ?_
  refine sca (ixo (grp (F := F) s 8) 192#32) (fun v => addf v (mulf (grp k 8) (grp k 8))) ?_
  refine chk (P := k1_chk72 (ixo (grp (F := F) s 8) 256#32)) ⟨(inBo (hS 8) (by decide)), (inBo (hS 8) (by decide))⟩ ?_
  refine gat (ix := (ixo (grp (F := F) s 8) 256#32)) ?_
  refine sca (ixo (grp (F := F) s 8) 256#32) (fun v => maximumf v (grp k 8)) ?_
  refine ldS 9 rfl (by decide) ?_
  refine ldG 9 rfl (by decide) ?_
  refine ldC 9 rfl (by decide) ?_
  refine chk (P := k1_chk73 (ix0 (grp (F := F) s 9))) ⟨(inB0 (hS 9)), (inB0 (hS 9))⟩ ?_
  refine gat (ix := (ix0 (grp (F := F) s 9))) ?_
  refine sca (ix0 (grp (F := F) s 9)) (fun v => addf v ones16) ?_
  refine chk (P := k1_chk74 (ixo (grp (F := F) s 9) 64#32)) (inBo (hS 9) (by decide)) ?_
  exact ret H

/-- Part 10 of the tile's body: from 1 updates into group 9 to 1 updates into group 10. -/
theorem part10 (hS : ∀ n, Small (grp (F := F) s n)) {R : sProp (MT nD τ sig (HIx 1) (Elt F) ℕ UU ℕ)} {Q} (H : Held (F := F) d (cV L) (jV L) R s g k (b1 (grp (F := F) s 10) (accN s g k f 10)) ⊢ Q ⟨(grp g 10), (grp k 10), (ix0 (grp (F := F) s 10)), (loadIdx (F := F) (e := .f32) (b1 (grp (F := F) s 10) (accN s g k f 10)) ![(ixo (grp (F := F) s 10) 64#32)] (inBo (hS 10) (by decide))), (ixo (grp (F := F) s 10) 64#32), (show k1_chk83 (ixo (grp (F := F) s 10) 64#32) from (inBo (hS 10) (by decide)))⟩) :
    Held (F := F) d (cV L) (jV L) R s g k (b1 (grp (F := F) s 9) (accN s g k f 9))
      ⊢ WP (k1_part10 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp g 9)) ((grp k 9)) ((ix0 (grp (F := F) s 9))) ((ixo (grp (F := F) s 9) 64#32)) ((show k1_chk74 (ixo (grp (F := F) s 9) 64#32) from (inBo (hS 9) (by decide))))) Q := by
  unfold k1_part10
  refine gat (ix := (ixo (grp (F := F) s 9) 64#32)) ?_
  refine chk (P := k1_chk75 (ixo (grp (F := F) s 9) 64#32)) (inBo (hS 9) (by decide)) ?_
  refine sca (ixo (grp (F := F) s 9) 64#32) (fun v => addf v (grp g 9)) ?_
  refine chk (P := k1_chk76 (ixo (grp (F := F) s 9) 128#32)) (inBo (hS 9) (by decide)) ?_
  refine gat (ix := (ixo (grp (F := F) s 9) 128#32)) ?_
  refine chk (P := k1_chk77 (ixo (grp (F := F) s 9) 128#32)) (inBo (hS 9) (by decide)) ?_
  refine sca (ixo (grp (F := F) s 9) 128#32) (fun v => addf v (grp k 9)) ?_
  refine chk (P := k1_chk78 (ixo (grp (F := F) s 9) 192#32)) (inBo (hS 9) (by decide)) ?_
  refine gat (ix := (ixo (grp (F := F) s 9) 192#32)) ?_
  refine chk (P := k1_chk79 (ixo (grp (F := F) s 9) 192#32)) (inBo (hS 9) (by decide)) ?_
  refine sca (ixo (grp (F := F) s 9) 192#32) (fun v => addf v (mulf (grp k 9) (grp k 9))) ?_
  refine chk (P := k1_chk80 (ixo (grp (F := F) s 9) 256#32)) ⟨(inBo (hS 9) (by decide)), (inBo (hS 9) (by decide))⟩ ?_
  refine gat (ix := (ixo (grp (F := F) s 9) 256#32)) ?_
  refine sca (ixo (grp (F := F) s 9) 256#32) (fun v => maximumf v (grp k 9)) ?_
  refine ldS 10 rfl (by decide) ?_
  refine ldG 10 rfl (by decide) ?_
  refine ldC 10 rfl (by decide) ?_
  refine chk (P := k1_chk81 (ix0 (grp (F := F) s 10))) ⟨(inB0 (hS 10)), (inB0 (hS 10))⟩ ?_
  refine gat (ix := (ix0 (grp (F := F) s 10))) ?_
  refine sca (ix0 (grp (F := F) s 10)) (fun v => addf v ones16) ?_
  refine chk (P := k1_chk82 (ixo (grp (F := F) s 10) 64#32)) (inBo (hS 10) (by decide)) ?_
  refine gat (ix := (ixo (grp (F := F) s 10) 64#32)) ?_
  refine chk (P := k1_chk83 (ixo (grp (F := F) s 10) 64#32)) (inBo (hS 10) (by decide)) ?_
  exact ret H

end Cert.Proof.Seg

end
-- ==== Proof.PartsC.lean ====
/-
  The tile's unrolled loop, part by part: each part of the printed body takes the accumulator from one state of the pure
  computation to a later one.
-/
module

public import proofs.«01_k».proof.Proof.PartsB

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid1.Coords}
variable {s : Vec F S256 .i32} {g k : Vec F S256 .f32} {f : Vec F S5120 .f32}

local notation "WP" => wp frame (wpE (defs₀ (F := F)) 𝒱₀ (V d (cV L) (jV L)) none) Set.univ

/-- Part 11 of the tile's body: from 1 updates into group 10 to 2 updates into group 11. -/
theorem part11 (hS : ∀ n, Small (grp (F := F) s n)) {R : sProp (MT nD τ sig (HIx 1) (Elt F) ℕ UU ℕ)} {Q} (H : Held (F := F) d (cV L) (jV L) R s g k (b2 (grp (F := F) s 11) (grp g 11) (b1 (grp (F := F) s 11) (accN s g k f 11))) ⊢ Q ⟨(grp k 11), (ix0 (grp (F := F) s 11)), addi ((ix0 (grp (F := F) s 11))) (broadcast S16 (128#32))⟩) :
    Held (F := F) d (cV L) (jV L) R s g k (b1 (grp (F := F) s 10) (accN s g k f 10))
      ⊢ WP (k1_part11 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp g 10)) ((grp k 10)) ((ix0 (grp (F := F) s 10))) ((loadIdx (F := F) (e := .f32) (b1 (grp (F := F) s 10) (accN s g k f 10)) ![(ixo (grp (F := F) s 10) 64#32)] (inBo (hS 10) (by decide)))) ((ixo (grp (F := F) s 10) 64#32)) ((show k1_chk83 (ixo (grp (F := F) s 10) 64#32) from (inBo (hS 10) (by decide))))) Q := by
  unfold k1_part11
  refine sca (ixo (grp (F := F) s 10) 64#32) (fun v => addf v (grp g 10)) ?_
  refine chk (P := k1_chk84 (ixo (grp (F := F) s 10) 128#32)) (inBo (hS 10) (by decide)) ?_
  refine gat (ix := (ixo (grp (F := F) s 10) 128#32)) ?_
  refine chk (P := k1_chk85 (ixo (grp (F := F) s 10) 128#32)) (inBo (hS 10) (by decide)) ?_
  refine sca (ixo (grp (F := F) s 10) 128#32) (fun v => addf v (grp k 10)) ?_
  refine chk (P := k1_chk86 (ixo (grp (F := F) s 10) 192#32)) (inBo (hS 10) (by decide)) ?_
  refine gat (ix := (ixo (grp (F := F) s 10) 192#32)) ?_
  refine chk (P := k1_chk87 (ixo (grp (F := F) s 10) 192#32)) (inBo (hS 10) (by decide)) ?_
  refine sca (ixo (grp (F := F) s 10) 192#32) (fun v => addf v (mulf (grp k 10) (grp k 10))) ?_
  refine chk (P := k1_chk88 (ixo (grp (F := F) s 10) 256#32)) ⟨(inBo (hS 10) (by decide)), (inBo (hS 10) (by decide))⟩ ?_
  refine gat (ix := (ixo (grp (F := F) s 10) 256#32)) ?_
  refine sca (ixo (grp (F := F) s 10) 256#32) (fun v => maximumf v (grp k 10)) ?_
  refine ldS 11 rfl (by decide) ?_
  refine ldG 11 rfl (by decide) ?_
  refine ldC 11 rfl (by decide) ?_
  refine chk (P := k1_chk89 (ix0 (grp (F := F) s 11))) ⟨(inB0 (hS 11)), (inB0 (hS 11))⟩ ?_
  refine gat (ix := (ix0 (grp (F := F) s 11))) ?_
  refine sca (ix0 (grp (F := F) s 11)) (fun v => addf v ones16) ?_
  refine chk (P := k1_chk90 (ixo (grp (F := F) s 11) 64#32)) (inBo (hS 11) (by decide)) ?_
  refine gat (ix := (ixo (grp (F := F) s 11) 64#32)) ?_
  refine chk (P := k1_chk91 (ixo (grp (F := F) s 11) 64#32)) (inBo (hS 11) (by decide)) ?_
  refine sca (ixo (grp (F := F) s 11) 64#32) (fun v => addf v (grp g 11)) ?_
  exact ret H

/-- Part 12 of the tile's body: from 2 updates into group 11 to 2 updates into group 12. -/
theorem part12 (hS : ∀ n, Small (grp (F := F) s n)) {R : sProp (MT nD τ sig (HIx 1) (Elt F) ℕ UU ℕ)} {Q} (H : Held (F := F) d (cV L) (jV L) R s g k (b2 (grp (F := F) s 12) (grp g 12) (b1 (grp (F := F) s 12) (accN s g k f 12))) ⊢ Q ⟨(grp k 12), (ix0 (grp (F := F) s 12)), (loadIdx (F := F) (e := .f32) (b2 (grp (F := F) s 12) (grp g 12) (b1 (grp (F := F) s 12) (accN s g k f 12))) ![(ixo (grp (F := F) s 12) 128#32)] (inBo (hS 12) (by decide))), addi ((ix0 (grp (F := F) s 12))) (broadcast S16 (128#32))⟩) :
    Held (F := F) d (cV L) (jV L) R s g k (b2 (grp (F := F) s 11) (grp g 11) (b1 (grp (F := F) s 11) (accN s g k f 11)))
      ⊢ WP (k1_part12 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 11)) ((ix0 (grp (F := F) s 11))) (addi ((ix0 (grp (F := F) s 11))) (broadcast S16 (128#32)))) Q := by
  unfold k1_part12
  refine chk (P := k1_chk92 (ixo (grp (F := F) s 11) 128#32)) (inBo (hS 11) (by decide)) ?_
  refine gat (ix := (ixo (grp (F := F) s 11) 128#32)) ?_
  refine chk (P := k1_chk93 (ixo (grp (F := F) s 11) 128#32)) (inBo (hS 11) (by decide)) ?_
  refine sca (ixo (grp (F := F) s 11) 128#32) (fun v => addf v (grp k 11)) ?_
  refine chk (P := k1_chk94 (ixo (grp (F := F) s 11) 192#32)) (inBo (hS 11) (by decide)) ?_
  refine gat (ix := (ixo (grp (F := F) s 11) 192#32)) ?_
  refine chk (P := k1_chk95 (ixo (grp (F := F) s 11) 192#32)) (inBo (hS 11) (by decide)) ?_
  refine sca (ixo (grp (F := F) s 11) 192#32) (fun v => addf v (mulf (grp k 11) (grp k 11))) ?_
  refine chk (P := k1_chk96 (ixo (grp (F := F) s 11) 256#32)) ⟨(inBo (hS 11) (by decide)), (inBo (hS 11) (by decide))⟩ ?_
  refine gat (ix := (ixo (grp (F := F) s 11) 256#32)) ?_
  refine sca (ixo (grp (F := F) s 11) 256#32) (fun v => maximumf v (grp k 11)) ?_
  refine ldS 12 rfl (by decide) ?_
  refine ldG 12 rfl (by decide) ?_
  refine ldC 12 rfl (by decide) ?_
  refine chk (P := k1_chk97 (ix0 (grp (F := F) s 12))) ⟨(inB0 (hS 12)), (inB0 (hS 12))⟩ ?_
  refine gat (ix := (ix0 (grp (F := F) s 12))) ?_
  refine sca (ix0 (grp (F := F) s 12)) (fun v => addf v ones16) ?_
  refine chk (P := k1_chk98 (ixo (grp (F := F) s 12) 64#32)) (inBo (hS 12) (by decide)) ?_
  refine gat (ix := (ixo (grp (F := F) s 12) 64#32)) ?_
  refine chk (P := k1_chk99 (ixo (grp (F := F) s 12) 64#32)) (inBo (hS 12) (by decide)) ?_
  refine sca (ixo (grp (F := F) s 12) 64#32) (fun v => addf v (grp g 12)) ?_
  refine chk (P := k1_chk100 (ixo (grp (F := F) s 12) 128#32)) (inBo (hS 12) (by decide)) ?_
  refine gat (ix := (ixo (grp (F := F) s 12) 128#32)) ?_
  exact ret H

/-- Part 13 of the tile's body: from 2 updates into group 12 to 3 updates into group 13. -/
theorem part13 (hS : ∀ n, Small (grp (F := F) s n)) {R : sProp (MT nD τ sig (HIx 1) (Elt F) ℕ UU ℕ)} {Q} (H : Held (F := F) d (cV L) (jV L) R s g k (b3 (grp (F := F) s 13) (grp k 13) (b2 (grp (F := F) s 13) (grp g 13) (b1 (grp (F := F) s 13) (accN s g k f 13)))) ⊢ Q ⟨(grp k 13), (ix0 (grp (F := F) s 13)), broadcast S16 (192#32)⟩) :
    Held (F := F) d (cV L) (jV L) R s g k (b2 (grp (F := F) s 12) (grp g 12) (b1 (grp (F := F) s 12) (accN s g k f 12)))
      ⊢ WP (k1_part13 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 12)) ((ix0 (grp (F := F) s 12))) ((loadIdx (F := F) (e := .f32) (b2 (grp (F := F) s 12) (grp g 12) (b1 (grp (F := F) s 12) (accN s g k f 12))) ![(ixo (grp (F := F) s 12) 128#32)] (inBo (hS 12) (by decide)))) (addi ((ix0 (grp (F := F) s 12))) (broadcast S16 (128#32)))) Q := by
  unfold k1_part13
  refine chk (P := k1_chk101 (ixo (grp (F := F) s 12) 128#32)) (inBo (hS 12) (by decide)) ?_
  refine sca (ixo (grp (F := F) s 12) 128#32) (fun v => addf v (grp k 12)) ?_
  refine chk (P := k1_chk102 (ixo (grp (F := F) s 12) 192#32)) (inBo (hS 12) (by decide)) ?_
  refine gat (ix := (ixo (grp (F := F) s 12) 192#32)) ?_
  refine chk (P := k1_chk103 (ixo (grp (F := F) s 12) 192#32)) (inBo (hS 12) (by decide)) ?_
  refine sca (ixo (grp (F := F) s 12) 192#32) (fun v => addf v (mulf (grp k 12) (grp k 12))) ?_
  refine chk (P := k1_chk104 (ixo (grp (F := F) s 12) 256#32)) ⟨(inBo (hS 12) (by decide)), (inBo (hS 12) (by decide))⟩ ?_
  refine gat (ix := (ixo (grp (F := F) s 12) 256#32)) ?_
  refine sca (ixo (grp (F := F) s 12) 256#32) (fun v => maximumf v (grp k 12)) ?_
  refine ldS 13 rfl (by decide) ?_
  refine ldG 13 rfl (by decide) ?_
  refine ldC 13 rfl (by decide) ?_
  refine chk (P := k1_chk105 (ix0 (grp (F := F) s 13))) ⟨(inB0 (hS 13)), (inB0 (hS 13))⟩ ?_
  refine gat (ix := (ix0 (grp (F := F) s 13))) ?_
  refine sca (ix0 (grp (F := F) s 13)) (fun v => addf v ones16) ?_
  refine chk (P := k1_chk106 (ixo (grp (F := F) s 13) 64#32)) (inBo (hS 13) (by decide)) ?_
  refine gat (ix := (ixo (grp (F := F) s 13) 64#32)) ?_
  refine chk (P := k1_chk107 (ixo (grp (F := F) s 13) 64#32)) (inBo (hS 13) (by decide)) ?_
  refine sca (ixo (grp (F := F) s 13) 64#32) (fun v => addf v (grp g 13)) ?_
  refine chk (P := k1_chk108 (ixo (grp (F := F) s 13) 128#32)) (inBo (hS 13) (by decide)) ?_
  refine gat (ix := (ixo (grp (F := F) s 13) 128#32)) ?_
  refine chk (P := k1_chk109 (ixo (grp (F := F) s 13) 128#32)) (inBo (hS 13) (by decide)) ?_
  refine sca (ixo (grp (F := F) s 13) 128#32) (fun v => addf v (grp k 13)) ?_
  exact ret H

/-- Part 14 of the tile's body: from 3 updates into group 13 to 3 updates into group 14. -/
theorem part14 (hS : ∀ n, Small (grp (F := F) s n)) {R : sProp (MT nD τ sig (HIx 1) (Elt F) ℕ UU ℕ)} {Q} (H : Held (F := F) d (cV L) (jV L) R s g k (b3 (grp (F := F) s 14) (grp k 14) (b2 (grp (F := F) s 14) (grp g 14) (b1 (grp (F := F) s 14) (accN s g k f 14)))) ⊢ Q ⟨(grp k 14), (ix0 (grp (F := F) s 14)), (loadIdx (F := F) (e := .f32) (b3 (grp (F := F) s 14) (grp k 14) (b2 (grp (F := F) s 14) (grp g 14) (b1 (grp (F := F) s 14) (accN s g k f 14)))) ![(ixo (grp (F := F) s 14) 192#32)] (inBo (hS 14) (by decide))), broadcast S16 (192#32)⟩) :
    Held (F := F) d (cV L) (jV L) R s g k (b3 (grp (F := F) s 13) (grp k 13) (b2 (grp (F := F) s 13) (grp g 13) (b1 (grp (F := F) s 13) (accN s g k f 13))))
      ⊢ WP (k1_part14 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 13)) ((ix0 (grp (F := F) s 13))) (broadcast S16 (192#32))) Q := by
  unfold k1_part14
  refine chk (P := k1_chk110 (ixo (grp (F := F) s 13) 192#32)) (inBo (hS 13) (by decide)) ?_
  refine gat (ix := (ixo (grp (F := F) s 13) 192#32)) ?_
  refine chk (P := k1_chk111 (ixo (grp (F := F) s 13) 192#32)) (inBo (hS 13) (by decide)) ?_
  refine sca (ixo (grp (F := F) s 13) 192#32) (fun v => addf v (mulf (grp k 13) (grp k 13))) ?_
  refine chk (P := k1_chk112 (ixo (grp (F := F) s 13) 256#32)) ⟨(inBo (hS 13) (by decide)), (inBo (hS 13) (by decide))⟩ ?_
  refine gat (ix := (ixo (grp (F := F) s 13) 256#32)) ?_
  refine sca (ixo (grp (F := F) s 13) 256#32) (fun v => maximumf v (grp k 13)) ?_
  refine ldS 14 rfl (by decide) ?_
  refine ldG 14 rfl (by decide) ?_
  refine ldC 14 rfl (by decide) ?_
  refine chk (P := k1_chk113 (ix0 (grp (F := F) s 14))) ⟨(inB0 (hS 14)), (inB0 (hS 14))⟩ ?_
  refine gat (ix := (ix0 (grp (F := F) s 14))) ?_
  refine sca (ix0 (grp (F := F) s 14)) (fun v => addf v ones16) ?_
  refine chk (P := k1_chk114 (ixo (grp (F := F) s 14) 64#32)) (inBo (hS 14) (by decide)) ?_
  refine gat (ix := (ixo (grp (F := F) s 14) 64#32)) ?_
  refine chk (P := k1_chk115 (ixo (grp (F := F) s 14) 64#32)) (inBo (hS 14) (by decide)) ?_
  refine sca (ixo (grp (F := F) s 14) 64#32) (fun v => addf v (grp g 14)) ?_
  refine chk (P := k1_chk116 (ixo (grp (F := F) s 14) 128#32)) (inBo (hS 14) (by decide)) ?_
  refine gat (ix := (ixo (grp (F := F) s 14) 128#32)) ?_
  refine chk (P := k1_chk117 (ixo (grp (F := F) s 14) 128#32)) (inBo (hS 14) (by decide)) ?_
  refine sca (ixo (grp (F := F) s 14) 128#32) (fun v => addf v (grp k 14)) ?_
  refine chk (P := k1_chk118 (ixo (grp (F := F) s 14) 192#32)) (inBo (hS 14) (by decide)) ?_
  refine gat (ix := (ixo (grp (F := F) s 14) 192#32)) ?_
  exact ret H

/-- Part 15 of the tile's body: from 3 updates into group 14 to 4 updates into group 15. -/
theorem part15 (hS : ∀ n, Small (grp (F := F) s n)) {R : sProp (MT nD τ sig (HIx 1) (Elt F) ℕ UU ℕ)} {Q} (H : Held (F := F) d (cV L) (jV L) R s g k (b4 (grp (F := F) s 15) (grp k 15) (b3 (grp (F := F) s 15) (grp k 15) (b2 (grp (F := F) s 15) (grp g 15) (b1 (grp (F := F) s 15) (accN s g k f 15))))) ⊢ Q ⟨(grp k 15), (ix0 (grp (F := F) s 15))⟩) :
    Held (F := F) d (cV L) (jV L) R s g k (b3 (grp (F := F) s 14) (grp k 14) (b2 (grp (F := F) s 14) (grp g 14) (b1 (grp (F := F) s 14) (accN s g k f 14))))
      ⊢ WP (k1_part15 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4
        (broadcast S16 (Scalar.ofBits .f32 0x3F800000#32)) (iota .scVector S16 32 [0] iota_S16_d0_w32_scVector) ((grp k 14)) ((ix0 (grp (F := F) s 14))) ((loadIdx (F := F) (e := .f32) (b3 (grp (F := F) s 14) (grp k 14) (b2 (grp (F := F) s 14) (grp g 14) (b1 (grp (F := F) s 14) (accN s g k f 14)))) ![(ixo (grp (F := F) s 14) 192#32)] (inBo (hS 14) (by decide)))) (broadcast S16 (192#32))) Q := by
  unfold k1_part15
  refine chk (P := k1_chk119 (ixo (grp (F := F) s 14) 192#32)) (inBo (hS 14) (by decide)) ?_
  refine sca (ixo (grp (F := F) s 14) 192#32) (fun v => addf v (mulf (grp k 14) (grp k 14))) ?_
  refine chk (P := k1_chk120 (ixo (grp (F := F) s 14) 256#32)) ⟨(inBo (hS 14) (by decide)), (inBo (hS 14) (by decide))⟩ ?_
  refine gat (ix := (ixo (grp (F := F) s 14) 256#32)) ?_
  refine sca (ixo (grp (F := F) s 14) 256#32) (fun v => maximumf v (grp k 14)) ?_
  refine ldS 15 rfl (by decide) ?_
  refine ldG 15 rfl (by decide) ?_
  refine ldC 15 rfl (by decide) ?_
  refine chk (P := k1_chk121 (ix0 (grp (F := F) s 15))) ⟨(inB0 (hS 15)), (inB0 (hS 15))⟩ ?_
  refine gat (ix := (ix0 (grp (F := F) s 15))) ?_
  refine sca (ix0 (grp (F := F) s 15)) (fun v => addf v ones16) ?_
  refine chk (P := k1_chk122 (ixo (grp (F := F) s 15) 64#32)) (inBo (hS 15) (by decide)) ?_
  refine gat (ix := (ixo (grp (F := F) s 15) 64#32)) ?_
  refine chk (P := k1_chk123 (ixo (grp (F := F) s 15) 64#32)) (inBo (hS 15) (by decide)) ?_
  refine sca (ixo (grp (F := F) s 15) 64#32) (fun v => addf v (grp g 15)) ?_
  refine chk (P := k1_chk124 (ixo (grp (F := F) s 15) 128#32)) (inBo (hS 15) (by decide)) ?_
  refine gat (ix := (ixo (grp (F := F) s 15) 128#32)) ?_
  refine chk (P := k1_chk125 (ixo (grp (F := F) s 15) 128#32)) (inBo (hS 15) (by decide)) ?_
  refine sca (ixo (grp (F := F) s 15) 128#32) (fun v => addf v (grp k 15)) ?_
  refine chk (P := k1_chk126 (ixo (grp (F := F) s 15) 192#32)) (inBo (hS 15) (by decide)) ?_
  refine gat (ix := (ixo (grp (F := F) s 15) 192#32)) ?_
  refine chk (P := k1_chk127 (ixo (grp (F := F) s 15) 192#32)) (inBo (hS 15) (by decide)) ?_
  refine sca (ixo (grp (F := F) s 15) 192#32) (fun v => addf v (mulf (grp k 15) (grp k 15))) ?_
  exact ret H

end Cert.Proof.Seg

end
-- ==== Proof.Groups.lean ====
/-
  The tile's unrolled loop, part by part: each part of the printed body takes the accumulator from one state of the pure
  computation to a later one.
-/
module

public import proofs.«01_k».proof.Proof.PartsC

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid1.Coords}
variable {s : Vec F S256 .i32} {g k : Vec F S256 .f32} {f : Vec F S5120 .f32}

local notation "WP" => wp frame (wpE (defs₀ (F := F)) 𝒱₀ (V d (cV L) (jV L)) none) Set.univ

/-- The four fetches a tile starts with: its slices of the segment words and of the two value arrays, and the initial accumulator. -/
def fetches (L : grid1.Coords) : Prog (TpuEff nD τ sig (Elt F) Λ₀ (.scVector ((L 0).castLE hcore1) ((L 1).castLE hsub1))) PUnit := do
  Prog.lift (.enqueueDma (hS3.slice (Rect.unit (s := S4096) (k1_off1 L) S256.size (k1_off1_inb L)) (fun _ => rfl)) (.here sS) (.dma cc1_scoped0.sem) (View.wordExact_bits rfl) (Memref.isWhole_whole _).wordExact ⟨Or.inl rfl, trivial⟩)
  Prog.lift (.waitDma2 cc1_scoped0.sem (hS3.slice (Rect.unit (s := S4096) (k1_off1 L) S256.size (k1_off1_inb L)) (fun _ => rfl)) sS (View.wordExact_bits rfl) (Memref.isWhole_whole _).wordExact)
  Prog.lift (.enqueueDma (hG4.slice (Rect.unit (s := S4096) (k1_off1 L) S256.size (k1_off1_inb L)) (fun _ => rfl)) (.here sG) (.dma cc1_scoped1.sem) (View.wordExact_bits rfl) (Memref.isWhole_whole _).wordExact ⟨Or.inl rfl, trivial⟩)
  Prog.lift (.waitDma2 cc1_scoped1.sem (hG4.slice (Rect.unit (s := S4096) (k1_off1 L) S256.size (k1_off1_inb L)) (fun _ => rfl)) sG (View.wordExact_bits rfl) (Memref.isWhole_whole _).wordExact)
  Prog.lift (.enqueueDma (hC5.slice (Rect.unit (s := S4096) (k1_off1 L) S256.size (k1_off1_inb L)) (fun _ => rfl)) (.here sC) (.dma cc1_scoped2.sem) (View.wordExact_bits rfl) (Memref.isWhole_whole _).wordExact ⟨Or.inl rfl, trivial⟩)
  Prog.lift (.waitDma2 cc1_scoped2.sem (hC5.slice (Rect.unit (s := S4096) (k1_off1 L) S256.size (k1_off1_inb L)) (fun _ => rfl)) sC (View.wordExact_bits rfl) (Memref.isWhole_whole _).wordExact)
  Prog.lift (.enqueueDma sI (.here sA) (.dma cc1_scoped3.sem) (Memref.isWhole_whole _).wordExact (Memref.isWhole_whole _).wordExact ⟨Or.inl rfl, trivial⟩)
  Prog.lift (.waitDma2 cc1_scoped3.sem sI sA (Memref.isWhole_whole _).wordExact (Memref.isWhole_whole _).wordExact)

/-- The write-out a tile ends with: its accumulator to its row of the result. -/
def writeOut (L : grid1.Coords) : Prog (TpuEff nD τ sig (Elt F) Λ₀ (.scVector ((L 0).castLE hcore1) ((L 1).castLE hsub1))) PUnit := do
  Prog.lift (.enqueueDma sA (.here ((hO6.slice (Rect.unit (s := S16x5120) (k1_off2 L) S1x5120.size (k1_off2_inb L)) (fun _ => rfl)).squeeze S5120 squeezes_S1x5120_S5120)) (.dma cc1_scoped4.sem) (Memref.isWhole_whole _).wordExact ((View.wordExact_bits rfl).reshape _ _) ⟨Or.inl rfl, trivial⟩)
  Prog.lift (.waitDma2 cc1_scoped4.sem sA ((hO6.slice (Rect.unit (s := S16x5120) (k1_off2 L) S1x5120.size (k1_off2_inb L)) (fun _ => rfl)).squeeze S5120 squeezes_S1x5120_S5120) (Memref.isWhole_whole _).wordExact ((View.wordExact_bits rfl).reshape _ _))
  pure ⟨⟩

/-- What is left of the first part after the fetches. -/
def part1r (L : grid1.Coords) :
    Prog (TpuEff nD τ sig (Elt F) Λ₀ (.scVector ((L 0).castLE hcore1) ((L 1).castLE hsub1))) (Σ' (v1 : FVec F S16 .f32) (v2 : IVec S16 32) (v5 : Vec F S16 .f32) (v8 : IVec S16 32) (v19 : Vec F S16 .f32), IVec S16 32) := do
  have cst : F .f32 := Scalar.ofBits .f32 0x3F800000#32
  have v1 : FVec F S16 .f32 := broadcast S16 cst
  have v2 : IVec S16 32 := iota .scVector S16 32 [0] iota_S16_d0_w32_scVector
  let c0 : Index := 0#32
  let v3 : Vec F S16 .i32 ← Prog.lift (.load sS (Rect.unit (s := S256) ![0] S16.size inb_S256_S16_0).toLoadRect (View.loadsAt_vmem h_S16))
  let c0_0 : Index := 0#32
  let v4 : Vec F S16 .f32 ← Prog.lift (.load sG (Rect.unit (s := S256) ![0] S16.size inb_S256_S16_0).toLoadRect (View.loadsAt_vmem h_S16))
  let c0_1 : Index := 0#32
  let v5 : Vec F S16 .f32 ← Prog.lift (.load sC (Rect.unit (s := S256) ![0] S16.size inb_S256_S16_0).toLoadRect (View.loadsAt_vmem h_S16))
  let c320_i32 : BitVec 32 := 320#32
  have v6 : IVec S16 32 := broadcast S16 c320_i32
  have v7 : IVec S16 32 := muli v2 v6
  have v8 : IVec S16 32 := addi v7 v3
  have k1_hw1 : k1_chk1 v8 := (← Prog.lift (TpuEff.assume (k1_chk1 v8) (k1_chk1.dec v8))).down
  let v9 : Vec F S16 .f32 ← SparseCore.vectorLoadIdx sA ![v8] (k1_idx1_inb v8 k1_hw1) (View.loads_vmem h_S5120)
  have v10 : FVec F S16 .f32 := addf v9 v1
  SparseCore.vectorStoreIdx sA ![v8] v10 (fun _ => 1#1) false (k1_idx2_inb v8 k1_hw1) (View.stores_vmem_bits_univ h_S5120 rfl)
  let c64_i32 : BitVec 32 := 64#32
  have v11 : IVec S16 32 := broadcast S16 c64_i32
  have v12 : IVec S16 32 := addi v8 v11
  have k1_hw2 : k1_chk2 v12 := (← Prog.lift (TpuEff.assume (k1_chk2 v12) (k1_chk2.dec v12))).down
  let v13 : Vec F S16 .f32 ← SparseCore.vectorLoadIdx sA ![v12] (k1_idx3_inb v12 k1_hw2) (View.loads_vmem h_S5120)
  let c64_i32_2 : BitVec 32 := 64#32
  have v14 : IVec S16 32 := broadcast S16 c64_i32_2
  have v15 : IVec S16 32 := addi v8 v14
  have k1_hw3 : k1_chk3 v15 := (← Prog.lift (TpuEff.assume (k1_chk3 v15) (k1_chk3.dec v15))).down
  have v16 : FVec F S16 .f32 := addf v13 v4
  SparseCore.vectorStoreIdx sA ![v15] v16 (fun _ => 1#1) false (k1_idx4_inb v15 k1_hw3) (View.stores_vmem_bits_univ h_S5120 rfl)
  let c128_i32 : BitVec 32 := 128#32
  have v17 : IVec S16 32 := broadcast S16 c128_i32
  have v18 : IVec S16 32 := addi v8 v17
  have k1_hw4 : k1_chk4 v18 := (← Prog.lift (TpuEff.assume (k1_chk4 v18) (k1_chk4.dec v18))).down
  let v19 : Vec F S16 .f32 ← SparseCore.vectorLoadIdx sA ![v18] (k1_idx5_inb v18 k1_hw4) (View.loads_vmem h_S5120)
  let c128_i32_3 : BitVec 32 := 128#32
  have v20 : IVec S16 32 := broadcast S16 c128_i32_3
  have v21 : IVec S16 32 := addi v8 v20
  pure ⟨v1, v2, v5, v8, v19, v21⟩

/-- The first part of the tile's body is its fetches and then the rest of that part. -/
theorem part1_split (L : grid1.Coords) : k1_part1 (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4 = fetches L >>= fun _ => part1r L := rfl

/-- The first part after the fetches. -/
theorem part1 (hS : ∀ n, Small (grp (F := F) s n)) {R : sProp (MT nD τ sig (HIx 1) (Elt F) ℕ UU ℕ)} {Q} (H : Held (F := F) d (cV L) (jV L) R s g k (b2 (grp (F := F) s 0) (grp g 0) (b1 (grp (F := F) s 0) (accN s g k f 0))) ⊢ Q ⟨broadcast S16 (Scalar.ofBits .f32 0x3F800000#32), iota .scVector S16 32 [0] iota_S16_d0_w32_scVector, (grp k 0), (ix0 (grp (F := F) s 0)), (loadIdx (F := F) (e := .f32) (b2 (grp (F := F) s 0) (grp g 0) (b1 (grp (F := F) s 0) (accN s g k f 0))) ![(ixo (grp (F := F) s 0) 128#32)] (inBo (hS 0) (by decide))), addi ((ix0 (grp (F := F) s 0))) (broadcast S16 (128#32))⟩) :
    Held (F := F) d (cV L) (jV L) R s g k (accN s g k f 0) ⊢ WP (part1r (F := F) L) Q := by
  unfold part1r
  refine ldS 0 rfl (by decide) ?_
  refine ldG 0 rfl (by decide) ?_
  refine ldC 0 rfl (by decide) ?_
  refine chk (P := k1_chk1 (ix0 (grp (F := F) s 0))) ⟨(inB0 (hS 0)), (inB0 (hS 0))⟩ ?_
  refine gat (ix := (ix0 (grp (F := F) s 0))) ?_
  refine sca (ix0 (grp (F := F) s 0)) (fun v => addf v ones16) ?_
  refine chk (P := k1_chk2 (ixo (grp (F := F) s 0) 64#32)) (inBo (hS 0) (by decide)) ?_
  refine gat (ix := (ixo (grp (F := F) s 0) 64#32)) ?_
  refine chk (P := k1_chk3 (ixo (grp (F := F) s 0) 64#32)) (inBo (hS 0) (by decide)) ?_
  refine sca (ixo (grp (F := F) s 0) 64#32) (fun v => addf v (grp g 0)) ?_
  refine chk (P := k1_chk4 (ixo (grp (F := F) s 0) 128#32)) (inBo (hS 0) (by decide)) ?_
  refine gat (ix := (ixo (grp (F := F) s 0) 128#32)) ?_
  exact ret H

/-- The whole body between the fetches and the write-out: sixteen groups, five updates each. -/
theorem groups (hS : ∀ n, Small (grp (F := F) s n)) {R A : sProp (MT nD τ sig (HIx 1) (Elt F) ℕ UU ℕ)} {Q : PUnit → sProp (MT nD τ sig (HIx 1) (Elt F) ℕ UU ℕ)}
    (H0 : A ⊢ WP (fetches (F := F) L) (fun _ => Held (F := F) d (cV L) (jV L) R s g k f))
    (H : Held (F := F) d (cV L) (jV L) R s g k (accN s g k f 16) ⊢ WP (writeOut (F := F) L) Q) :
    A ⊢ WP (cc1__sc_segment_partials (F := F) L sI (Memref.isWhole_whole _) hS3 (Memref.isWhole_whole _) hG4 (Memref.isWhole_whole _) hC5 (Memref.isWhole_whole _) hO6 (Memref.isWhole_whole _) sS (Memref.isWhole_whole _) sG (Memref.isWhole_whole _) sC (Memref.isWhole_whole _) sA (Memref.isWhole_whole _) cc1_scoped0 cc1_scoped1 cc1_scoped2 cc1_scoped3 cc1_scoped4) Q := by
  unfold cc1__sc_segment_partials
  rw [part1_split, wp_bind, wp_bind]
  refine H0.trans (wp_mono frame _ _ fun _ => ?_)
  refine part1 hS ?_
  try dsimp only
  rw [wp_bind]; refine part2 hS ?_
  try dsimp only
  rw [wp_bind]; refine part3 hS ?_
  try dsimp only
  rw [wp_bind]; refine part4 hS ?_
  try dsimp only
  rw [wp_bind]; refine part5 hS ?_
  try dsimp only
  rw [wp_bind]; refine part6 hS ?_
  try dsimp only
  rw [wp_bind]; refine part7 hS ?_
  try dsimp only
  rw [wp_bind]; refine part8 hS ?_
  try dsimp only
  rw [wp_bind]; refine part9 hS ?_
  try dsimp only
  rw [wp_bind]; refine part10 hS ?_
  try dsimp only
  rw [wp_bind]; refine part11 hS ?_
  try dsimp only
  rw [wp_bind]; refine part12 hS ?_
  try dsimp only
  rw [wp_bind]; refine part13 hS ?_
  try dsimp only
  rw [wp_bind]; refine part14 hS ?_
  try dsimp only
  rw [wp_bind]; refine part15 hS ?_
  try dsimp only
  refine chk (P := k1_chk128 (ixo (grp (F := F) s 15) 256#32)) ⟨(inBo (hS 15) (by decide)), (inBo (hS 15) (by decide))⟩ ?_
  refine gat (ix := (ixo (grp (F := F) s 15) 256#32)) ?_
  refine sca (ixo (grp (F := F) s 15) 256#32) (fun v => maximumf v (grp k 15)) ?_
  exact H

end Cert.Proof.Seg

end
-- ==== Proof.Tile.lean ====
/-
  One tile of the SparseCore call, at a symbolic pair of SparseCore and tile: what it is handed, what it hands back, and its run.
-/
module

public import proofs.«01_k».proof.Proof.Groups

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay ownSems0 ownCells mem_ownCells ownBufs ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The arrays of the call -/

/-- Where the initial accumulator is. -/
abbrev iLoc (d : Dev nD) : Loc nD τ sig := (SparseCore.T d).loc main_v7
/-- Where the cluster numbers are. -/
abbrev sLoc (d : Dev nD) : Loc nD τ sig := (SparseCore.T d).loc main_v8
/-- Where the generations are. -/
abbrev gLoc (d : Dev nD) : Loc nD τ sig := (SparseCore.T d).loc main_v9
/-- Where the consumptions are. -/
abbrev cLoc (d : Dev nD) : Loc nD τ sig := (SparseCore.T d).loc main_v10
/-- Where the partial results are. -/
abbrev oLoc (d : Dev nD) : Loc nD τ sig := (SparseCore.T d).loc main_v11

/-- The contents the call meets: the initial accumulator, the segment words, the generation and consumption values, and the
    result's array before the call. -/
structure In (F : FTy → Type) where
  i7 : Vec F S5120 .f32
  s8 : Vec F S4096 .i32
  g9 : Vec F S4096 .f32
  c10 : Vec F S4096 .f32
  o11 : Vec F S16x5120 .f32

/-- The household of a number. -/
def at4096 (n : ℕ) : S4096.Idx := fun a => ⟨n % 4096, by obtain rfl : a = 0 := Subsingleton.elim _ _; exact Nat.mod_lt _ (by decide)⟩

/-- Tile `w`'s 256 elements of an array of 4096. -/
def piece {e : EltTy} (x : Vec F S4096 e) (w : ℕ) : Vec F S256 e := fun j => x (at4096 (256 * w + (j 0).val))

/-- What tile `w` leaves: its accumulator after its sixteen groups. -/
def tileAcc (X : In F) (w : ℕ) : Vec F S5120 .f32 := accN (piece X.s8 w) (piece X.g9 w) (piece X.c10 w) X.i7 16

/-- The accumulator's word of a number. -/
def at5120 (n : ℕ) : S5120.Idx := fun a => ⟨n % 5120, by obtain rfl : a = 0 := Subsingleton.elim _ _; exact Nat.mod_lt _ (by decide)⟩

/-- The result of the call: row `w` is what tile `w` leaves. -/
def segOut (X : In F) : Vec F S16x5120 .f32 := fun x => tileAcc X (x 0).val (at5120 (x 1).val)

/-- Row `w` of the result. -/
def rowSet (w : Fin 16) : Finset S16x5120.Idx := Finset.univ.filter fun x => (x 0).val = w.val

/-- A tile's share of the inputs. -/
abbrev tq (w : Fin 16) : PosShare TreeShare := Transfers.shareTok fullShare 16 w

section Tile

variable (X : In F) (d : Dev nD) (L : grid1.Coords)

/-- A grid point's tile. -/
abbrev jL (L : grid1.Coords) : Fin 16 := Fin.cast rfl (L 1)

/-- The four arrays read, each under tile `w`'s read share. -/
def ins (w : Fin 16) : sProp 𝕄 :=
  iprop((iLoc d ↦{tq w} X.i7) ∗ (sLoc d ↦{tq w} X.s8) ∗ (gLoc d ↦{tq w} X.g9) ∗ (cLoc d ↦{tq w} X.c10))

/-- One tile's row of the result, holding `f`'s. -/
abbrev rowPts (w : Fin 16) (f : Vec F S16x5120 .f32) : sProp 𝕄 := oLoc d ↦[rowSet w]{fullShare} f

/-- The tile's slice of the cluster numbers. -/
abbrev slS (L : grid1.Coords) : Memref sig .scVector .hbm S256 .i32 := hS3.slice (Rect.unit (s := S4096) (k1_off1 L) S256.size (k1_off1_inb L)) (fun _ => rfl)
/-- The tile's slice of the generations. -/
abbrev slG (L : grid1.Coords) : Memref sig .scVector .hbm S256 .f32 := hG4.slice (Rect.unit (s := S4096) (k1_off1 L) S256.size (k1_off1_inb L)) (fun _ => rfl)
/-- The tile's slice of the consumptions. -/
abbrev slC (L : grid1.Coords) : Memref sig .scVector .hbm S256 .f32 := hC5.slice (Rect.unit (s := S4096) (k1_off1 L) S256.size (k1_off1_inb L)) (fun _ => rfl)
/-- The tile's row of the result. -/
abbrev slO (L : grid1.Coords) : Memref sig .scVector .hbm S5120 .f32 :=
  (hO6.slice (Rect.unit (s := S16x5120) (k1_off2 L) S1x5120.size (k1_off2_inb L)) (fun _ => rfl)).squeeze S5120 squeezes_S1x5120_S5120

/-- A tile's slice starts at 256 times its number. -/
theorem off1_emb (j : S256.Idx) : (Rect.unit (s := S4096) (k1_off1 L) S256.size (k1_off1_inb L)).emb j = at4096 (256 * (L 1).val + (j 0).val) := by
  funext a; apply Fin.ext
  obtain rfl : a = 0 := Subsingleton.elim _ _
  have hj : (j 0).val < 256 := (j 0).isLt
  have hL : (L 1).val < 16 := (L 1).isLt
  have e : (at4096 (256 * (L 1).val + (j 0).val) 0).val = 256 * (L 1).val + (j 0).val := Nat.mod_eq_of_lt (by omega)
  rw [e, Rect.emb_apply]
  show (k1_off1 L) 0 + 1 * (j 0).val = _
  rw [k1_off1_eq]
  show 256 * (L 1).val + 1 * (j 0).val = _
  omega

/-- The tile's slice of the cluster numbers is its piece of them. -/
theorem read_slS (x : Vec F S4096 .i32) : (slS L).view.read (Elt F) x = piece x (L 1).val := by
  funext j
  show x ((Rect.unit (s := S4096) (k1_off1 L) S256.size (k1_off1_inb L)).emb j) = _
  rw [off1_emb]; rfl
/-- The tile's slice of the generations is its piece of them. -/
theorem read_slG (x : Vec F S4096 .f32) : (slG L).view.read (Elt F) x = piece x (L 1).val := by
  funext j
  show x ((Rect.unit (s := S4096) (k1_off1 L) S256.size (k1_off1_inb L)).emb j) = _
  rw [off1_emb]; rfl
/-- The tile's slice of the consumptions is its piece of them. -/
theorem read_slC (x : Vec F S4096 .f32) : (slC L).view.read (Elt F) x = piece x (L 1).val := by
  funext j
  show x ((Rect.unit (s := S4096) (k1_off1 L) S256.size (k1_off1_inb L)).emb j) = _
  rw [off1_emb]; rfl

/-- Where the row's slice puts element `j`: row `L 1`, column `j`. -/
theorem slO_emb (j : S5120.Idx) : ((slO L).view.emb j 0).val = (L 1).val ∧ ((slO L).view.emb j 1).val = (j 0).val := by
  have e : (slO L).view.emb j
      = (Rect.unit (s := S16x5120) (k1_off2 L) S1x5120.size (k1_off2_inb L)).emb (Shape.reshapeEquiv squeezes_S1x5120_S5120.numel_eq j) := rfl
  rw [e, Shape.reshapeEquiv_cons_one]
  constructor
  · show (k1_off2 L) 0 + 1 * 0 = _
    rw [k1_off2_eq]; rfl
  · show (k1_off2 L) 1 + 1 * (j 0).val = _
    rw [k1_off2_eq]
    show 0 + 1 * (j 0).val = _
    omega

/-- The tile's slice of the result is its row. -/
theorem slO_set : (slO L).view.set = rowSet (jL L) := by
  ext x
  simp only [rowSet, Finset.mem_filter, Finset.mem_univ, true_and]
  constructor
  · intro h
    obtain ⟨j, -, rfl⟩ := Finset.mem_map.mp h
    exact (slO_emb L j).1
  · intro h
    refine Finset.mem_map.mpr ⟨at5120 (x 1).val, Finset.mem_univ _, ?_⟩
    funext a; apply Fin.ext
    match a with
    | 0 => exact (slO_emb L _).1.trans h.symm
    | 1 => exact (slO_emb L _).2.trans (Nat.mod_eq_of_lt (x 1).isLt)

/-- What the write-out leaves on tile `L`'s row is the row of the call's result. -/
theorem row_written (f : Vec F S16x5120 .f32) (x : S16x5120.Idx) (hx : x ∈ rowSet (jL L)) :
    (slO L).view.write (Elt F) f (tileAcc X (L 1).val) Finset.univ x = segOut X x := by
  rw [← slO_set L] at hx
  obtain ⟨j, -, rfl⟩ := Finset.mem_map.mp hx
  have := View.write_emb_of_mem (Val := Elt F) (v := (slO L).view) f (tileAcc X (L 1).val) (Finset.mem_univ j)
  rw [this]
  unfold segOut
  rw [(slO_emb L j).1, (slO_emb L j).2]
  have e : at5120 (j 0).val = j := by
    funext a; apply Fin.ext
    obtain rfl : a = 0 := Subsingleton.elim _ _
    exact Nat.mod_eq_of_lt (j 0).isLt
  rw [e]; rfl

/-! ## A tile's own buffers and semaphores -/

/-- A tile's semaphores, one by one. -/
theorem ownSems0_V :
    (ownSems0 (V d (cV L) (jV L)) : sProp 𝕄)
      = iprop(semVal (V d (cV L) (jV L), .dma cc1_scoped0.sem) 0 ∗ semVal (V d (cV L) (jV L), .dma cc1_scoped1.sem) 0
          ∗ semVal (V d (cV L) (jV L), .dma cc1_scoped2.sem) 0 ∗ semVal (V d (cV L) (jV L), .dma cc1_scoped3.sem) 0
          ∗ semVal (V d (cV L) (jV L), .dma cc1_scoped4.sem) 0
          ∗ bigSep ((((((ownCells (V d (cV L) (jV L))).erase (V d (cV L) (jV L), .dma cc1_scoped0.sem)).erase (V d (cV L) (jV L), .dma cc1_scoped1.sem)).erase
              (V d (cV L) (jV L), .dma cc1_scoped2.sem)).erase (V d (cV L) (jV L), .dma cc1_scoped3.sem)).erase (V d (cV L) (jV L), .dma cc1_scoped4.sem))
              fun g => semVal g 0) := by
  have ne : ∀ a b : SemLoc sig, a ≠ b → ((V d (cV L) (jV L), a) : GSem nD τ sig) ≠ (V d (cV L) (jV L), b) :=
    fun a b h e => h (Prod.mk.inj e).2
  have mem : ∀ a : SemLoc sig, a.isScoped .scVector = true → ((V d (cV L) (jV L), a) : GSem nD τ sig) ∈ ownCells (V d (cV L) (jV L)) :=
    fun a h => (mem_ownCells (g := (V d (cV L) (jV L), a))).mpr ⟨rfl, h⟩
  unfold SparseCore.Cfg.ownSems0
  rw [SparseCore.bigSep_erase' (mem (.dma cc1_scoped0.sem) (by decide)),
    SparseCore.bigSep_erase' (Finset.mem_erase.mpr ⟨ne (.dma cc1_scoped1.sem) _ (by decide), mem _ (by decide)⟩),
    SparseCore.bigSep_erase' (Finset.mem_erase.mpr ⟨ne (.dma cc1_scoped2.sem) _ (by decide),
      Finset.mem_erase.mpr ⟨ne (.dma cc1_scoped2.sem) _ (by decide), mem _ (by decide)⟩⟩),
    SparseCore.bigSep_erase' (Finset.mem_erase.mpr ⟨ne (.dma cc1_scoped3.sem) _ (by decide),
      Finset.mem_erase.mpr ⟨ne (.dma cc1_scoped3.sem) _ (by decide), Finset.mem_erase.mpr ⟨ne (.dma cc1_scoped3.sem) _ (by decide), mem _ (by decide)⟩⟩⟩),
    SparseCore.bigSep_erase' (Finset.mem_erase.mpr ⟨ne (.dma cc1_scoped4.sem) _ (by decide),
      Finset.mem_erase.mpr ⟨ne (.dma cc1_scoped4.sem) _ (by decide), Finset.mem_erase.mpr ⟨ne (.dma cc1_scoped4.sem) _ (by decide),
        Finset.mem_erase.mpr ⟨ne (.dma cc1_scoped4.sem) _ (by decide), mem _ (by decide)⟩⟩⟩⟩)]

/-- A tile's scratch buffers, one by one. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have ne : ∀ a b : Ref sig .scVector, a ≠ b → (Proc.scVector (cV L) (jV L)).devRef a ≠ (Proc.scVector (cV L) (jV L)).devRef b :=
    fun a b h e => h (Proc.devRef_injective _ e)
  have mem : ∀ a : Ref sig .scVector, ((Proc.scVector (cV L) (jV L)).devRef a).owner = .proc (Proc.scVector (cV L) (jV L)) →
      (Proc.scVector (cV L) (jV L)).devRef a ∈ ownRefs (τ := τ) (.scVector (cV L) (jV L)) :=
    fun a h => SparseCore.Cfg.mem_ownRefs_of_owner (p := Proc.scVector (cV L) (jV L)) (b := (Proc.scVector (cV L) (jV L)).devRef a) h
  unfold SparseCore.Cfg.ownBufs
  refine (SparseCore.bigSep_erase' (mem cc1_scratch0 rfl)).trans ?_
  rw [SparseCore.bigSep_erase' (Finset.mem_erase.mpr ⟨ne cc1_scratch1 _ (by decide), mem cc1_scratch1 rfl⟩),
    SparseCore.bigSep_erase' (Finset.mem_erase.mpr ⟨ne cc1_scratch2 _ (by decide), Finset.mem_erase.mpr ⟨ne cc1_scratch2 _ (by decide), mem cc1_scratch2 rfl⟩⟩),
    SparseCore.bigSep_erase' (Finset.mem_erase.mpr ⟨ne cc1_scratch3 _ (by decide), Finset.mem_erase.mpr ⟨ne cc1_scratch3 _ (by decide),
      Finset.mem_erase.mpr ⟨ne cc1_scratch3 _ (by decide), mem cc1_scratch3 rfl⟩⟩⟩)]

/-! ## The run -/

/-- What a tile holds through the accumulation beside its four scratch buffers. -/
def rest (O : CellTallies nD τ sig (HIx 1)) (W : Waits sig (HIx 1)) : sProp 𝕄 :=
  iprop(levAts (K (F := F)).L (K (F := F)).lev ∗ ins X d (jL L) ∗ rowPts d (jL L) X.o11
    ∗ semVal (V d (cV L) (jV L), .dma cc1_scoped0.sem) 0 ∗ semVal (V d (cV L) (jV L), .dma cc1_scoped1.sem) 0
    ∗ semVal (V d (cV L) (jV L), .dma cc1_scoped2.sem) 0 ∗ semVal (V d (cV L) (jV L), .dma cc1_scoped3.sem) 0
    ∗ semVal (V d (cV L) (jV L), .dma cc1_scoped4.sem) 0
    ∗ ∃ W', ⌜∀ p ∈ W', p ∈ W ∨ p.2 = none⌝ ∗ owes (V d (cV L) (jV L)) O W')

local notation "WP" => wp frame (wpE (defs₀ (F := F)) 𝒱₀ (V d (cV L) (jV L)) none) Set.univ

/-- The four fetches: the scratch buffers hold the tile's pieces and the initial accumulator. -/
theorem fetches_run (O : CellTallies nD τ sig (HIx 1)) (W : Waits sig (HIx 1)) (hO : ∀ g, O g none = 0) :
    iprop((∃ f, (V d (cV L) (jV L)).loc cc1_scratch0 ↦{fullShare} f) ∗ (∃ f, (V d (cV L) (jV L)).loc cc1_scratch1 ↦{fullShare} f)
        ∗ (∃ f, (V d (cV L) (jV L)).loc cc1_scratch2 ↦{fullShare} f) ∗ (∃ f, (V d (cV L) (jV L)).loc cc1_scratch3 ↦{fullShare} f) ∗ rest X d L O W)
      ⊢ WP (fetches (F := F) L) fun _ => Held (F := F) d (cV L) (jV L) (rest X d L O W) (piece X.s8 (L 1).val) (piece X.g9 (L 1).val) (piece X.c10 (L 1).val) X.i7 := by
  unfold rest ins
  iintro ⟨⟨%fs, Hs⟩, ⟨%fg, Hg⟩, ⟨%fc, Hc⟩, ⟨%fa, Ha⟩, #Hlv, ⟨Hi7, Hs8, Hg9, Hc10⟩, Ho, H0, H1, H2, H3, H4, %W', %hW', HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs8' := (show (sLoc d ↦{tq (jL L)} X.s8 : sProp 𝕄) ⊢ (hS3.view.loc (V d (cV L) (jV L)) ↦{tq (jL L)} X.s8) from Entails.of_eq rfl) $$ Hs8
  ihave Hg9' := (show (gLoc d ↦{tq (jL L)} X.g9 : sProp 𝕄) ⊢ (hG4.view.loc (V d (cV L) (jV L)) ↦{tq (jL L)} X.g9) from Entails.of_eq rfl) $$ Hg9
  ihave Hc10' := (show (cLoc d ↦{tq (jL L)} X.c10 : sProp 𝕄) ⊢ (hC5.view.loc (V d (cV L) (jV L)) ↦{tq (jL L)} X.c10) from Entails.of_eq rfl) $$ Hc10
  ihave Hi7' := (show (iLoc d ↦{tq (jL L)} X.i7 : sProp 𝕄) ⊢ (sI.view.loc (V d (cV L) (jV L)) ↦{tq (jL L)} X.i7) from Entails.of_eq rfl) $$ Hi7
  ihave Hs' := (show ((V d (cV L) (jV L)).loc cc1_scratch0 ↦{fullShare} fs : sProp 𝕄) ⊢ (sS.view.loc (V d (cV L) (jV L)) ↦{fullShare} fs) from Entails.of_eq rfl) $$ Hs
  ihave Hg' := (show ((V d (cV L) (jV L)).loc cc1_scratch1 ↦{fullShare} fg : sProp 𝕄) ⊢ (sG.view.loc (V d (cV L) (jV L)) ↦{fullShare} fg) from Entails.of_eq rfl) $$ Hg
  ihave Hc' := (show ((V d (cV L) (jV L)).loc cc1_scratch2 ↦{fullShare} fc : sProp 𝕄) ⊢ (sC.view.loc (V d (cV L) (jV L)) ↦{fullShare} fc) from Entails.of_eq rfl) $$ Hc
  ihave Ha' := (show ((V d (cV L) (jV L)).loc cc1_scratch3 ↦{fullShare} fa : sProp 𝕄) ⊢ (sA.view.loc (V d (cV L) (jV L)) ↦{fullShare} fa) from Entails.of_eq rfl) $$ Ha
  unfold fetches
  sl_exec
  sl_step
  have es : View.write (Elt F) sS.view fs (fetches_run.sl.dma0 X L) Finset.univ = piece X.s8 (L 1).val :=
    (View.write_whole_univ _ _ _).trans (read_slS L X.s8)
  have eg : View.write (Elt F) sG.view fg (fetches_run.sl.dma0_1 X L) Finset.univ = piece X.g9 (L 1).val :=
    (View.write_whole_univ _ _ _).trans (read_slG L X.g9)
  have ec : View.write (Elt F) sC.view fc (fetches_run.sl.dma0_2 X L) Finset.univ = piece X.c10 (L 1).val :=
    (View.write_whole_univ _ _ _).trans (read_slC L X.c10)
  have ea : View.write (Elt F) sA.view fa (fetches_run.sl.dma0_3 X) Finset.univ = X.i7 := View.write_whole_univ _ _ _
  rw [es, eg, ec, ea]
  unfold Held
  isplitl [Hs']; · iexact Hs'
  isplitl [Hg']; · iexact Hg'
  isplitl [Hc']; · iexact Hc'
  isplitl [Ha']; · iexact Ha'
  isplitr; · iexact Hlv
  isplitl [Hi7' Hs8' Hg9' Hc10']
  · isplitl [Hi7']; · iexact Hi7'
    isplitl [Hs8']; · iexact Hs8'
    isplitl [Hg9']; · iexact Hg9'
    iexact Hc10'
  isplitl [Ho]; · iexact Ho
  isplitl [H0]; · iexact H0
  isplitl [H1]; · iexact H1
  isplitl [H2]; · iexact H2
  isplitl [H3]; · iexact H3
  isplitl [H4]; · iexact H4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The write-out: the tile's row holds its accumulator, the buffers and the semaphores are back. -/
theorem writeOut_run (O : CellTallies nD τ sig (HIx 1)) (W : Waits sig (HIx 1)) (hO : ∀ g, O g none = 0) (s : Vec F S256 .i32) (g c : Vec F S256 .f32) :
    Held (F := F) d (cV L) (jV L) (rest X d L O W) s g c (tileAcc X (L 1).val)
      ⊢ WP (writeOut (F := F) L) fun _ => iprop((ins X d (jL L) ∗ rowPts d (jL L) (segOut X))
        ∗ ((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f))
        ∗ (semVal (V d (cV L) (jV L), .dma cc1_scoped0.sem) 0 ∗ semVal (V d (cV L) (jV L), .dma cc1_scoped1.sem) 0
          ∗ semVal (V d (cV L) (jV L), .dma cc1_scoped2.sem) 0 ∗ semVal (V d (cV L) (jV L), .dma cc1_scoped3.sem) 0
          ∗ semVal (V d (cV L) (jV L), .dma cc1_scoped4.sem) 0)
        ∗ ∃ W', ⌜∀ p ∈ W', p ∈ W ∨ p.2 = none⌝ ∗ owes (V d (cV L) (jV L)) O W') := by
  unfold Held rest
  iintro ⟨Hs, Hg, Hc, Ha, #Hlv, Hin, Ho, H0, H1, H2, H3, H4, %W', %hW', HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (show ((V d (cV L) (jV L)).loc cc1_scratch3 ↦{fullShare} tileAcc X (L 1).val : sProp 𝕄)
    ⊢ (sA.view.loc (V d (cV L) (jV L)) ↦{fullShare} tileAcc X (L 1).val) from Entails.of_eq rfl) $$ Ha
  ihave Ho' := (show (rowPts d (jL L) X.o11 : sProp 𝕄) ⊢ ((slO L).view.loc (V d (cV L) (jV L)) ↦[(slO L).view.set]{fullShare} X.o11) from
    Entails.of_eq (by rw [slO_set])) $$ Ho
  unfold writeOut
  sl_exec
  sl_step
  ihave Ho := (show ((slO L).view.loc (V d (cV L) (jV L)) ↦[(slO L).view.set]{fullShare}
      (slO L).view.writes (Elt F) X.o11 [⟨Rect.whole S5120, writeOut_run.sl.dma0 X L⟩] : sProp 𝕄) ⊢ rowPts d (jL L) (segOut X) from by
    have e : writeOut_run.sl.dma0 X L = tileAcc X (L 1).val := by
      delta writeOut_run.sl.dma0; rfl
    rw [e, ← View.write_univ_eq_writes_whole, slO_set]
    exact Entails.of_eq (pointsTo_congr fun x hx => row_written X L X.o11 x hx)) $$ Ho'
  isplitl [Hin Ho]
  · isplitl [Hin]; · iexact Hin
    iexact Ho
  isplitl [Hs Hg Hc Ha']
  · isplitl [Hs]; · iexists _; iexact Hs
    isplitl [Hg]; · iexists _; iexact Hg
    isplitl [Hc]; · iexists _; iexact Hc
    iexists _; iexact Ha'
  isplitl [H0 H1 H2 H3 H4]
  · isplitl [H0]; · iexact H0
    isplitl [H1]; · iexact H1
    isplitl [H2]; · iexact H2
    isplitl [H3]; · iexact H3
    iexact H4
  iexists _; isplitr
  swap; · iexact HO
  ipureintro; intro p hp
  rcases Finset.mem_insert.mp hp with hp | hp; · exact .inr (hp ▸ rfl)
  exact hW' p hp

/-- Every segment word of the array is below 64. -/
abbrev Small4096 (s : Vec F S4096 .i32) : Prop := ∀ j, BitVec.toNat (s j) < 64

/-- The task on vector subcore `(L 0, L 1)` of device `d`: the fetches, the sixteen groups, the write-out. -/
theorem tile_body (hF : (K (F := F)).Facts) (hX : Small4096 (F := F) X.s8) (O : CellTallies nD τ sig (HIx 1)) (W : Waits sig (HIx 1)) (hO : ∀ g, O g none = 0) :
    iprop(levAts (K (F := F)).L (K (F := F)).lev ∗ emp ∗ (ins X d (jL L) ∗ rowPts d (jL L) X.o11)
        ∗ scopedBufs (V d (cV L) (jV L)) ∗ scopedSems0 (V d (cV L) (jV L)) ∗ owes (V d (cV L) (jV L)) O W)
      ⊢ WP (cc1__sc_segment_partials (F := F) L sI (Memref.isWhole_whole _) hS3 (Memref.isWhole_whole _) hG4 (Memref.isWhole_whole _) hC5 (Memref.isWhole_whole _)
            hO6 (Memref.isWhole_whole _) sS (Memref.isWhole_whole _) sG (Memref.isWhole_whole _) sC (Memref.isWhole_whole _) sA (Memref.isWhole_whole _)
            cc1_scoped0 cc1_scoped1 cc1_scoped2 cc1_scoped3 cc1_scoped4)
          fun _ => iprop((ins X d (jL L) ∗ rowPts d (jL L) (segOut X)) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  have hS : ∀ n, Small (grp (F := F) (piece X.s8 (L 1).val) n) := fun n j => hX _
  have key := groups (F := F) (d := d) (L := L) (g := piece X.g9 (L 1).val) (k := piece X.c10 (L 1).val) (f := X.i7) hS (fetches_run X d L O W hO)
    (writeOut_run X d L O W hO (piece X.s8 (L 1).val) (piece X.g9 (L 1).val) (piece X.c10 (L 1).val))
  iintro ⟨#Hlv, -, ⟨Hin, Ho⟩, ⟨Hs, Hg, Hc, Ha, Hbufs⟩, ⟨H0, H1, H2, H3, H4, Hsems⟩, HO⟩
  iapply (wp_wand_r frame _ _)
  isplitl [Hin Ho Hs Hg Hc Ha H0 H1 H2 H3 H4 HO]
  · iapply key
    unfold rest
    isplitl [Hs]; · iexact Hs
    isplitl [Hg]; · iexact Hg
    isplitl [Hc]; · iexact Hc
    isplitl [Ha]; · iexact Ha
    isplitr; · iexact Hlv
    isplitl [Hin]; · iexact Hin
    isplitl [Ho]; · iexact Ho
    isplitl [H0]; · iexact H0
    isplitl [H1]; · iexact H1
    isplitl [H2]; · iexact H2
    isplitl [H3]; · iexact H3
    isplitl [H4]; · iexact H4
    iexists W; isplitr
    · ipureintro; exact fun p hp => .inl hp
    iexact HO
  iintro %a ⟨Hio, ⟨Hs, Hg, Hc, Ha⟩, ⟨H0, H1, H2, H3, H4⟩, HO⟩
  isplitl [Hio]; · iexact Hio
  isplitl [Hs Hg Hc Ha Hbufs]
  · isplitl [Hs]; · iexact Hs
    isplitl [Hg]; · iexact Hg
    isplitl [Hc]; · iexact Hc
    isplitl [Ha]; · iexact Ha
    iexact Hbufs
  isplitl [H0 H1 H2 H3 H4 Hsems]
  · isplitl [H0]; · iexact H0
    isplitl [H1]; · iexact H1
    isplitl [H2]; · iexact H2
    isplitl [H3]; · iexact H3
    isplitl [H4]; · iexact H4
    iexact Hsems
  iexact HO

end Tile

end Cert.Proof.Seg

end
-- ==== Proof.Call.lean ====
/-
  The SparseCore call as a whole: what it takes and hands back, its split over the sixteen tiles, and each tile's task.
-/
module

public import proofs.«01_k».proof.Proof.Tile

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the call takes and hands back -/

/-- The four arrays the call reads, whole. -/
def insW (X : In F) (d : Dev nD) : sProp 𝕄 :=
  iprop((iLoc d ↦{fullShare} X.i7) ∗ (sLoc d ↦{fullShare} X.s8) ∗ (gLoc d ↦{fullShare} X.g9) ∗ (cLoc d ↦{fullShare} X.c10))

/-- The call's result buffer, whole, holding `f`. -/
abbrev outW (d : Dev nD) (f : Vec F S16x5120 .f32) : sProp 𝕄 := oLoc d ↦{fullShare} f

instance insW_storable (X : In F) (d : Dev nD) : BI.Storable (upEmb : UEmb _ 𝕄) (insW X d) := by unfold insW; infer_instance
instance ins_storable (X : In F) (d : Dev nD) (w : Fin 16) : BI.Storable (upEmb : UEmb _ 𝕄) (ins X d w) := by unfold ins; infer_instance

variable (X : Dev nD → In F)

/-- The payload of the call's handshakes. -/
def P : (K (F := F)).Pay (nD := nD) (Val := Elt F) (Name := ℕ) (U := UU) where
  st := fun q d _ => match q with | 0 => iprop(insW (X d) d ∗ outW d (X d).o11)
  dn := fun q d _ => match q with | 0 => iprop(insW (X d) d ∗ outW d (segOut (X d)))
  go := fun q d _ i => match q with
    | 0 => iprop(ins (X d) d (Fin.cast nSub_zero i) ∗ rowPts d (Fin.cast nSub_zero i) (X d).o11)
  td := fun q d _ i => match q with
    | 0 => iprop(ins (X d) d (Fin.cast nSub_zero i) ∗ rowPts d (Fin.cast nSub_zero i) (segOut (X d)))
  x := fun _ _ => iprop(emp)

instance P_storable : (P (F := F) X).IsStorable where
  st q d _ := match q with
    | 0 => (inferInstance : BI.Storable (upEmb : UEmb _ 𝕄) iprop(insW (X d) d ∗ outW d (X d).o11))
  dn q d _ := match q with
    | 0 => (inferInstance : BI.Storable (upEmb : UEmb _ 𝕄) iprop(insW (X d) d ∗ outW d (segOut (X d))))
  go q d _ i := match q with
    | 0 => (inferInstance : BI.Storable (upEmb : UEmb _ 𝕄) iprop(ins (X d) d (Fin.cast nSub_zero i) ∗ rowPts d (Fin.cast nSub_zero i) (X d).o11))
  td q d _ i := match q with
    | 0 => (inferInstance : BI.Storable (upEmb : UEmb _ 𝕄) iprop(ins (X d) d (Fin.cast nSub_zero i) ∗ rowPts d (Fin.cast nSub_zero i) (segOut (X d))))

/-! ## The tile's obligation -/

/-- The grid point of a SparseCore and a tile. -/
def coordsV (c : Fin (grid1.bound 0)) (s : Fin (grid1.bound 1)) : grid1.Coords :=
  fun | 0 => c | 1 => s | ⟨_ + 2, h⟩ => absurd h (Nat.not_lt.2 (Nat.le_add_left _ _))

/-- What a tile runs in the call is the kernel's body at its grid point. -/
theorem defs₀_vector (c : Fin τ.nSC) (s : Fin τ.nSub) :
    defs₀ (F := F) (.scVector c s) 1 ()
      = SparseCore.onTile hcore1 hsub1 (fun c s => cc1__sc_segment_partials (coordsV c s)
          sI (Memref.isWhole_whole _) hS3 (Memref.isWhole_whole _) hG4 (Memref.isWhole_whole _) hC5 (Memref.isWhole_whole _)
          hO6 (Memref.isWhole_whole _) sS (Memref.isWhole_whole _) sG (Memref.isWhole_whole _) sC (Memref.isWhole_whole _) sA (Memref.isWhole_whole _)
          cc1_scoped0 cc1_scoped1 cc1_scoped2 cc1_scoped3 cc1_scoped4) ⟨⟩ c s := rfl

omit [FloatOps F] in
/-- A tile's obligations at its end, weakened to what the launch asks of it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile runs its task, from what it is handed to what it hands back. -/
theorem tileObl (hF : (K (F := F)).Facts) (hX : ∀ d, Small4096 (F := F) (X d).s8) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body (X d) d (coordsV ⟨_, hc.1⟩ ⟨_, hc.2⟩) hF (hX d) O W hO).trans (wp_mono frame _ _ fun _ => obl_post)

/-! ## The split over the tiles -/

/-- Different tiles' rows of the result share no word. -/
theorem rows_disjoint : ∀ i ∈ (Finset.univ : Finset (Fin 16)), ∀ j ∈ (Finset.univ : Finset (Fin 16)), i ≠ j → Disjoint (rowSet i) (rowSet j) := by
  intro i _ j _ h
  refine Finset.disjoint_left.mpr fun x hi hj => h (Fin.ext ?_)
  exact (Finset.mem_filter.mp hi).2.symm.trans (Finset.mem_filter.mp hj).2
/-- The sixteen rows are the whole result. -/
theorem rows_cover : (Finset.univ : Finset (Fin 16)).biUnion rowSet = Finset.univ := by
  refine Finset.eq_univ_iff_forall.mpr fun x => Finset.mem_biUnion.mpr ⟨⟨(x 0).val, (x 0).isLt⟩, Finset.mem_univ _, ?_⟩
  exact Finset.mem_filter.mpr ⟨Finset.mem_univ _, rfl⟩

/-- The result buffer is its sixteen rows, one for each tile. -/
theorem out_rows (d : Dev nD) (f : Vec F S16x5120 .f32) :
    (outW d f : sProp 𝕄) = bigSep Finset.univ fun i : Fin 16 => rowPts d i f := by
  rw [← pointsTo_biUnion Finset.univ (ℓ := oLoc d) rowSet rows_disjoint, rows_cover]

omit [FloatOps F] in
/-- Ranging over the call's tiles is ranging over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's arrays go out as sixteen read shares and sixteen rows, and come back whole. -/
theorem vecSplit : (K (F := F)).VecSplit' (P X) 0 := by
  intro d c
  show iprop(insW (X d) d ∗ outW d (X d).o11) ⊢ |={Set.univ}=> iprop(
      (bigSep Finset.univ fun i : Fin ((K (F := F)).nSub 0) =>
        iprop(ins (X d) d (Fin.cast nSub_zero i) ∗ rowPts d (Fin.cast nSub_zero i) (X d).o11))
      ∗ ((bigSep Finset.univ fun i : Fin ((K (F := F)).nSub 0) =>
          iprop(ins (X d) d (Fin.cast nSub_zero i) ∗ rowPts d (Fin.cast nSub_zero i) (segOut (X d))))
          -∗ iprop(insW (X d) d ∗ outW d (segOut (X d)))))
  rw [bigSep_tasks (F := F) (fun i => iprop(ins (X d) d i ∗ rowPts d i (X d).o11)),
    bigSep_tasks (F := F) (fun i => iprop(ins (X d) d i ∗ rowPts d i (segOut (X d)))), bigSep_sep', bigSep_sep', ← out_rows, ← out_rows]
  have hins : (bigSep Finset.univ fun i : Fin 16 => ins (X d) d i)
      = (iprop((bigSep Finset.univ fun i : Fin 16 => iLoc d ↦{tq i} (X d).i7) ∗ (bigSep Finset.univ fun i : Fin 16 => sLoc d ↦{tq i} (X d).s8)
        ∗ (bigSep Finset.univ fun i : Fin 16 => gLoc d ↦{tq i} (X d).g9) ∗ (bigSep Finset.univ fun i : Fin 16 => cLoc d ↦{tq i} (X d).c10)) : sProp 𝕄) := by
    unfold ins; rw [bigSep_sep', bigSep_sep', bigSep_sep']
  rw [hins]
  unfold insW
  iintro ⟨⟨Hi, Hs, Hg, Hc⟩, Ho⟩
  ihave Hi' := (Transfers.pointsTo_toks_split fullShare 16) $$ Hi
  ihave Hs' := (Transfers.pointsTo_toks_split fullShare 16) $$ Hs
  ihave Hg' := (Transfers.pointsTo_toks_split fullShare 16) $$ Hg
  ihave Hc' := (Transfers.pointsTo_toks_split fullShare 16) $$ Hc
  icases Hi' with ⟨Hi0, Hi⟩
  icases Hs' with ⟨Hs0, Hs⟩
  icases Hg' with ⟨Hg0, Hg⟩
  icases Hc' with ⟨Hc0, Hc⟩
  imodintro
  isplitl [Hi Hs Hg Hc Ho]
  · isplitr [Ho]
    · isplitl [Hi]; · iexact Hi
      isplitl [Hs]; · iexact Hs
      isplitl [Hg]; · iexact Hg
      iexact Hc
    iexact Ho
  iintro ⟨⟨Hi, Hs, Hg, Hc⟩, Ho⟩
  isplitr [Ho]
  · isplitl [Hi Hi0]
    · iapply (Transfers.pointsTo_toks_join fullShare 16); isplitl [Hi0]; · iexact Hi0
      iexact Hi
    isplitl [Hs Hs0]
    · iapply (Transfers.pointsTo_toks_join fullShare 16); isplitl [Hs0]; · iexact Hs0
      iexact Hs
    isplitl [Hg Hg0]
    · iapply (Transfers.pointsTo_toks_join fullShare 16); isplitl [Hg0]; · iexact Hg0
      iexact Hg
    iapply (Transfers.pointsTo_toks_join fullShare 16); isplitl [Hc0]; · iexact Hc0
    iexact Hc
  iexact Ho

end Cert.Proof.Seg

end
-- ==== Proof.Main.lean ====
/-
  The device's main program: the streaming region, the host operations that lay out the SparseCore call's operands, the
  call, and the combining region, with the contents of every buffer named at each step.
-/
module

public import proofs.«01_k».proof.Proof.Segs
public import proofs.«01_k».proof.Proof.Call

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (RegionSeg ucRefs)

/-! ### The buffers at each step -/

/-- The weights reshaped to one row. -/
def opA : HloOp τ sig (Elt F) := StableHlo.reshape main_arg5 main_v0 (rfl : (.f32 : EltTy) = .f32) shapeCasts_S5_S1x5
/-- The constant 0. -/
def opB0 : HloOp τ sig (Elt F) := StableHlo.nullary main_cst (constant S_ .f32 0x00000000#32)
/-- 256 zeros. -/
def opB1 : HloOp τ sig (Elt F) := StableHlo.unary main_cst main_v2 (broadcastInDim S256 ![] bcast_S_S256 : (⟨S_, .f32⟩ : BufTy).Contents (Elt F) → (⟨S256, .f32⟩ : BufTy).Contents (Elt F))
/-- The constant −∞. -/
def opB2 : HloOp τ sig (Elt F) := StableHlo.nullary main_cst_0 (constant S_ .f32 0xFF800000#32)
/-- 64 times −∞. -/
def opB3 : HloOp τ sig (Elt F) := StableHlo.unary main_cst_0 main_v3 (broadcastInDim S64 ![] bcast_S_S64 : (⟨S_, .f32⟩ : BufTy).Contents (Elt F) → (⟨S64, .f32⟩ : BufTy).Contents (Elt F))
/-- One lane's initial words: the 256 zeros and then the 64 −∞. -/
def opB4 : HloOp τ sig (Elt F) := StableHlo.binary main_v2 main_v3 main_v4 ((fun a b => concatenate S320 0 [⟨S256, a⟩, ⟨S64, b⟩] concatenates_S256_S64_S320_d0) : (⟨S256, .f32⟩ : BufTy).Contents (Elt F) → (⟨S64, .f32⟩ : BufTy).Contents (Elt F) → (⟨S320, .f32⟩ : BufTy).Contents (Elt F))
/-- One lane's initial words as one row. -/
def opB5 : HloOp τ sig (Elt F) := StableHlo.reshape main_v4 main_v5 (rfl : (.f32 : EltTy) = .f32) shapeCasts_S320_S1x320
/-- That row sixteen times, once for each lane. -/
def opB6 : HloOp τ sig (Elt F) := StableHlo.unary main_v5 main_v6 (broadcastInDim S16x320 ![0, 1] bcast_S1x320_S16x320_0_1 : (⟨S1x320, .f32⟩ : BufTy).Contents (Elt F) → (⟨S16x320, .f32⟩ : BufTy).Contents (Elt F))
/-- The initial accumulator as one vector. -/
def opB7 : HloOp τ sig (Elt F) := StableHlo.reshape main_v6 main_v7 (rfl : (.f32 : EltTy) = .f32) shapeCasts_S16x320_S5120
/-- The cluster numbers as a vector. -/
def opB8 : HloOp τ sig (Elt F) := StableHlo.reshape main_arg0 main_v8 (rfl : (.i32 : EltTy) = .i32) shapeCasts_S1x4096_S4096
/-- The generations as a vector. -/
def opB9 : HloOp τ sig (Elt F) := StableHlo.reshape main_arg1 main_v9 (rfl : (.f32 : EltTy) = .f32) shapeCasts_S1x4096_S4096
/-- The consumptions as a vector. -/
def opB10 : HloOp τ sig (Elt F) := StableHlo.reshape main_arg2 main_v10 (rfl : (.f32 : EltTy) = .f32) shapeCasts_S1x4096_S4096
/-- The partial results as 256 rows of 320. -/
def opC : HloOp τ sig (Elt F) := StableHlo.reshape main_v11 main_v12 (rfl : (.f32 : EltTy) = .f32) shapeCasts_S16x5120_S256x320

/-- The buffers before the streaming region, from those at the launch; -/
def vA (V : Valuation τ sig (Elt F)) : Valuation τ sig (Elt F) := opA.result V
/-- after the host operations that follow it; -/
def vB (V : Valuation τ sig (Elt F)) : Valuation τ sig (Elt F) :=
  opB10.result (opB9.result (opB8.result (opB7.result (opB6.result (opB5.result (opB4.result (opB3.result (opB2.result (opB1.result (opB0.result V))))))))))
/-- what the SparseCore call takes; -/
def inOf (V : Valuation τ sig (Elt F)) : In F := ⟨V main_v7, V main_v8, V main_v9, V main_v10, V main_v11⟩
/-- the buffers after the call, -/
def vC (V : Valuation τ sig (Elt F)) : Valuation τ sig (Elt F) := Function.update V (main_v11 : DevRef τ sig) (segOut (inOf V))

/-- Before the call, before the combining region, and at the end. -/
def atCall (d : Dev nD) (V : Valuation τ sig (Elt F)) : Valuation τ sig (Elt F) := vB (after0 d (vA V))
/-- The buffers when the combining call starts. -/
def atComb (d : Dev nD) (V : Valuation τ sig (Elt F)) : Valuation τ sig (Elt F) := opC.result (vC (atCall d V))
/-- The buffers at the end of the program. -/
def atEnd (d : Dev nD) (V : Valuation τ sig (Elt F)) : Valuation τ sig (Elt F) := after1 d (atComb d V)

/-! ### The steps -/

/-- The first reshape names the core's own buffers only. -/
theorem subA : (opA (F := F)).bufs ⊆ ucRefs τ sig := Pipeline.sub_ucRefs _ (StableHlo.reshape_bufs_sub ..)
/-- Host operation number 0 before the SparseCore call names the core's own buffers only. -/
theorem subB0 : (opB0 (F := F)).bufs ⊆ ucRefs τ sig := Pipeline.sub_ucRefs _ (StableHlo.nullary_bufs_sub ..)
/-- Host operation number 1 before the SparseCore call names the core's own buffers only. -/
theorem subB1 : (opB1 (F := F)).bufs ⊆ ucRefs τ sig := Pipeline.sub_ucRefs _ (StableHlo.unary_bufs_sub ..)
/-- Host operation number 2 before the SparseCore call names the core's own buffers only. -/
theorem subB2 : (opB2 (F := F)).bufs ⊆ ucRefs τ sig := Pipeline.sub_ucRefs _ (StableHlo.nullary_bufs_sub ..)
/-- Host operation number 3 before the SparseCore call names the core's own buffers only. -/
theorem subB3 : (opB3 (F := F)).bufs ⊆ ucRefs τ sig := Pipeline.sub_ucRefs _ (StableHlo.unary_bufs_sub ..)
/-- Host operation number 4 before the SparseCore call names the core's own buffers only. -/
theorem subB4 : (opB4 (F := F)).bufs ⊆ ucRefs τ sig := Pipeline.sub_ucRefs _ (StableHlo.binary_bufs_sub ..)
/-- Host operation number 5 before the SparseCore call names the core's own buffers only. -/
theorem subB5 : (opB5 (F := F)).bufs ⊆ ucRefs τ sig := Pipeline.sub_ucRefs _ (StableHlo.reshape_bufs_sub ..)
/-- Host operation number 6 before the SparseCore call names the core's own buffers only. -/
theorem subB6 : (opB6 (F := F)).bufs ⊆ ucRefs τ sig := Pipeline.sub_ucRefs _ (StableHlo.unary_bufs_sub ..)
/-- Host operation number 7 before the SparseCore call names the core's own buffers only. -/
theorem subB7 : (opB7 (F := F)).bufs ⊆ ucRefs τ sig := Pipeline.sub_ucRefs _ (StableHlo.reshape_bufs_sub ..)
/-- Host operation number 8 before the SparseCore call names the core's own buffers only. -/
theorem subB8 : (opB8 (F := F)).bufs ⊆ ucRefs τ sig := Pipeline.sub_ucRefs _ (StableHlo.reshape_bufs_sub ..)
/-- Host operation number 9 before the SparseCore call names the core's own buffers only. -/
theorem subB9 : (opB9 (F := F)).bufs ⊆ ucRefs τ sig := Pipeline.sub_ucRefs _ (StableHlo.reshape_bufs_sub ..)
/-- Host operation number 10 before the SparseCore call names the core's own buffers only. -/
theorem subB10 : (opB10 (F := F)).bufs ⊆ ucRefs τ sig := Pipeline.sub_ucRefs _ (StableHlo.reshape_bufs_sub ..)
/-- The last reshape names the core's own buffers only. -/
theorem subC : (opC (F := F)).bufs ⊆ ucRefs τ sig := Pipeline.sub_ucRefs _ (StableHlo.reshape_bufs_sub ..)

/-- One host operation of the core, over all its unscoped buffers. -/
theorem host_step (d : Dev nD) (op : HloOp τ sig (Elt F)) (hsub : op.bufs ⊆ ucRefs τ sig) (hf : op.fresh = ∅) (V : Valuation τ sig (Elt F))
    (Q : PUnit → sProp 𝕄) :
    iprop(boundary (SparseCore.T d) ∗ StableHlo.held (SparseCore.T d) (ucRefs τ sig) V
        ∗ ((boundary (SparseCore.T d) ∗ StableHlo.held (SparseCore.T d) (ucRefs τ sig) (op.result V)) -∗ Q ⟨⟩))
      ⊢ wp frame (wpE ((K (F := F)).defs (D (F := F))) 𝒱 (SparseCore.T d) none) Set.univ (hlo rfl op (fun _ => .ret ⟨⟩)) Q := by
  iintro ⟨Hb, Hh, Hk⟩
  iapply (StableHlo.wp_hlo_within 𝒱 (SparseCore.T d) none Set.univ (op := op) (S := ucRefs τ sig) hsub (V := V) hf) $$ [Hb Hh]
  · isplitl [Hb] <;> iassumption
  iintro ⟨Hb, Hh⟩
  rw [wp_ret]
  imodintro
  iapply Hk
  isplitl [Hb] <;> iassumption

variable [∀ e, Nonempty (Elt F e)]

/-- A TensorCore region of the main program. -/
theorem region_step (d : Dev nD) {p : Fin 2} (V0 V1 : Dev nD → Valuation τ sig (Elt F))
    (R : RegionSeg (pcfgs (F := F)) adm (pdats V0 V1) none defs₀ 𝒱₀ (K (F := F)).L (K (F := F)).lev p) (Q : PUnit → sProp 𝕄) :
    iprop(boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d
        ∗ ((boundary (SparseCore.T d) ∗ R.post d) -∗ Q ⟨⟩))
      ⊢ wp frame (wpE ((K (F := F)).defs (D (F := F))) 𝒱 (SparseCore.T d) none) Set.univ
          (Prog.lift (.customCall (SparseCore.inner (Pipeline.entry p)) ())) Q := by
  have hw := R.wp (pcfgs (F := F)) adm (pdats V0 V1) none cellOf_inj EP defs₀ 𝒱₀ (K (F := F)).L (K (F := F)).lev d none
    (fun u hu => nomatch hu) (fun u => .ret u) Q
  have hl := (K (F := F)).wp_liftProg (D (F := F)) 𝒱 (SparseCore.T d) Set.univ none
    (.op (.customCall (Pipeline.entry p) ()) fun u => .ret u) Q
  refine (show _ ⊢ _ from ?_).trans (hw.trans hl)
  iintro ⟨Hb, Hp, Hl, Hc, Ht, Hk⟩
  isplitl [Hk]
  · iintro H
    rw [wp_ret]
    imodintro
    iapply Hk; iexact H
  isplitl [Hb]; · iexact Hb
  isplitl [Hp]; · iexact Hp
  isplitl [Hl]; · iexact Hl
  isplitl [Hc] <;> iassumption

omit [∀ e, Nonempty (Elt F e)] in
/-- What the call is handed: its inputs and its result's buffer. -/
theorem st0_eq (X : Dev nD → In F) (d : Dev nD) :
    (bigSep Finset.univ fun c : Fin ((K (F := F)).nCore 0) => (P X).st 0 d c) = iprop(insW (X d) d ∗ outW d (X d).o11) :=
  bigSep_univ_of_subsingleton (0 : Fin 1)
omit [∀ e, Nonempty (Elt F e)] in
/-- What the call hands back: its inputs, and the result's buffer with the partial results. -/
theorem dn0_eq (X : Dev nD → In F) (d : Dev nD) :
    (bigSep Finset.univ fun c : Fin ((K (F := F)).nCore 0) => (P X).dn 0 d c) = iprop(insW (X d) d ∗ outW d (segOut (X d))) :=
  bigSep_univ_of_subsingleton (0 : Fin 1)

/-- The buffers the SparseCore call works on. -/
def callRefs : Finset (DevRef τ sig) :=
  {(main_v7 : DevRef τ sig), (main_v8 : DevRef τ sig), (main_v9 : DevRef τ sig), (main_v10 : DevRef τ sig), (main_v11 : DevRef τ sig)}

/-- The call's buffers are among the core's own. -/
theorem callRefs_sub : callRefs ⊆ ucRefs τ sig := by decide

omit [∀ e, Nonempty (Elt F e)] in
/-- Holding the call's five buffers is holding each of them. -/
theorem held_call (d : Dev nD) (V : Valuation τ sig (Elt F)) :
    (StableHlo.held (SparseCore.T d) callRefs V : sProp 𝕄)
      = iprop((iLoc d ↦{fullShare} V main_v7) ∗ (sLoc d ↦{fullShare} V main_v8) ∗ (gLoc d ↦{fullShare} V main_v9)
          ∗ (cLoc d ↦{fullShare} V main_v10) ∗ (oLoc d ↦{fullShare} V main_v11)) := by
  unfold StableHlo.held callRefs
  rw [SparseCore.bigSep_insert' (by decide), SparseCore.bigSep_insert' (by decide), SparseCore.bigSep_insert' (by decide),
    SparseCore.bigSep_insert' (by decide), bigSep_singleton]

omit [∀ e, Nonempty (Elt F e)] in
/-- The call changes its result's buffer alone. -/
theorem vC_of_ne (V : Valuation τ sig (Elt F)) (b : DevRef τ sig) (h : b ≠ (main_v11 : DevRef τ sig)) : vC V b = V b :=
  Function.update_of_ne h _ _

omit [∀ e, Nonempty (Elt F e)] in
/-- The call leaves the partial results in its result's buffer. -/
theorem vC_self (V : Valuation τ sig (Elt F)) : vC V (main_v11 : DevRef τ sig) = segOut (inOf V) :=
  Function.update_self _ _ _

omit [∀ e, Nonempty (Elt F e)] in
/-- The SparseCore call, over all the core's unscoped buffers. -/
theorem call_step (X : Dev nD → In F) (κ : GSem nD τ sig → ℕ) (d : Dev nD) (V : Valuation τ sig (Elt F)) (hX : X d = inOf V)
    (Q : PUnit → sProp 𝕄) :
    iprop((K (F := F)).ctx EH (P X) κ ∗ (K (F := F)).tcSt EH d 0 ∗ StableHlo.held (SparseCore.T d) (ucRefs τ sig) V
        ∗ (((K (F := F)).tcSt EH d 1 ∗ StableHlo.held (SparseCore.T d) (ucRefs τ sig) (vC V)) -∗ Q ⟨⟩))
      ⊢ wp frame (wpE ((K (F := F)).defs (D (F := F))) 𝒱 (SparseCore.T d) none) Set.univ ((K (F := F)).run d 0) Q := by
  rw [StableHlo.held_sub_split (SparseCore.T d) callRefs_sub V, StableHlo.held_sub_split (SparseCore.T d) callRefs_sub (vC V),
    StableHlo.held_congr (SparseCore.T d) (S := ucRefs τ sig \ callRefs) (V := vC V) (V' := V) (fun b hb => vC_of_ne V b (fun e =>
      (Finset.mem_sdiff.mp hb).2 (e ▸ (by decide : (main_v11 : DevRef τ sig) ∈ callRefs)))),
    held_call, held_call, vC_self, vC_of_ne V _ (by decide), vC_of_ne V _ (by decide), vC_of_ne V _ (by decide), vC_of_ne V _ (by decide)]
  iintro ⟨Hctx, Hst, ⟨⟨H7, H8, H9, H10, H11⟩, HR⟩, Hk⟩
  iapply ((K (F := F)).wp_run (D (F := F)) 𝒱 (EH := EH) (P := P X) κ d 0)
  isplitl [Hctx]; · iexact Hctx
  isplitl [Hst]; · iexact Hst
  rw [st0_eq, dn0_eq, hX]
  unfold insW
  isplitl [H7 H8 H9 H10 H11]
  · isplitr [H11]
    · isplitl [H7]; · iexact H7
      isplitl [H8]; · iexact H8
      isplitl [H9]; · iexact H9
      iexact H10
    iexact H11
  iintro ⟨Hst, ⟨H7, H8, H9, H10⟩, H11⟩
  iapply Hk
  isplitl [Hst]; · iexact Hst
  isplitr [HR]
  · isplitl [H7]; · iexact H7
    isplitl [H8]; · iexact H8
    isplitl [H9]; · iexact H9
    isplitl [H10]; · iexact H10
    iexact H11
  iexact HR

/-! ### The whole main program -/

variable (m : (ℓ : Loc nD τ sig) → Buf (Elt F) ℓ) (ρ : Dev nD → PrngReg)

/-- The device's buffers at the launch, and what they are at the call's start. -/
def launchV (d : Dev nD) : Valuation τ sig (Elt F) := fun b => m (d, b)
/-- The call's inputs, read off the buffers at its start. -/
def callIn (d : Dev nD) : In F := inOf (atCall d (launchV m d))

/-- The pipelines' ghost state of a device. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- What the main program leaves: all the core's buffers, at the final contents. -/
def FIN (d : Dev nD) : sProp 𝕄 := StableHlo.held (SparseCore.T d) (ucRefs τ sig) (atEnd d (launchV m d))

omit [FloatOps F] [∀ e, Nonempty (Elt F e)] in
/-- A product over two is the product of the two. -/
theorem two (Φ : Fin 2 → sProp 𝕄) : bigSep Finset.univ Φ = iprop(Φ 0 ∗ Φ 1) :=
  bigSep_univ_eq_bigSepL [(0 : Fin 2), (1 : Fin 2)] (by decide) (by decide) Φ

omit [∀ e, Nonempty (Elt F e)] in
/-- What the core holds between steps, written out: the buffers, and what it owes. -/
theorem coreAt_eq (n : ℕ) (d : Dev nD) (V : Valuation τ sig (Elt F)) :
    coreAt n d V = iprop(StableHlo.held (SparseCore.T d) (ucRefs τ sig) V
      ∗ ∃ W, ⌜(K (F := F)).WBelow (SparseCore.T d) W (8 * n)⌝ ∗ owes (SparseCore.T d) ((K (F := F)).Otc d n) W) := by
  unfold coreAt; rw [Pipeline.unscopedBufs_held]

/-- What the core's state before call `n` holds beside what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q : HIx 1) 1)))

omit [∀ e, Nonempty (Elt F e)] [FloatOps F] in
/-- The core's state in the launch, written out. -/
theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest d n) := rfl

omit [∀ e, Nonempty (Elt F e)] in
/-- What the streaming region starts from. -/
theorem seg0_pre (V0 V1 : Dev nD → Valuation τ sig (Elt F)) (d : Dev nD) : (seg0 V0 V1).pre d = iprop(StableHlo.held (SparseCore.T d) (ucRefs τ sig) (V0 d)
    ∗ ∃ W, ⌜(K (F := F)).WBelow (SparseCore.T d) W (8 * 0)⌝ ∗ owes (SparseCore.T d) ((K (F := F)).Otc d 0) W) := coreAt_eq 0 d (V0 d)
omit [∀ e, Nonempty (Elt F e)] in
/-- What the streaming region leaves. -/
theorem seg0_post (V0 V1 : Dev nD → Valuation τ sig (Elt F)) (d : Dev nD) : (seg0 V0 V1).post d = iprop(StableHlo.held (SparseCore.T d) (ucRefs τ sig) (after0 d (V0 d))
    ∗ ∃ W, ⌜(K (F := F)).WBelow (SparseCore.T d) W (8 * 0)⌝ ∗ owes (SparseCore.T d) ((K (F := F)).Otc d 0) W) := coreAt_eq 0 d (after0 d (V0 d))
omit [∀ e, Nonempty (Elt F e)] in
/-- What the combining region starts from. -/
theorem seg1_pre (V0 V1 : Dev nD → Valuation τ sig (Elt F)) (d : Dev nD) : (seg1 V0 V1).pre d = iprop(StableHlo.held (SparseCore.T d) (ucRefs τ sig) (V1 d)
    ∗ ∃ W, ⌜(K (F := F)).WBelow (SparseCore.T d) W (8 * 1)⌝ ∗ owes (SparseCore.T d) ((K (F := F)).Otc d 1) W) := coreAt_eq 1 d (V1 d)
omit [∀ e, Nonempty (Elt F e)] in
/-- What the combining region leaves. -/
theorem seg1_post (V0 V1 : Dev nD → Valuation τ sig (Elt F)) (d : Dev nD) : (seg1 V0 V1).post d = iprop(StableHlo.held (SparseCore.T d) (ucRefs τ sig) (after1 d (V1 d))
    ∗ ∃ W, ⌜(K (F := F)).WBelow (SparseCore.T d) W (8 * 1)⌝ ∗ owes (SparseCore.T d) ((K (F := F)).Otc d 1) W) := coreAt_eq 1 d (after1 d (V1 d))

/-- The main program on device `d`'s TensorCore, from the launch to the final contents of all its buffers. -/
theorem hmain (κ : GSem nD τ sig → ℕ) (d : Dev nD) :
    iprop((K (F := F)).ctx EH (P (callIn m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G FIN main
  rw [two, two, tcSt_eq d 0, show (unscopedBufs d (fun b => m ((SparseCore.T d : Thread nD τ).loc b)) : sProp 𝕄)
    = StableHlo.held (SparseCore.T d) (ucRefs τ sig) (launchV m d) from Pipeline.unscopedBufs_held d (launchV m d)]
  simp only [wp_bind, wp_pure]
  iintro ⟨#Hctx, ⟨HO, Hst⟩, ⟨Hb, Hh, Hts, -⟩, ⟨Hc0, Hc1⟩, Ht0, Ht1⟩
  ihave #Hl := ((K (F := F)).ctx_levAts κ) $$ Hctx
  iapply (host_step d opA subA rfl (launchV m d) _)
  isplitl [Hb]; · iexact Hb
  isplitl [Hh]; · iexact Hh
  iintro ⟨Hb, Hh⟩
  iapply (region_step d (fun d => vA (launchV m d)) (fun d => atComb d (launchV m d)) (seg0 _ _) _)
  isplitl [Hb]; · iexact Hb
  isplitl [Hh HO]
  · rw [seg0_pre]
    isplitl [Hh]; · iexact Hh
    iexact HO
  isplitr; · iexact Hl
  isplitl [Hc0]; · iexact Hc0
  isplitl [Ht0]; · iexact Ht0
  rw [seg0_post]
  iintro ⟨Hb, Hh, HO⟩
  iapply (host_step d opB0 subB0 rfl _ _)
  isplitl [Hb]; · iexact Hb
  isplitl [Hh]; · iexact Hh
  iintro ⟨Hb, Hh⟩
  iapply (host_step d opB1 subB1 rfl _ _)
  isplitl [Hb]; · iexact Hb
  isplitl [Hh]; · iexact Hh
  iintro ⟨Hb, Hh⟩
  iapply (host_step d opB2 subB2 rfl _ _)
  isplitl [Hb]; · iexact Hb
  isplitl [Hh]; · iexact Hh
  iintro ⟨Hb, Hh⟩
  iapply (host_step d opB3 subB3 rfl _ _)
  isplitl [Hb]; · iexact Hb
  isplitl [Hh]; · iexact Hh
  iintro ⟨Hb, Hh⟩
  iapply (host_step d opB4 subB4 rfl _ _)
  isplitl [Hb]; · iexact Hb
  isplitl [Hh]; · iexact Hh
  iintro ⟨Hb, Hh⟩
  iapply (host_step d opB5 subB5 rfl _ _)
  isplitl [Hb]; · iexact Hb
  isplitl [Hh]; · iexact Hh
  iintro ⟨Hb, Hh⟩
  iapply (host_step d opB6 subB6 rfl _ _)
  isplitl [Hb]; · iexact Hb
  isplitl [Hh]; · iexact Hh
  iintro ⟨Hb, Hh⟩
  iapply (host_step d opB7 subB7 rfl _ _)
  isplitl [Hb]; · iexact Hb
  isplitl [Hh]; · iexact Hh
  iintro ⟨Hb, Hh⟩
  iapply (host_step d opB8 subB8 rfl _ _)
  isplitl [Hb]; · iexact Hb
  isplitl [Hh]; · iexact Hh
  iintro ⟨Hb, Hh⟩
  iapply (host_step d opB9 subB9 rfl _ _)
  isplitl [Hb]; · iexact Hb
  isplitl [Hh]; · iexact Hh
  iintro ⟨Hb, Hh⟩
  iapply (host_step d opB10 subB10 rfl _ _)
  isplitl [Hb]; · iexact Hb
  isplitl [Hh]; · iexact Hh
  iintro ⟨Hb, Hh⟩
  iapply (call_step (fun d => callIn m d) κ d (atCall d (launchV m d)) rfl _)
  isplitr; · iexact Hctx
  isplitl [HO Hst]
  · rw [tcSt_eq]
    isplitl [HO]; · iexact HO
    iexact Hst
  isplitl [Hh]; · iexact Hh
  iintro ⟨Hst, Hh⟩
  ihave Hst := (Entails.of_eq (tcSt_eq d 1)) $$ Hst
  icases Hst with ⟨HO, Hst⟩
  iapply (host_step d opC subC rfl _ _)
  isplitl [Hb]; · iexact Hb
  isplitl [Hh]; · iexact Hh
  iintro ⟨Hb, Hh⟩
  iapply (region_step d (fun d => vA (launchV m d)) (fun d => atComb d (launchV m d)) (seg1 _ _) _)
  isplitl [Hb]; · iexact Hb
  isplitl [Hh HO]
  · rw [seg1_pre]
    isplitl [Hh]; · iexact Hh
    iexact HO
  isplitr; · iexact Hl
  isplitl [Hc1]; · iexact Hc1
  isplitl [Ht1]; · iexact Ht1
  rw [seg1_post]
  iintro ⟨Hb, Hh, HO⟩
  imodintro
  isplitl [HO Hst]
  · rw [tcSt_eq]
    isplitl [HO]; · iexact HO
    iexact Hst
  isplitl [Hh]; · iexact Hh
  isplitl [Hb] <;> iassumption

end Cert.Proof.Seg

end
-- ==== Proof.Run.lean ====
/-
  The whole program's run: from any memory whose cluster numbers lie below 64 to a memory holding, at every buffer of each
  device's TensorCore, the contents the main program leaves there.
-/
module

public import proofs.«01_k».proof.Proof.Main

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (ucRefs)

/-! ### The launch element -/

/-- The two regions' settings at their prefetched values. -/
abbrev pcfgI : Fin 2 → Pipeline.Cfg sig Λ₀ := Pipeline.pin (pcfgs (F := F)) adm

/-- The launch element: the handshakes', the pipelines', and nothing of the counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- Nothing is nothing for every thread. -/
theorem bigSep_emp_intro : (⊢ (bigSep Finset.univ fun _ : Thread nD τ => (iprop(emp) : sProp 𝕄))) :=
  Entails.of_eq (bigSep_emp_const _).symm

/-- Owning a piece through the two embeddings is owning it through their composite. -/
theorem own_EP (a : UR sig nD τ) :
    (BI.own (((Emb.inl : Emb (UR sig nD τ) (UR sig nD τ × Counters)).trans embR) a) : sProp 𝕄) = BI.own (EP a) := rfl

/-- The threads keep nothing besides for the call. -/
theorem Px_all (X : Dev nD → In F) (thr : Thread nD τ) : (bigSep Finset.univ fun q : Fin 1 => (P (F := F) X).x q thr) = iprop(emp) :=
  bigSep_univ_of_subsingleton (0 : Fin 1)

/-- The initial ghost state is what the launch and the regions start from. -/
theorem hu₀ (X : Dev nD → In F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X).x q thr) := by
  unfold u₀ G
  rw [bigSep_sep']
  simp only [Px_all]
  iintro Hu
  ihave H := (ownU_pair _ _) $$ Hu
  icases H with ⟨HH, HK⟩
  ihave HK := (own_pair_emb embR _ _) $$ HK
  icases HK with ⟨HP, -⟩
  ihave HP := (Entails.of_eq (own_EP _)) $$ HP
  imod (Pipeline.fund_ghost (Pipeline.pin (pcfgs (F := F)) adm) EP cellOf_inj) $$ HP with ⟨Hc, Ht⟩
  imodintro
  isplitl [HH]; · iexact HH
  isplitl [Hc Ht]
  · isplitl [Hc] <;> iassumption
  · exact bigSep_emp_intro

/-! ### The run -/

variable [∀ e, Nonempty (Elt F e)]
variable (m : (ℓ : Loc nD τ sig) → Buf (Elt F) ℓ) (ρ : Dev nD → PrngReg)

/-- A device's memory holds the final contents at every unscoped buffer of the TensorCore. -/
def fq (d : Dev nD) (s' : Phys nD τ sig (Elt F)) : Prop := ∀ b ∈ ucRefs τ sig, s'.mem.mem (d, b) = atEnd d (launchV m d) b

/-- At the end the buffers hold what the run says. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave H := (pointsTo_read_all (ucRefs τ sig) (fun b => ((d, b) : Loc nD τ sig)) (fun b => atEnd d (launchV m d) b) s') $$ [H HSI]
  · isplitl [H] <;> iassumption
  icases H with ⟨%h, -⟩
  ipureintro; exact h

/-- What a run ends with. -/
def QC : PUnit × MemSt nD τ sig (Elt F) → Prop := fun r =>
  (∀ d : Dev nD, ∀ b ∈ ucRefs τ sig, r.2.mem (d, b) = atEnd d (launchV m d) b) ∧ r.2.sem = fun _ => 0

/-- Every cluster number of the call is below 64. -/
def InRange : Prop := ∀ d, Small4096 (F := F) (callIn m d).s8

/-- Every run of the program ends with the buffers as named, if the cluster numbers are in range. -/
theorem run_main (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (callIn m)) (A := ∅) facts v₀
    (fun q hq => match q with | 0 => nomatch hq)
    (fun q _ => match q with | 0 => tileObl (callIn m) facts hm)
    (fun q _ => match q with | 0 => SparseCore.Cfg.VecSplit.of_plain (vecSplit (callIn m)))
    m ρ main (fun d => G d) (FIN m) (u₀ (F := F)) (sep_elim_left.trans (hu₀ (callIn m))) (hmain m ρ) (fq m) (hfin m) (QC m) (fun _ h hz => ⟨h, hz⟩)

end Cert.Proof.Seg

end
-- ==== Proof.Ends.lean ====
/-
  The program's arguments at the end of its run, and the frames: the run leaves the six arguments as they were launched and
  every semaphore at zero.
-/
module

public import proofs.«01_k».proof.Proof.Run
public import proofs.«01_k».proof.Defs
public import Idealize.ShloMosaic.Lib.ReduceAll
public import proofs.«01_k».proof.Proof.Gen.Kernel
public import proofs.«01_k».proof.Proof.Gen.Pre_in_range

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (ucRefs)
open Idealize.ShloMosaic.StableHlo

/-! ### The buffers the steps leave alone -/

section Kept

variable (d : Dev nD) (V : Valuation τ sig (Elt F))

/-- The first reshape changes its own result's buffer alone. -/
theorem vA_of_ne {r : Ref sig .tc} (h : r ≠ main_v0) : vA V (r : DevRef τ sig) = V r := by
  unfold vA opA; exact reshape_result_ne (h := h) ..

/-- The host operations between the regions write their own eleven results only. -/
theorem vB_of_ne {r : Ref sig .tc} (h : r ∉ ([main_cst, main_v2, main_cst_0, main_v3, main_v4, main_v5, main_v6, main_v7, main_v8, main_v9, main_v10] : List (Ref sig .tc))) :
    vB V (r : DevRef τ sig) = V r := by
  simp only [List.mem_cons, List.not_mem_nil, or_false, not_or] at h
  obtain ⟨h0, h1, h2, h3, h4, h5, h6, h7, h8, h9, h10⟩ := h
  unfold vB opB0 opB1 opB2 opB3 opB4 opB5 opB6 opB7 opB8 opB9 opB10
  rw [reshape_result_ne (h := h10), reshape_result_ne (h := h9), reshape_result_ne (h := h8), reshape_result_ne (h := h7),
    unary_result_ne (h := h6), reshape_result_ne (h := h5), binary_result_ne (h := h4), unary_result_ne (h := h3),
    nullary_result_ne (h := h2), unary_result_ne (h := h1), nullary_result_ne (h := h0)]

/-- The last reshape changes its own result's buffer alone. -/
theorem opC_of_ne {r : Ref sig .tc} (h : r ≠ main_v12) : (opC (F := F)).result V (r : DevRef τ sig) = V r := by
  unfold opC; exact reshape_result_ne (h := h) ..

/-- An operand of the streaming region is left in place; -/
theorem after0_in (w : Fin 7) (hw : (cfg0.win w).isOut = false) :
    after0 d V (Proc.devRef .tc (Pipeline.arrRef spec0 w)) = (dat0 V d).A w := by
  rw [← hF0 V d w]; exact (dat0 V d).arrAt_in w hw _

/-- and so is one of the combining region. -/
theorem after1_in (w : Fin 8) (hw : (cfg2.win w).isOut = false) :
    after1 d V (Proc.devRef .tc (Pipeline.arrRef spec2 w)) = (dat1 V d).A w := by
  rw [← hF1 V d w]; exact (dat1 V d).arrAt_in w hw _

/-- The streaming call leaves the cluster numbers as they were. -/
theorem after0_arg0 : after0 d V (main_arg0 : DevRef τ sig) = V main_arg0 := after0_in d V 0 rfl
/-- The streaming call leaves the sharing matrix as it was. -/
theorem after0_arg3 : after0 d V (main_arg3 : DevRef τ sig) = V main_arg3 := after0_in d V 2 rfl
/-- The streaming call leaves the efficiency matrix as it was. -/
theorem after0_arg4 : after0 d V (main_arg4 : DevRef τ sig) = V main_arg4 := after0_in d V 3 rfl
/-- The streaming call leaves the generations as they were. -/
theorem after0_arg1 : after0 d V (main_arg1 : DevRef τ sig) = V main_arg1 := hR0 V d _ (by decide)
/-- The streaming call leaves the consumptions as they were. -/
theorem after0_arg2 : after0 d V (main_arg2 : DevRef τ sig) = V main_arg2 := hR0 V d _ (by decide)
/-- The streaming call leaves the weights as they were. -/
theorem after0_arg5 : after0 d V (main_arg5 : DevRef τ sig) = V main_arg5 := hR0 V d _ (by decide)
/-- The streaming call leaves the reshaped weights as they were. -/
theorem after0_v0 : after0 d V (main_v0 : DevRef τ sig) = V main_v0 := hR0 V d _ (by decide)
/-- The combining call leaves the cluster numbers as they were. -/
theorem after1_arg0 : after1 d V (main_arg0 : DevRef τ sig) = V main_arg0 := after1_in d V 0 rfl
/-- The combining call leaves the consumptions as they were. -/
theorem after1_arg2 : after1 d V (main_arg2 : DevRef τ sig) = V main_arg2 := after1_in d V 1 rfl
/-- The combining call leaves the generations as they were. -/
theorem after1_arg1 : after1 d V (main_arg1 : DevRef τ sig) = V main_arg1 := hR1 V d _ (by decide)
/-- The combining call leaves the sharing matrix as it was. -/
theorem after1_arg3 : after1 d V (main_arg3 : DevRef τ sig) = V main_arg3 := hR1 V d _ (by decide)
/-- The combining call leaves the efficiency matrix as it was. -/
theorem after1_arg4 : after1 d V (main_arg4 : DevRef τ sig) = V main_arg4 := hR1 V d _ (by decide)
/-- The combining call leaves the weights as they were. -/
theorem after1_arg5 : after1 d V (main_arg5 : DevRef τ sig) = V main_arg5 := hR1 V d _ (by decide)

/-- The arguments before the call are those launched. -/
theorem atCall_arg0 : atCall d V (main_arg0 : DevRef τ sig) = V main_arg0 := by
  unfold atCall; rw [vB_of_ne _ (by decide), after0_arg0, vA_of_ne _ (by decide)]
/-- The steps before the SparseCore call leave the generations as they were. -/
theorem atCall_arg1 : atCall d V (main_arg1 : DevRef τ sig) = V main_arg1 := by
  unfold atCall; rw [vB_of_ne _ (by decide), after0_arg1, vA_of_ne _ (by decide)]
/-- The steps before the SparseCore call leave the consumptions as they were. -/
theorem atCall_arg2 : atCall d V (main_arg2 : DevRef τ sig) = V main_arg2 := by
  unfold atCall; rw [vB_of_ne _ (by decide), after0_arg2, vA_of_ne _ (by decide)]
/-- The steps before the SparseCore call leave the sharing matrix as it was. -/
theorem atCall_arg3 : atCall d V (main_arg3 : DevRef τ sig) = V main_arg3 := by
  unfold atCall; rw [vB_of_ne _ (by decide), after0_arg3, vA_of_ne _ (by decide)]
/-- The steps before the SparseCore call leave the efficiency matrix as it was. -/
theorem atCall_arg4 : atCall d V (main_arg4 : DevRef τ sig) = V main_arg4 := by
  unfold atCall; rw [vB_of_ne _ (by decide), after0_arg4, vA_of_ne _ (by decide)]
/-- The steps before the SparseCore call leave the weights as they were. -/
theorem atCall_arg5 : atCall d V (main_arg5 : DevRef τ sig) = V main_arg5 := by
  unfold atCall; rw [vB_of_ne _ (by decide), after0_arg5, vA_of_ne _ (by decide)]

/-- The call and the reshape after it write their own results only. -/
theorem atComb_of_ne {r : Ref sig .tc} (h : r ≠ main_v12) (h' : (r : DevRef τ sig) ≠ (main_v11 : DevRef τ sig)) :
    atComb d V (r : DevRef τ sig) = atCall d V r := by
  unfold atComb; rw [opC_of_ne _ h, vC_of_ne _ _ h']

/-- The arguments at the end are those launched. -/
theorem atEnd_arg0 : atEnd d V (main_arg0 : DevRef τ sig) = V main_arg0 := by
  unfold atEnd; rw [after1_arg0, atComb_of_ne d V (by decide) (by decide), atCall_arg0]
/-- The whole program leaves the generations as they were. -/
theorem atEnd_arg1 : atEnd d V (main_arg1 : DevRef τ sig) = V main_arg1 := by
  unfold atEnd; rw [after1_arg1, atComb_of_ne d V (by decide) (by decide), atCall_arg1]
/-- The whole program leaves the consumptions as they were. -/
theorem atEnd_arg2 : atEnd d V (main_arg2 : DevRef τ sig) = V main_arg2 := by
  unfold atEnd; rw [after1_arg2, atComb_of_ne d V (by decide) (by decide), atCall_arg2]
/-- The whole program leaves the sharing matrix as it was. -/
theorem atEnd_arg3 : atEnd d V (main_arg3 : DevRef τ sig) = V main_arg3 := by
  unfold atEnd; rw [after1_arg3, atComb_of_ne d V (by decide) (by decide), atCall_arg3]
/-- The whole program leaves the efficiency matrix as it was. -/
theorem atEnd_arg4 : atEnd d V (main_arg4 : DevRef τ sig) = V main_arg4 := by
  unfold atEnd; rw [after1_arg4, atComb_of_ne d V (by decide) (by decide), atCall_arg4]
/-- The whole program leaves the weights as they were. -/
theorem atEnd_arg5 : atEnd d V (main_arg5 : DevRef τ sig) = V main_arg5 := by
  unfold atEnd; rw [after1_arg5, atComb_of_ne d V (by decide) (by decide), atCall_arg5]

/-- The cluster numbers the call takes: the first argument, flattened. -/
theorem atCall_v8 : atCall d V (main_v8 : DevRef τ sig) = fun i => shapeCast S4096 (V main_arg0 : Vec F S1x4096 .i32) shapeCasts_S1x4096_S4096 i := by
  unfold atCall vB opB10 opB9
  rw [reshape_result_ne (h := by decide), reshape_result_ne (h := by decide)]
  unfold opB8
  rw [reshape_result]
  have e : (opB7 (F := F)).result (opB6.result (opB5.result (opB4.result (opB3.result (opB2.result (opB1.result (opB0.result (after0 d (vA V)))))))))
      (main_arg0 : DevRef τ sig) = V main_arg0 := by
    unfold opB0 opB1 opB2 opB3 opB4 opB5 opB6 opB7
    rw [reshape_result_ne (h := by decide),
      unary_result_ne (h := by decide), reshape_result_ne (h := by decide), binary_result_ne (h := by decide), unary_result_ne (h := by decide),
      nullary_result_ne (h := by decide), unary_result_ne (h := by decide), nullary_result_ne (h := by decide), after0_arg0, vA_of_ne _ (by decide)]
  rw [e]; rfl

end Kept

/-! ### The precondition -/

/-- Two bits whose conjunction is 1 are both 1. -/
theorem andi_one {a b : BitVec 1} (h : IntOp.andi a b = 1#1) : a = 1#1 ∧ b = 1#1 := by
  revert a b; decide

/-- A truth value whose bit is 1 is true. -/
theorem ofBool_one {b : Bool} (h : BitVec.ofBool b = 1#1) : b = true := by cases b <;> simp_all

/-- A word between 0 and 64 as a signed number is below 64 as a natural one. -/
theorem lt_of_bounds (x : BitVec 32)
    (h : IntOp.andi (IntOp.cmpi .sge x 0#32) (IntOp.cmpi .slt x 64#32) = 1#1) : x.toNat < 64 := by
  obtain ⟨h0, h1⟩ := andi_one h
  have e0 := ofBool_one h0
  have e1 := ofBool_one h1
  simp only [BitVec.sle_eq_decide, BitVec.slt_eq_decide, decide_eq_true_eq, BitVec.toInt_eq_toNat_cond, BitVec.toNat_ofNat, Nat.reducePow, Nat.reduceMod] at e0 e1
  omega

/-- The precondition says that every cluster number is below 64. -/
theorem small_of_pre (a0 : IVec S1x4096 32) (a1 a2 : FVec F S1x4096 .f32) (a3 a4 : FVec F S1x4096x4096 .f32) (a5 : FVec F S5 .f32)
    (h : Cert.Pre_in_range.fn (F := F) a0 a1 a2 a3 a4 a5 = fun _ => 1#1) (i : S1x4096.Idx) : (a0 i).toNat < 64 := by
  unfold Cert.Pre_in_range.fn at h
  exact lt_of_bounds (a0 i) (Host.reduce_andi_all _ _ _ _ (fun a => a.elim0) (congrFun h _) i)

/-! ### The frames -/

section Frames

variable [∀ e, Nonempty (Elt F e)]
variable (m : (ℓ : Loc nD τ sig) → Buf (Elt F) ℓ) (ρ : Dev nD → PrngReg)

/-- Cluster numbers below 64 in the first argument are below 64 where the SparseCore call reads them. -/
theorem inRange_of (h : ∀ (d : Dev nD) (i : S1x4096.Idx), ((m ((d.tc : Thread nD τ).loc main_arg0) : Vec F S1x4096 .i32) i).toNat < 64) : InRange m := by
  intro d j
  show ((atCall d (launchV m d) (main_v8 : DevRef τ sig) : Vec F S4096 .i32) j).toNat < 64
  rw [atCall_v8]
  exact h d _

omit [∀ e, Nonempty (Elt F e)] in
/-- Membership among the unscoped buffers, restated. -/
theorem mem_uc (b : Ref sig .tc) (h : (b : DevRef τ sig) ∈ ucRefs τ sig) : (b : DevRef τ sig) ∈ ucRefs τ sig := h

/-- The program's run, of its arguments and of its result. -/
theorem run_args (h : InRange m) :
    θ_run (Cert.KernelIdeal.defs (F := F)) (Cert.KernelIdeal.threads (F := F)) ⟨m, fun _ => 0, ρ⟩ (fun r => (∀ c : Dev nD,
      r.2.mem ((c.tc : Thread nD τ).loc main_v13) = atEnd c (launchV m c) (main_v13 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ hr => ⟨fun c => ⟨hr.1 c _ (mem_uc main_v13 (by decide)), (hr.1 c _ (mem_uc main_arg0 (by decide))).trans (atEnd_arg0 c _), (hr.1 c _ (mem_uc main_arg1 (by decide))).trans (atEnd_arg1 c _),
    (hr.1 c _ (mem_uc main_arg2 (by decide))).trans (atEnd_arg2 c _), (hr.1 c _ (mem_uc main_arg3 (by decide))).trans (atEnd_arg3 c _), (hr.1 c _ (mem_uc main_arg4 (by decide))).trans (atEnd_arg4 c _),
    (hr.1 c _ (mem_uc main_arg5 (by decide))).trans (atEnd_arg5 c _)⟩, hr.2⟩) (run_main m ρ h)

/-- The same, of the arguments alone. -/
theorem frame_args (h : InRange m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ hr => ⟨fun c => (hr.1 c).2, hr.2⟩) (run_args m ρ h)

end Frames

instance (e : EltTy) : Nonempty (Elt Bits e) := ⟨Classical.choice (by infer_instance)⟩

/-- The frame of the program over extended reals. -/
theorem frame_kernelIdeal : Cert.quiescent_KernelIdeal := fun m ρ hp =>
  frame_args (F := Ideal) m ρ (inRange_of (F := Ideal) m fun d i => small_of_pre _ _ _ _ _ _ (hp d) i)

end Cert.Proof.Seg

end
-- ==== Proof.FrameBits.lean ====
/-
  The frame of the program over bit patterns. The program read over bit patterns and the one read over extended reals are
  the same text, so the run proved of the one is a run of the other.
-/
module

public import proofs.«01_k».proof.Proof.Ends

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 20000000 in
/-- The kernels' bodies of the two programs are the same. -/
theorem bodies_eq : Cert.Kernel.defs₀ (F := Bits) = Cert.KernelIdeal.defs₀ (F := Bits) := by
  funext p l a
  cases p with
  | tc =>
    match l with
    | 0 => cases a; rfl
    | 1 => rfl
    | 2 => cases a; rfl
  | scScalar c =>
    match l with
    | 0 => rfl
    | 1 => rfl
    | 2 => rfl
  | scVector c s =>
    match l with
    | 0 => rfl
    | 1 => rfl
    | 2 => rfl

/-- So are their labels' meanings. -/
theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- The frame of the program over bit patterns. -/
theorem frame_kernel : Cert.quiescent_Kernel := by
  intro m ρ hp
  rw [defs_eq]
  exact frame_args (F := Bits) m ρ (inRange_of (F := Bits) m fun d i => small_of_pre _ _ _ _ _ _ (hp d) i)

end Cert.Proof.Seg

end
-- ==== Proof.FrameRef.lean ====
/-
  The reference's run, its arguments and its counters.
-/
module

public import proofs.«01_k».proof.Defs
public import proofs.«01_k».proof.Proof.Gen.ReferenceIdeal.Run
public import proofs.«01_k».proof.Proof.Gen.Pre_in_range
public import Idealize.ShloMosaic.Adequacy
public import Idealize.ShloMosaic.Init
public import Idealize.ShloMosaic.Lib.Quiescent

@[expose] public section

noncomputable section

namespace Cert.Proof.Seg

open Idealize.ShloMosaic Idealize.SL.Sem

/-- The reference leaves its arguments in place and declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The same from launches that meet the precondition. -/
theorem frame_reference_pre : Cert.quiescent_ReferenceIdeal_pre_in_range := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof.Seg

end
-- ==== Proof.Scores.lean ====
/-
  The cluster quantities the two programs share, one number per cluster, and the six scores computed from them,
  over the extended reals; and the reference's result in that form. The kernel's result is brought to the same form
  in a module of its own.
-/
module

public import proofs.«01_k».proof.Proof.Gen.ReferenceIdeal.Run
public import Idealize.ShloMosaic.Lib.Pointwise
public import Idealize.ShloMosaic.Lib.Routing.OpsPair

@[expose] public section

noncomputable section

namespace Cert.Proof.Seg

open Idealize.ShloMosaic Idealize.ShloMosaic.TcCoe Cert.ReferenceIdeal Cert.ReferenceIdeal.Gen

/-- A number per cluster. -/
abbrev V64 : Type := FVec Ideal S64 .f32

/-! ## The quantities -/

/-- The sum of `x` over the households whose cluster is `k`. -/
def segSum (s : Fin 4096 → BitVec 32) (x : Fin 4096 → EReal) (k : Fin 64) : EReal :=
  ∑ i : Fin 4096, if s i = BitVec.ofNat 32 k.val then x i else 0

/-- The greatest `x` over the households whose cluster is `k`, negative infinity for an empty cluster. -/
def segMax (s : Fin 4096 → BitVec 32) (x : Fin 4096 → EReal) (k : Fin 64) : EReal :=
  Finset.univ.fold max ⊥ fun i : Fin 4096 => if s i = BitVec.ofNat 32 k.val then x i else ⊥

/-- The sum of `M` over the pairs of households both of whose clusters are `k`. -/
def segPair (s : Fin 4096 → BitVec 32) (M : Fin 4096 → Fin 4096 → EReal) (k : Fin 64) : EReal :=
  ∑ i : Fin 4096, if s i = BitVec.ofNat 32 k.val then (∑ j : Fin 4096, if s i = s j then M i j else 0) else 0

/-- A number per cluster as a vector. -/
def vec64 (f : Fin 64 → EReal) : V64 := fun j => f (j 0)

/-! ## The scores -/

/-- One number for every cluster. -/
def all64 (b : BitVec 32) : V64 := broadcastInDim S64 ![] bcast_S_S64 (constant S_ .f32 b)

/-- Energy used locally: the lesser of generation and consumption. -/
def usedOf (tg tc : V64) : V64 := minimumf tg tc

/-- Self-sufficiency ratio. -/
def ssrOf (tg tc : V64) : V64 := Host.divf (usedOf tg tc) (addf tc (all64 0x358637BD#32))

/-- Peak reduction. -/
def peakOf (pw pk : V64) : V64 := Host.divf (subf pw pk) (addf pw (all64 0x358637BD#32))

/-- Mean consumption. -/
def meanOf (cnt tc : V64) : V64 := Host.divf tc (maximumf cnt (all64 0x3F800000#32))

/-- Unbiased variance of the consumption. -/
def varOf (cnt tc sq : V64) : V64 :=
  Host.divf (subf sq (mulf (mulf cnt (meanOf cnt tc)) (meanOf cnt tc)))
    (maximumf (subf cnt (all64 0x3F800000#32)) (all64 0x3F800000#32))

/-- Diversity index. -/
def diverseOf (cnt tc sq : V64) : V64 :=
  Host.divf (Host.sqrt (maximumf (varOf cnt tc sq) (all64 0x2B8CBCCC#32))) (addf (meanOf cnt tc) (all64 0x358637BD#32))

/-- Sharing efficiency. -/
def effOf (sn dl : V64) : V64 :=
  select (cmpf .ogt sn (all64 0x00000000#32))
    (Host.divf dl (select (cmpf .ogt sn (all64 0x00000000#32)) sn (all64 0x3F800000#32))) (all64 0x3F800000#32)

/-- Carbon saved. -/
def carbonOf (tg tc : V64) : V64 := mulf (usedOf tg tc) (all64 0x3ECCCCCD#32)

/-- The weighted sum of the five. -/
def overallOf (cnt tg tc sq pw pk sn dl : V64) (w : FVec Ideal S5 .f32) : V64 :=
  addf (addf (addf (addf
    (mulf (broadcastInDim S64 ![] bcast_S_S64 (shapeCast _ (extractStridedSlice S1 ![0] w slices_S5_S1_0) shapeCasts_S1_S_)) (ssrOf tg tc))
    (mulf (broadcastInDim S64 ![] bcast_S_S64 (shapeCast _ (extractStridedSlice S1 ![1] w slices_S5_S1_1) shapeCasts_S1_S_)) (peakOf pw pk)))
    (mulf (broadcastInDim S64 ![] bcast_S_S64 (shapeCast _ (extractStridedSlice S1 ![2] w slices_S5_S1_2) shapeCasts_S1_S_)) (diverseOf cnt tc sq)))
    (mulf (broadcastInDim S64 ![] bcast_S_S64 (shapeCast _ (extractStridedSlice S1 ![3] w slices_S5_S1_3) shapeCasts_S1_S_)) (effOf sn dl)))
    (mulf (broadcastInDim S64 ![] bcast_S_S64 (shapeCast _ (extractStridedSlice S1 ![4] w slices_S5_S1_4) shapeCasts_S1_S_))
      (Host.divf (carbonOf tg tc) (all64 0x42C80000#32)))

/-- A vector as a column. -/
def colOf (v : V64) : FVec Ideal S64x1 .f32 := broadcastInDim S64x1 ![0] bcast_S64_S64x1_0 v

/-- The six scores of every cluster from its eight quantities and the five weights. -/
def scores (cnt tg tc sq pw pk sn dl : V64) (w : FVec Ideal S5 .f32) : FVec Ideal S64x6 .f32 :=
  concatenate S64x6 1 [⟨S64x1, colOf (ssrOf tg tc)⟩, ⟨S64x1, colOf (peakOf pw pk)⟩, ⟨S64x1, colOf (diverseOf cnt tc sq)⟩,
    ⟨S64x1, colOf (effOf sn dl)⟩, ⟨S64x1, colOf (carbonOf tg tc)⟩, ⟨S64x1, colOf (overallOf cnt tg tc sq pw pk sn dl w)⟩]
    concatenates_S64x1_S64x1_S64x1_S64x1_S64x1_S64x1_S64x6_d1

/-! ## The reference's quantities -/

section Ref

variable (A0 : IVec S1x4096 32) (A3 A4 : FVec Ideal S1x4096x4096 .f32)

/-- The reference's segment sum. -/
def refSum (u : FVec Ideal S4096 .f32) : V64 :=
  Host.scatterAdd scatter_S64_S4096x1_S4096_n_0_0_1 (broadcastInDim S64 ![] bcast_S_S64 (constant S_ .f32 0x00000000#32))
    (broadcastInDim S4096x1 ![0] bcast_S4096_S4096x1_0 (shapeCast _ A0 shapeCasts_S1x4096_S4096)) u

/-- The reference's segment maximum. -/
def refMax (u : FVec Ideal S4096 .f32) : V64 :=
  Host.reduce FloatOps.maximumf
    (select (cmpi .eq
        (broadcastInDim S64x4096 ![0, 1] bcast_S1x4096_S64x4096_0_1
          (broadcastInDim S1x4096 ![1] bcast_S4096_S1x4096_1 (shapeCast _ A0 shapeCasts_S1x4096_S4096)))
        (broadcastInDim S64x4096 ![0, 1] bcast_S64x1_S64x4096_0_1 (broadcastInDim S64x1 ![0] bcast_S64_S64x1_0 (iotaInDim S64 32 0))))
      (broadcastInDim S64x4096 ![0, 1] bcast_S1x4096_S64x4096_0_1 (broadcastInDim S1x4096 ![1] bcast_S4096_S1x4096_1 u))
      (broadcastInDim S64x4096 ![] bcast_S_S64x4096 (id (constant S_ .f32 0xFF800000#32))))
    (constant S_ .f32 0xFF800000#32) reducesTo_S64x4096_S64_d1 h_S_

/-- The reference's one-hot matrix of the clusters. -/
def refHot : FVec Ideal S64x4096 .f32 :=
  transpose S64x4096 [1, 0]
    (uitofp .f32 (cmpi .eq
      (broadcastInDim S4096x64 ![0, 1] bcast_S4096x1_S4096x64_0_1
        (broadcastInDim S4096x1 ![0] bcast_S4096_S4096x1_0 (shapeCast _ A0 shapeCasts_S1x4096_S4096)))
      (broadcastInDim S4096x64 ![0, 1] bcast_S1x64_S4096x64_0_1 (iotaInDim S1x64 32 1))))
    transposes_S4096x64_S64x4096_1_0

/-- The reference's sum over the pairs inside a cluster. -/
def refPair (M : FVec Ideal S4096x4096 .f32) : V64 :=
  Host.reduceAdd (mulf (Host.dotGeneral dot_S64x4096_S4096x4096_S64x4096_1_0_0_1_n_n none (refHot A0) M) (refHot A0))
    (constant S_ .f32 0x00000000#32) reducesTo_S64x4096_S64_d1 h_S_

/-- The sharing matrix. -/
def refShare : FVec Ideal S4096x4096 .f32 := shapeCast _ A3 shapeCasts_S1x4096x4096_S4096x4096

/-- What is delivered: sharing times efficiency. -/
def refDeliv : FVec Ideal S4096x4096 .f32 := mulf (refShare A3) (refShare A4)

/-- The reference's energy received, by household. -/
def refRecv : FVec Ideal S4096 .f32 :=
  Host.reduceAdd (refDeliv A3 A4) (constant S_ .f32 0x00000000#32) reducesTo_S4096x4096_S4096_d0 h_S_

end Ref

/-- A household vector read from its row of the arguments. -/
def rowOf (A : FVec Ideal S1x4096 .f32) : FVec Ideal S4096 .f32 := shapeCast _ A shapeCasts_S1x4096_S4096

/-- The reference's result from its arguments. -/
def refOut (A0 : IVec S1x4096 32) (A1 A2 : FVec Ideal S1x4096 .f32) (A3 A4 : FVec Ideal S1x4096x4096 .f32)
    (A5 : FVec Ideal S5 .f32) : FVec Ideal S64x6 .f32 :=
  scores (refSum A0 (broadcastInDim S4096 ![] bcast_S_S4096 (constant S_ .f32 0x3F800000#32))) (refSum A0 (rowOf A1))
    (refSum A0 (rowOf A2)) (refSum A0 (mulf (rowOf A2) (rowOf A2))) (refMax A0 (rowOf A2))
    (refMax A0 (subf (rowOf A2) (refRecv A3 A4))) (refPair A0 (refShare A3)) (refPair A0 (refDeliv A3 A4)) A5

/-- The reference's result is `refOut` of its arguments. -/
theorem res_eq_refOut (m : (ℓ : Loc nD τ sig) → Buf (Elt Ideal) ℓ) (c : Dev nD) :
    Value.res_out0 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Value.res_out0 Value.res_main_v118
  rfl

/-! ## The reference's quantities as sums and maxima -/

/-- The reference's scatter starts update `i` at its index word. -/
theorem start_word (idx : IVec S4096x1 32) (i : Fin 4096) (a : Fin 1) :
    (scatter_S64_S4096x1_S4096_n_0_0_1).start (ix1 i) idx a = (idx (ix2 i 0)).toInt := by
  obtain rfl : a = 0 := Subsingleton.elim _ _
  unfold ScatterDims.start
  rw [dif_pos (by decide)]
  congr 2
  funext b
  match b with
  | ⟨0, _⟩ => rfl
  | ⟨1, _⟩ => rfl

/-- The reference's scatter has no window. -/
theorem window_zero (i : Fin 4096) (a : Fin 1) : (scatter_S64_S4096x1_S4096_n_0_0_1).window (ix1 i) a = 0 := by
  obtain rfl : a = 0 := Subsingleton.elim _ _
  rfl

/-- A word read signed is a number below 64 exactly when the word is that number. -/
theorem toInt_eq_iff (b : BitVec 32) (k : Fin 64) : b.toInt = (k.val : Int) ↔ b = BitVec.ofNat 32 k.val := by
  have hk := k.isLt
  have e : (BitVec.ofNat 32 k.val).toInt = (k.val : Int) := by
    rw [BitVec.toInt_eq_toNat_cond, BitVec.toNat_ofNat]
    have h2 : (2 : Nat) ^ 32 = 4294967296 := by norm_num
    rw [h2]
    split <;> omega
  constructor
  · intro h
    exact BitVec.eq_of_toInt_eq (h.trans e.symm)
  · rintro rfl
    exact e

/-- An update of the reference's scatter lands at cluster `k` exactly when its index is `k`. -/
theorem lands_iff (idx : IVec S4096x1 32) (i : Fin 4096) (k : Fin 64) :
    (scatter_S64_S4096x1_S4096_n_0_0_1).resultIdx? (ix1 i) idx = some (ix1 k) ↔ idx (ix2 i 0) = BitVec.ofNat 32 k.val := by
  rw [Routing.resultIdx?_eq_some]
  constructor
  · intro h
    have h0 := h 0
    rw [start_word, window_zero] at h0
    exact (toInt_eq_iff _ k).1 (by simpa using h0)
  · intro h a
    rw [start_word, window_zero]
    obtain rfl : a = 0 := Subsingleton.elim _ _
    have := (toInt_eq_iff _ k).2 h
    simpa using this

/-- The reference's segment sum is the sum over the cluster. -/
theorem refSum_eq (A0 : IVec S1x4096 32) (u : FVec Ideal S4096 .f32) :
    refSum A0 u = vec64 (segSum (fun i => A0 (ix2 0 i)) fun i => u (ix1 i)) := by
  funext j
  idx_vars j
  show Ideal.hostScatterAdd _ _ _ _ _ = segSum _ _ _
  unfold Ideal.hostScatterAdd segSum
  have hz : (broadcastInDim S64 ![] bcast_S_S64 (constant S_ .f32 0x00000000#32) : V64) (ix1 j0) = (0 : EReal) := by
    pointwise
  rw [hz, zero_add, Finset.sum_filter, sum_idx1]
  refine Finset.sum_congr rfl fun i _ => ?_
  have e : (broadcastInDim S4096x1 ![0] bcast_S4096_S4096x1_0 (shapeCast S4096 A0 shapeCasts_S1x4096_S4096)) (ix2 i 0) = A0 (ix2 0 i) := by
    pointwise
  refine if_congr ?_ rfl rfl
  rw [lands_iff, e]
  exact Iff.rfl

/-- The word of negative infinity. -/
theorem ofBits_neg_inf : Ideal.ofBits .f32 0xFF800000#32 = ⊥ := by
  simp [Ideal.ofBits, Ideal.ieee]

/-- Choosing by an equality of words. -/
theorem select_cmpi {α : Type} (a b : BitVec 32) (x y : α) :
    Scalar.select (IntOp.cmpi CmpIPredicate.eq a b) x y = if a = b then x else y := by
  rw [show IntOp.cmpi CmpIPredicate.eq a b = BitVec.ofBool (a == b) from rfl]
  by_cases h : a = b
  · subst h; simp [Scalar.select]
  · rw [if_neg h, show (a == b) = false from beq_eq_false_iff_ne.2 h]; rfl

/-- A truth value as a number: one or zero. -/
theorem uitofp_cmpi_eq (a b : BitVec 32) :
    (FloatOps.uitofp FTy.f32 (IntOp.cmpi CmpIPredicate.eq a b) : Ideal .f32) = if a = b then (1 : EReal) else 0 := by
  show (((IntOp.cmpi CmpIPredicate.eq a b).toNat : ℝ) : EReal) = _
  rw [show IntOp.cmpi CmpIPredicate.eq a b = BitVec.ofBool (a == b) from rfl]
  by_cases h : a = b
  · subst h; simp
  · simp [h]

/-- The reference's segment maximum is the maximum over the cluster. -/
theorem refMax_eq (A0 : IVec S1x4096 32) (u : FVec Ideal S4096 .f32) :
    refMax A0 u = vec64 (segMax (fun i => A0 (ix2 0 i)) fun i => u (ix1 i)) := by
  funext j
  idx_vars j
  pointwise [refMax, vec64, segMax]
  simp only [select_cmpi, id_eq]
  pointwise
  rw [ofBits_neg_inf]

/-- The reference's pair sum is the sum over the pairs inside the cluster. -/
theorem refPair_eq (A0 : IVec S1x4096 32) (M : FVec Ideal S4096x4096 .f32) :
    refPair A0 M = vec64 (segPair (fun i => A0 (ix2 0 i)) fun i j => M (ix2 i j)) := by
  funext j
  idx_vars j
  pointwise [refPair, refHot, vec64, segPair]
  simp only [uitofp_cmpi_eq]
  simp only [ite_mul, one_mul, zero_mul, mul_ite, mul_one, mul_zero]
  have e : ∀ i : Fin 4096, (if A0 (ix2 0 i) = BitVec.ofNat 32 j0.val then
      (∑ j : Fin 4096, if A0 (ix2 0 i) = A0 (ix2 0 j) then M (ix2 i j) else 0) else (0 : EReal))
      = ∑ j : Fin 4096, if A0 (ix2 0 j) = BitVec.ofNat 32 j0.val then
          (if A0 (ix2 0 i) = BitVec.ofNat 32 j0.val then M (ix2 i j) else 0) else 0 := by
    intro i
    by_cases h : A0 (ix2 0 i) = BitVec.ofNat 32 j0.val
    · rw [if_pos h]
      refine Finset.sum_congr rfl fun j _ => ?_
      rw [h, if_pos rfl]
      exact if_congr eq_comm rfl rfl
    · rw [if_neg h]
      symm
      refine Finset.sum_eq_zero fun j _ => ?_
      simp [h]
  simp only [e]
  rw [Finset.sum_comm]
  refine Finset.sum_congr rfl fun j _ => ?_
  by_cases h : A0 (ix2 0 j) = BitVec.ofNat 32 j0.val
  · simp only [h, if_true]
  · simp only [if_neg h, Finset.sum_const_zero]

/-- The energy a household receives is the sum down its column of what is delivered. -/
theorem refRecv_apply (A3 A4 : FVec Ideal S1x4096x4096 .f32) (i : Fin 4096) :
    refRecv A3 A4 (ix1 i) = ∑ r : Fin 4096, A3 (ix3 0 r i) * A4 (ix3 0 r i) := by
  pointwise [refRecv, refDeliv, refShare]

end Cert.Proof.Seg

end
-- ==== Proof.Combine.lean ====
/-
  What the combining kernel writes, over the extended reals: the six scores of the quantities it reads off its operands.
-/
module

public import proofs.«01_k».proof.Proof.Bodies
public import proofs.«01_k».proof.Proof.Scores

@[expose] public section

noncomputable section

namespace Cert.Proof.Seg

open Idealize.ShloMosaic Cert.KernelIdeal Cert.KernelIdeal.Gen

section Columns

variable (tg tc cnt sq pw pk sn dl : V64)

/-- The kernel's self-sufficiency ratio is the reference's formula of the same sums. -/
theorem pay14_eq : k2_pay14 (F := Ideal) tg tc = ssrOf tg tc := by
  funext j; idx_vars j
  pointwise [k2_pay14, k2_pay13, ssrOf, usedOf, all64]

/-- The kernel's peak reduction is the reference's formula of the same maxima. -/
theorem pay15_eq : k2_pay15 (F := Ideal) pw pk = peakOf pw pk := by
  funext j; idx_vars j
  pointwise [k2_pay15, peakOf, all64]

/-- The kernel's diversity index is the reference's formula of the same sums. -/
theorem pay16_eq : k2_pay16 (F := Ideal) cnt tc sq = diverseOf cnt tc sq := by
  funext j; idx_vars j
  pointwise [k2_pay16, diverseOf, varOf, meanOf, all64]

/-- The kernel's carbon saved is the reference's formula of the same sums. -/
theorem pay18_eq : k2_pay18 (F := Ideal) tg tc = carbonOf tg tc := by
  funext j; idx_vars j
  pointwise [k2_pay18, k2_pay13, carbonOf, usedOf, all64]

/-- The kernel's sharing efficiency is the reference's, of the energy sent and delivered. -/
theorem pay17_eq (x0 : Vec Ideal S1x4096 .i32) (x5 : Vec Ideal S1x4096 .f32) :
    k2_pay17 (F := Ideal) (k2_pay2 x5) (k2_pay9 (F := Ideal) x0) k2_pay10 sn
      = effOf sn (vec64 (segSum (fun i => x0 (ix2 0 i)) fun i => x5 (ix2 0 i))) := by
  funext j; idx_vars j
  pointwise [k2_pay17, k2_pay2, k2_pay9, k2_pay10, effOf, all64, vec64, segSum]
  simp only [select_cmpi]

/-- The masked row sums of the combining kernel are segment sums. -/
theorem pay12_eq (x0 : Vec Ideal S1x4096 .i32) (x4 : Vec Ideal S1x4096 .f32) :
    k2_pay12 (F := Ideal) x0 x4 = vec64 (segSum (fun i => x0 (ix2 0 i)) fun i => x4 (ix2 0 i)) := by
  funext j; idx_vars j
  pointwise [k2_pay12, k2_pay9, k2_pay10, vec64, segSum]
  simp only [select_cmpi]

/-- The masked row maxima are the segment maxima of the first row less the second. -/
theorem pay11_eq (x0 : Vec Ideal S1x4096 .i32) (x1 x3 : Vec Ideal S1x4096 .f32) :
    k2_pay11 (F := Ideal) x0 x1 x3 = vec64 (segMax (fun i => x0 (ix2 0 i)) fun i => x1 (ix2 0 i) - x3 (ix2 0 i)) := by
  funext j; idx_vars j
  pointwise [k2_pay11, k2_pay9, vec64, segMax]
  simp only [select_cmpi]
  rw [ofBits_neg_inf]

/-- The kernel's six stacked columns, the weighted total among them, are the reference's. -/
theorem pay1_eq (x2 : Vec Ideal S1x5 .f32) :
    k2_pay1 (F := Ideal) (ssrOf tg tc) (peakOf pw pk) (diverseOf cnt tc sq) (effOf sn dl) (carbonOf tg tc) (k2_pay19 x2) (k2_pay20 x2)
      = scores cnt tg tc sq pw pk sn dl (fun j => x2 (ix2 0 (j 0))) := by
  funext j; idx_vars j
  generalize hs : scores cnt tg tc sq pw pk sn dl (fun j => x2 (ix2 0 (j 0))) = R
  unfold scores at hs
  have ho : overallOf cnt tg tc sq pw pk sn dl (fun j => x2 (ix2 0 (j 0))) = overallOf cnt tg tc sq pw pk sn dl (fun j => x2 (ix2 0 (j 0))) := rfl
  unfold overallOf at hs
  generalize ssrOf tg tc = v1 at *
  generalize peakOf pw pk = v2 at *
  generalize diverseOf cnt tc sq = v3 at *
  generalize effOf sn dl = v4 at *
  generalize carbonOf tg tc = v5 at *
  subst hs
  pointwise [k2_pay1, k2_pay19, k2_pay20, colOf, all64]

end Columns

/-- The sum of a bank of the accumulators: column `o + k` of all the lanes' rows. -/
def bankSum (x6 : Vec Ideal S256x320 .f32) (o : ℕ) (ho : o + 64 ≤ 320) (k : Fin 64) : EReal :=
  ∑ r : Fin 256, x6 (ix2 r ⟨o + k.val, lt_of_lt_of_le (Nat.add_lt_add_left k.isLt o) ho⟩)

/-- The greatest of the last bank of the accumulators. -/
def bankMax (x6 : Vec Ideal S256x320 .f32) (k : Fin 64) : EReal :=
  Finset.univ.fold max ⊥ fun r : Fin 256 => x6 (ix2 r ⟨256 + k.val, Nat.add_lt_add_left k.isLt 256⟩)

/-- The first bank of the partial results, summed over the rows. -/
theorem pay4_eq (x6 : Vec Ideal S256x320 .f32) : k2_pay4 (F := Ideal) x6 = vec64 (bankSum x6 0 (by decide)) := by
  funext j; idx_vars j
  pointwise [k2_pay4, k2_pay3, vec64, bankSum]
/-- The second bank of the partial results, summed over the rows. -/
theorem pay5_eq (x6 : Vec Ideal S256x320 .f32) : k2_pay5 (F := Ideal) x6 = vec64 (bankSum x6 64 (by decide)) := by
  funext j; idx_vars j
  pointwise [k2_pay5, k2_pay3, vec64, bankSum]
/-- The third bank of the partial results, summed over the rows. -/
theorem pay6_eq (x6 : Vec Ideal S256x320 .f32) : k2_pay6 (F := Ideal) x6 = vec64 (bankSum x6 128 (by decide)) := by
  funext j; idx_vars j
  pointwise [k2_pay6, k2_pay3, vec64, bankSum]
/-- The fourth bank of the partial results, summed over the rows. -/
theorem pay7_eq (x6 : Vec Ideal S256x320 .f32) : k2_pay7 (F := Ideal) x6 = vec64 (bankSum x6 192 (by decide)) := by
  funext j; idx_vars j
  pointwise [k2_pay7, k2_pay3, vec64, bankSum]
/-- The fifth bank of the partial results, its maximum over the rows. -/
theorem pay8_eq (x6 : Vec Ideal S256x320 .f32) : k2_pay8 (F := Ideal) x6 = vec64 (bankMax x6) := by
  funext j; idx_vars j
  pointwise [k2_pay8, k2_pay3, vec64, bankMax]
  rw [ofBits_neg_inf]

/-- What the combining kernel writes is the scores of its quantities. -/
theorem combineOut_eq (x0 : Vec Ideal S1x4096 .i32) (x1 : Vec Ideal S1x4096 .f32) (x2 : Vec Ideal S1x5 .f32)
    (x3 x4 x5 : Vec Ideal S1x4096 .f32) (x6 : Vec Ideal S256x320 .f32) :
    combineOut x0 x1 x2 x3 x4 x5 x6
      = scores (vec64 (bankSum x6 0 (by decide))) (vec64 (bankSum x6 64 (by decide))) (vec64 (bankSum x6 128 (by decide)))
          (vec64 (bankSum x6 192 (by decide))) (vec64 (bankMax x6))
          (vec64 (segMax (fun i => x0 (ix2 0 i)) fun i => x1 (ix2 0 i) - x3 (ix2 0 i)))
          (vec64 (segSum (fun i => x0 (ix2 0 i)) fun i => x4 (ix2 0 i)))
          (vec64 (segSum (fun i => x0 (ix2 0 i)) fun i => x5 (ix2 0 i))) (fun j => x2 (ix2 0 (j 0))) := by
  unfold combineOut
  rw [pay4_eq, pay5_eq, pay6_eq, pay7_eq, pay8_eq, pay11_eq, pay12_eq, pay14_eq, pay15_eq, pay16_eq, pay17_eq, pay18_eq, pay1_eq]

end Cert.Proof.Seg

end
-- ==== Proof.Sums.lean ====
/-
  What the accumulator of a tile holds after its sixteen groups: for every lane, quantity and segment, the sum or maximum
  over the groups' elements of that lane which lie in the segment.
-/
module

public import proofs.«01_k».proof.Proof.Tile
public import proofs.«01_k».proof.Proof.Combine
public import Idealize.ShloMosaic.Lib.Pointwise
public import Idealize.ShloMosaic.Lib.Pipeline.ValueKit

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## One update of a bank -/

section Store

variable {F : FTy → Type} [FloatOps F]

/-- The word a lane's bank `b` keeps for segment `k`. -/
def at_ (f : Vec F S5120 .f32) (l b k : ℕ) : Elt F .f32 := f (at5120 (320 * l + 64 * b + k))

/-- A lane as an index. -/
abbrev lane (l : Fin 16) : S16.Idx := ix1 l

/-- Writing the lanes of a list in turn changes no word that none of them names. -/
theorem fold_miss (ix : Fin 16 → S5120.Idx) (v : Fin 16 → Elt F .f32) (p : S5120.Idx) (L : List (Fin 16)) :
    (∀ k ∈ L, ix k ≠ p) → ∀ f : Vec F S5120 .f32,
      L.foldl (fun g k => fun j => if (∀ a, (j a).val = (ix k a).val) then v k else g j) f p = f p := by
  induction L with
  | nil => intro _ f; rfl
  | cons k L ih =>
    intro h f
    rw [List.foldl_cons, ih (fun k' hk => h k' (List.mem_cons_of_mem _ hk)), if_neg]
    intro e
    exact h k List.mem_cons_self (funext fun a => Fin.ext (e a).symm)

/-- Where the lanes name distinct words, the word lane `k` names holds lane `k`'s value. -/
theorem fold_hit (ix : Fin 16 → S5120.Idx) (hix : Function.Injective ix) (v : Fin 16 → Elt F .f32) (k : Fin 16) (L : List (Fin 16)) :
    k ∈ L → ∀ f : Vec F S5120 .f32,
      L.foldl (fun g k => fun j => if (∀ a, (j a).val = (ix k a).val) then v k else g j) f (ix k) = v k := by
  induction L with
  | nil => intro h; cases h
  | cons k' L ih =>
    intro h f
    rw [List.foldl_cons]
    by_cases hk : k ∈ L
    · exact ih hk _
    · obtain rfl : k = k' := by rcases List.mem_cons.1 h with e | e; exacts [e, absurd e hk]
      rw [fold_miss ix v (ix k) L (fun k' hk' e => hk (hix e ▸ hk')), if_pos fun a => rfl]

/-- One update of bank `b`, read at a word of bank `b'`: it changes only what the lane's own segment keeps there. -/
theorem bank_at (f : Vec F S5120 .f32) (s : IVec S16 32) (hs : Small s) (ix : IVec S16 32) (b : ℕ) (hb : b < 5)
    (hix : ∀ j, (ix j).toNat = 320 * (j 0).val + 64 * b + (s j).toNat)
    (G : Vec F S16 .f32 → Vec F S16 .f32) (G1 : Fin 16 → Elt F .f32 → Elt F .f32) (hG : ∀ v l, G v (lane l) = G1 l (v (lane l)))
    (l : Fin 16) (b' : ℕ) (hb' : b' < 5) (k : ℕ) (hk : k < 64) :
    at_ (bank f ix G) l b' k = if b' = b ∧ (s (lane l)).toNat = k then G1 l (at_ f l b' k) else at_ f l b' k := by
  have hin : InB ix := by
    intro a x
    obtain rfl : a = 0 := Subsingleton.elim _ _
    show (ix x).toNat < 5120
    have h1 : (x 0).val < 16 := (x 0).isLt
    have h2 := hs x
    rw [hix]; omega
  have hl := l.isLt
  let e : Fin 16 → S5120.Idx := fun m => idxAt (s := S5120) ![ix] hin (Shape.ofLane (d := ![16]) m)
  have hlane : ∀ m : Fin 16, (Shape.ofLane (d := ![16]) m) = lane m := fun m => by
    funext a; obtain rfl : a = 0 := Subsingleton.elim _ _; rfl
  have he : ∀ m : Fin 16, (e m 0).val = 320 * m.val + 64 * b + (s (lane m)).toNat := fun m => by
    show (ix (Shape.ofLane (d := ![16]) m)).toNat = _
    rw [hlane, hix]
    rfl
  have hinj : Function.Injective e := by
    intro m m' h
    have h1 := he m
    have h2 := he m'
    rw [h] at h1
    have h3 := hs (lane m)
    have h4 := hs (lane m')
    apply Fin.ext
    omega
  have hp : ∀ n, n < 5120 → (at5120 n 0).val = n := fun n hn => Nat.mod_eq_of_lt hn
  have hbank : bank f ix G = (List.finRange 16).foldl (fun g k => fun j => if (∀ a, (j a).val = (e k a).val) then
      G (loadIdx f ![ix] hin) (Shape.ofLane (d := ![16]) k) else g j) f := by
    unfold bank
    rw [dif_pos hin]
    unfold storeIdx
    show (List.finRange 16).foldl _ f = _
    congr 1
    funext g k
    simp only [Bool.false_eq_true, if_false, e]
    rw [if_pos (by rfl)]
  unfold at_
  rw [hbank]
  by_cases h : b' = b ∧ (s (lane l)).toNat = k
  · rw [if_pos h]
    obtain ⟨rfl, rfl⟩ := h
    have hpe : at5120 (320 * l.val + 64 * b' + (s (lane l)).toNat) = e l := by
      funext a
      obtain rfl : a = 0 := Subsingleton.elim _ _
      apply Fin.ext
      rw [he, hp _ (by omega)]
    rw [hpe, fold_hit e hinj _ l _ (List.mem_finRange _), hlane, hG]
    congr 1
    show f (idxAt (s := S5120) ![ix] hin (lane l)) = _
    rw [← hlane]
  · rw [if_neg h]
    refine fold_miss e _ _ _ (fun m _ hm => h ?_) f
    have h1 := he m
    rw [hm, hp _ (by omega)] at h1
    have h3 := hs (lane m)
    have hm' := m.isLt
    have : m = l := Fin.ext (by omega)
    subst this
    constructor <;> omega

end Store

section Groups

variable {s : IVec S16 32} {g c : Vec Ideal S16 .f32}

/-- One group's five updates, bank by bank. -/
theorem step_at (hs : Small s) (f : Vec Ideal S5120 .f32) (l : Fin 16) (b : ℕ) (hb : b < 5) (k : ℕ) (hk : k < 64) :
    (at_ (stepG s g c f) l b k : EReal) = if (s (lane l)).toNat = k then
      (if b = 0 then at_ f l b k + 1 else if b = 1 then at_ f l b k + g (lane l) else if b = 2 then at_ f l b k + c (lane l)
        else if b = 3 then at_ f l b k + c (lane l) * c (lane l) else max (at_ f l b k) (c (lane l))) else at_ f l b k := by
  unfold stepG
  unfold b5
  rw [bank_at _ s hs _ 4 (by decide) (fun j => by rw [ixo_toNat hs (by decide)]; rfl) _ (fun l v => max v (c (lane l)))
    (fun v l => rfl) l b hb k hk]
  unfold b4
  rw [bank_at _ s hs _ 3 (by decide) (fun j => by rw [ixo_toNat hs (by decide)]; rfl) _ (fun l v => (v + c (lane l) * c (lane l) : EReal))
    (fun v l => rfl) l b hb k hk]
  unfold b3
  rw [bank_at _ s hs _ 2 (by decide) (fun j => by rw [ixo_toNat hs (by decide)]; rfl) _ (fun l v => (v + c (lane l) : EReal))
    (fun v l => rfl) l b hb k hk]
  unfold b2
  rw [bank_at _ s hs _ 1 (by decide) (fun j => by rw [ixo_toNat hs (by decide)]; rfl) _ (fun l v => (v + g (lane l) : EReal))
    (fun v l => rfl) l b hb k hk]
  unfold b1
  rw [bank_at _ s hs _ 0 (by decide) (fun j => by rw [ix0_toNat hs]; rfl) _ (fun l v => (v + 1 : EReal))
    (fun v l => by show (v (lane l) + ones16 (F := Ideal) (lane l) : EReal) = _; unfold ones16; pointwise) l b hb k hk]
  by_cases h : (s (lane l)).toNat = k
  · interval_cases b <;> simp [h]
  · simp [h]

end Groups

section All

variable (s : Vec Ideal S256 .i32) (g c : Vec Ideal S256 .f32) (f : Vec Ideal S5120 .f32)

/-- Element `l` of group `m`. -/
abbrev el (m : ℕ) (l : Fin 16) : S256.Idx := at256 (16 * m + l.val)

variable (hs : ∀ j, (s j).toNat < 64)
include hs

/-- Each group's segments are below 64. -/
theorem hsn (n : ℕ) : Small (grp (F := Ideal) s n) := fun _ => hs _

/-- A summing bank after `n` groups, for a term `x`. -/
theorem acc_sum (b : ℕ) (hb : b < 4) (x : S256.Idx → EReal)
    (hx : x = if b = 0 then (fun _ => 1) else if b = 1 then g else if b = 2 then c else fun j => c j * c j)
    (n : ℕ) (l : Fin 16) (k : ℕ) (hk : k < 64) :
    (at_ (accN s g c f n) l b k : EReal)
      = at_ f l b k + ∑ m ∈ Finset.range n, if (s (el m l)).toNat = k then x (el m l) else 0 := by
  induction n with
  | zero => rw [Finset.sum_range_zero, add_zero]; rfl
  | succ n ih =>
    have e : at_ (accN s g c f (n + 1)) l b k = at_ (stepG (grp (F := Ideal) s n) (grp g n) (grp c n) (accN s g c f n)) l b k := rfl
    rw [e, step_at (hsn s hs n) _ l b (by omega) k hk, Finset.sum_range_succ, ← add_assoc, ← ih]
    show (if (s (el n l)).toNat = k then _ else _) = _
    by_cases h : (s (el n l)).toNat = k
    · rw [if_pos h, if_pos h, hx]
      interval_cases b <;> rfl
    · rw [if_neg h, if_neg h, add_zero]

/-- The maximum's bank after `n` groups. -/
theorem acc_max (n : ℕ) (l : Fin 16) (k : ℕ) (hk : k < 64) :
    (at_ (accN s g c f n) l 4 k : EReal)
      = at_ f l 4 k ⊔ (Finset.range n).sup fun m => if (s (el m l)).toNat = k then (c (el m l) : EReal) else ⊥ := by
  induction n with
  | zero => rw [Finset.range_zero, Finset.sup_empty, sup_bot_eq]; rfl
  | succ n ih =>
    have e : at_ (accN s g c f (n + 1)) l 4 k = at_ (stepG (grp (F := Ideal) s n) (grp g n) (grp c n) (accN s g c f n)) l 4 k := rfl
    rw [e, step_at (hsn s hs n) _ l 4 (by decide) k hk, Finset.range_add_one, Finset.sup_insert, sup_left_comm, ← ih, sup_comm]
    show (if (s (el n l)).toNat = k then _ else _) = _
    by_cases h : (s (el n l)).toNat = k
    · rw [if_pos h, if_pos h]
      rfl
    · rw [if_neg h, if_neg h]
      exact (bot_sup_eq _).symm

end All

end Cert.Proof.Seg

end
-- ==== Proof.Rows.lean ====
/-
  The 256 rows of partial results, one for each tile and lane, added up or maximized: the segment sums and maxima over
  all the households.
-/
module

public import proofs.«01_k».proof.Proof.Sums

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The households' axis as the tiles walk it: tile, lane and group. -/
theorem sum_walk (T : ℕ → EReal) :
    ∑ r : Fin 256, ∑ m ∈ Finset.range 16, T (256 * (r.val / 16) + (16 * m + r.val % 16)) = ∑ i : Fin 4096, T i.val := by
  have h1 := Fin.sum_univ_mul_divmod 16 16 fun w l => ∑ m ∈ Finset.range 16, T (256 * w + (16 * m + l))
  refine h1.trans ?_
  have h2 : ∀ w : Fin 16, ∑ l : Fin 16, ∑ m ∈ Finset.range 16, T (256 * w.val + (16 * m + l.val)) = ∑ q : Fin 256, T (w.val * 256 + q.val) := by
    intro w
    have h3 := Fin.sum_univ_univ_mul_add 16 16 fun q => T (w.val * 256 + q)
    refine Eq.trans ?_ h3
    simp only [Finset.sum_range]
    rw [Finset.sum_comm]
    refine Finset.sum_congr rfl fun m _ => Finset.sum_congr rfl fun l _ => congrArg T ?_
    ring
  simp only [h2]
  exact Fin.sum_univ_univ_mul_add 16 256 T

/-- The maximum over rows and groups is the maximum over all households. -/
theorem sup_walk (T : ℕ → EReal) :
    (Finset.univ : Finset (Fin 256)).sup (fun r => (Finset.range 16).sup fun m => T (256 * (r.val / 16) + (16 * m + r.val % 16)))
      = (Finset.univ : Finset (Fin 4096)).sup fun i => T i.val := by
  apply le_antisymm
  · refine Finset.sup_le fun r _ => Finset.sup_le fun m hm => ?_
    have hm := Finset.mem_range.1 hm
    have hr := r.isLt
    exact Finset.le_sup (f := fun i : Fin 4096 => T i.val) (Finset.mem_univ (⟨256 * (r.val / 16) + (16 * m + r.val % 16), by omega⟩ : Fin 4096))
  · refine Finset.sup_le fun i _ => ?_
    have hi := i.isLt
    have e : T i.val = T (256 * ((16 * (i.val / 256) + i.val % 16) / 16) + (16 * (i.val % 256 / 16) + (16 * (i.val / 256) + i.val % 16) % 16)) :=
      congrArg T (by omega)
    rw [e]
    refine le_trans ?_ (Finset.le_sup (f := fun r : Fin 256 => (Finset.range 16).sup fun m => T (256 * (r.val / 16) + (16 * m + r.val % 16)))
      (Finset.mem_univ (⟨16 * (i.val / 256) + i.val % 16, by omega⟩ : Fin 256)))
    exact Finset.le_sup (f := fun m => T (256 * ((16 * (i.val / 256) + i.val % 16) / 16) + (16 * m + (16 * (i.val / 256) + i.val % 16) % 16)))
      (Finset.mem_range.2 (by omega))

variable (X : In Ideal)

/-- The result of the call, one row for each tile and lane. -/
def outRows : Vec Ideal S256x320 .f32 := fun y => at_ (tileAcc X ((y 0).val / 16)) ((y 0).val % 16) 0 (y 1).val

/-- A word given from the lane's start is the word of its bank. -/
theorem at_zero (f : Vec Ideal S5120 .f32) (l b k : ℕ) : at_ f l 0 (64 * b + k) = at_ f l b k := by
  unfold at_
  congr 2
  omega

/-- An element of a tile's piece, by its group and its lane, is the household of that number. -/
theorem piece_el {e : EltTy} (x : Vec Ideal S4096 e) (w m : ℕ) (hm : m < 16) (l : Fin 16) :
    piece x w (el m l) = x (at4096 (256 * w + (16 * m + l.val))) := by
  unfold piece
  have hl := l.isLt
  congr 2
  show 256 * w + (16 * m + l.val) % 256 = _
  rw [Nat.mod_eq_of_lt (by omega)]

/-- The index of a household's number is the household. -/
theorem at4096_ix1 (i : Fin 4096) : at4096 i.val = (ix1 i : S4096.Idx) := by
  funext a
  obtain rfl : a = 0 := Subsingleton.elim _ _
  exact Fin.ext (Nat.mod_eq_of_lt i.isLt)

/-- A word's number is a cluster's exactly when the word is that cluster's word. -/
theorem word_iff (v : BitVec 32) (k : Fin 64) : v.toNat = k.val ↔ v = BitVec.ofNat 32 k.val := by
  have hk := k.isLt
  constructor
  · intro h
    apply BitVec.eq_of_toNat_eq
    rw [BitVec.toNat_ofNat, h, Nat.mod_eq_of_lt (by omega)]
  · rintro rfl
    rw [BitVec.toNat_ofNat, Nat.mod_eq_of_lt (by omega)]

variable (hs : ∀ j, (X.s8 j).toNat < 64)
include hs

/-- A summing bank, over all the rows, is the segment sum of its term. -/
theorem bankSum_outRows (b : ℕ) (hb : b < 4) (ho : 64 * b + 64 ≤ 320) (x : S4096.Idx → EReal)
    (hx : x = if b = 0 then (fun _ => 1) else if b = 1 then X.g9 else if b = 2 then X.c10 else fun j => X.c10 j * X.c10 j)
    (h0 : ∀ l k, l < 16 → k < 64 → at_ X.i7 l b k = (0 : EReal)) (k : Fin 64) :
    bankSum (outRows X) (64 * b) ho k = segSum (fun i => X.s8 (ix1 i)) (fun i => x (ix1 i)) k := by
  unfold bankSum segSum
  have hT := sum_walk fun n => if (X.s8 (at4096 n)).toNat = k.val then x (at4096 n) else 0
  simp only [at4096_ix1, word_iff] at hT
  refine Eq.trans (Finset.sum_congr rfl fun r _ => ?_) hT
  have hr := r.isLt
  show (at_ (tileAcc X (r.val / 16)) (r.val % 16) 0 (64 * b + k.val) : EReal) = _
  rw [at_zero]
  refine (acc_sum (piece X.s8 (r.val / 16)) (piece X.g9 (r.val / 16)) (piece X.c10 (r.val / 16)) X.i7 (fun j => hs _) b hb
    (fun j => x (at4096 (256 * (r.val / 16) + (j 0).val))) (by subst hx; interval_cases b <;> rfl) 16
    ⟨r.val % 16, Nat.mod_lt _ (by decide)⟩ k.val k.isLt).trans ?_
  rw [h0 _ _ (Nat.mod_lt _ (by decide)) k.isLt, zero_add]
  refine Finset.sum_congr rfl fun m hm => ?_
  have hm := Finset.mem_range.1 hm
  rw [piece_el _ _ _ hm]
  simp only [word_iff]
  have e : (el m ⟨r.val % 16, Nat.mod_lt _ (by decide)⟩ 0).val = 16 * m + r.val % 16 := Nat.mod_eq_of_lt (by omega)
  rw [e]

/-- The last bank, over all the rows, is the segment maximum of the consumption. -/
theorem bankMax_outRows (h0 : ∀ l k, l < 16 → k < 64 → at_ X.i7 l 4 k = (⊥ : EReal)) (k : Fin 64) :
    bankMax (outRows X) k = segMax (fun i => X.s8 (ix1 i)) (fun i => X.c10 (ix1 i)) k := by
  have hT := sup_walk fun n => if (X.s8 (at4096 n)).toNat = k.val then (X.c10 (at4096 n) : EReal) else ⊥
  simp only [at4096_ix1, word_iff] at hT
  refine Eq.trans (Finset.sup_congr (g := fun r : Fin 256 => _) rfl fun r _ => ?_) hT
  have hr := r.isLt
  show (at_ (tileAcc X (r.val / 16)) (r.val % 16) 0 (64 * 4 + k.val) : EReal) = _
  rw [at_zero]
  refine (acc_max (piece X.s8 (r.val / 16)) (piece X.g9 (r.val / 16)) (piece X.c10 (r.val / 16)) X.i7 (fun j => hs _) 16
    ⟨r.val % 16, Nat.mod_lt _ (by decide)⟩ k.val k.isLt).trans ?_
  rw [h0 _ _ (Nat.mod_lt _ (by decide)) k.isLt, bot_sup_eq]
  refine Finset.sup_congr rfl fun m hm => ?_
  have hm := Finset.mem_range.1 hm
  rw [piece_el _ _ _ hm, piece_el _ _ _ hm]
  simp only [word_iff]

end Cert.Proof.Seg

end
-- ==== Proof.Reads.lean ====
/-
  The two TensorCore regions' arrays: what their windows read of the operands and what the results hold in the end.
-/
module

public import proofs.«01_k».proof.Proof.Ends
public import proofs.«01_k».proof.Proof.Combine
public import Idealize.ShloMosaic.Lib.Pointwise
public import Idealize.ShloMosaic.Lib.Pipeline.ValueKit

@[expose] public section

set_option maxRecDepth 16384

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window)

/-- An index of a single row is row 0 and its column. -/
theorem row_ix2 {n : ℕ} (y : (⟨2, ![1, n]⟩ : Shape).Idx) : y = ix2 0 (y 1) := by
  funext a
  fin_cases a
  · exact Subsingleton.elim (α := Fin 1) _ _
  · rfl

section Reads

variable (V : Valuation τ sig (Elt F))

/-- A point of the streaming grid is below 8. -/
theorem point_lt (t : Fin cfg0.N) : t.val < 8 := lt_of_lt_of_eq t.isLt N_0

/-- Row `r` of grid point `t` is household `512 t + r`. -/
def rowIx (t : Fin cfg0.N) (r : Fin 512) : Fin 4096 := ⟨t.val * 512 + r.val, by have := point_lt t; have := r.isLt; omega⟩

/-- The rows' cluster numbers move along with the point. -/
theorem idx0_0 : ∀ t : Fin cfg0.N, win0_0.index t = ![0, t.val] := by decide +kernel
/-- All the cluster numbers stay in place. -/
theorem idx0_1 : ∀ t : Fin cfg0.N, win0_1.index t = ![0, 0] := by decide +kernel
/-- The sharing matrix moves down a block with the point. -/
theorem idx0_2 : ∀ t : Fin cfg0.N, win0_2.index t = ![0, t.val, 0] := by decide +kernel
/-- The efficiency matrix moves down a block with the point. -/
theorem idx0_3 : ∀ t : Fin cfg0.N, win0_3.index t = ![0, t.val, 0] := by decide +kernel
/-- The first masked sums' block moves along with the point. -/
theorem idx0_5 : ∀ t : Fin cfg0.N, win0_5.index t = ![0, t.val] := by decide +kernel
/-- The second masked sums' block moves along with the point. -/
theorem idx0_6 : ∀ t : Fin cfg0.N, win0_6.index t = ![0, t.val] := by decide +kernel

/-- A point's cluster numbers are those of its 512 rows. -/
theorem rowsAt_apply (t : Fin cfg0.N) (r : Fin 512) :
    rowsAt V t (ix2 0 r) = (V main_arg0 : Vec F S1x4096 .i32) (ix2 0 (rowIx t r)) := by
  unfold rowsAt rowIx
  blk_ext [idx0_0]

/-- Every point reads all the cluster numbers. -/
theorem segAt_apply (t : Fin cfg0.N) (j : Fin 4096) :
    segAt V t (ix2 0 j) = (V main_arg0 : Vec F S1x4096 .i32) (ix2 0 j) := by
  unfold segAt
  blk_ext [idx0_1]

/-- A point's block of the sharing matrix is its 512 rows. -/
theorem shareAt_apply (t : Fin cfg0.N) (r : Fin 512) (j : Fin 4096) :
    shareAt V t (ix3 0 r j) = (V main_arg3 : Vec F S1x4096x4096 .f32) (ix3 0 (rowIx t r) j) := by
  unfold shareAt rowIx
  blk_ext [idx0_2]

/-- A point's block of the efficiency matrix is its 512 rows. -/
theorem effAt_apply (t : Fin cfg0.N) (r : Fin 512) (j : Fin 4096) :
    effAt V t (ix3 0 r j) = (V main_arg4 : Vec F S1x4096x4096 .f32) (ix3 0 (rowIx t r) j) := by
  unfold effAt rowIx
  blk_ext [idx0_3]

/-- Operand 0 of the combining call is a single block. -/
theorem idx2_0 : ∀ t : Fin cfg2.N, win2_0.index t = ![0, 0] := by decide +kernel
/-- Operand 1 of the combining call is a single block. -/
theorem idx2_1 : ∀ t : Fin cfg2.N, win2_1.index t = ![0, 0] := by decide +kernel
/-- Operand 2 of the combining call is a single block. -/
theorem idx2_2 : ∀ t : Fin cfg2.N, win2_2.index t = ![0, 0] := by decide +kernel
/-- Operand 3 of the combining call is a single block. -/
theorem idx2_3 : ∀ t : Fin cfg2.N, win2_3.index t = ![0, 0] := by decide +kernel
/-- Operand 4 of the combining call is a single block. -/
theorem idx2_4 : ∀ t : Fin cfg2.N, win2_4.index t = ![0, 0] := by decide +kernel
/-- Operand 5 of the combining call is a single block. -/
theorem idx2_5 : ∀ t : Fin cfg2.N, win2_5.index t = ![0, 0] := by decide +kernel
/-- Operand 6 of the combining call is a single block. -/
theorem idx2_6 : ∀ t : Fin cfg2.N, win2_6.index t = ![0, 0] := by decide +kernel

/-- The combining call reads the cluster numbers whole. -/
theorem in2_0_eq (t) : in2_0 V t = (V main_arg0 : Vec F S1x4096 .i32) := by
  unfold in2_0; funext y; blk_ext [idx2_0]
/-- The combining call reads the consumptions whole. -/
theorem in2_1_eq (t) : in2_1 V t = (V main_arg2 : Vec F S1x4096 .f32) := by
  unfold in2_1; funext y; blk_ext [idx2_1]
/-- The combining call reads the weights whole. -/
theorem in2_2_eq (t) : in2_2 V t = (V main_v0 : Vec F S1x5 .f32) := by
  unfold in2_2; funext y; blk_ext [idx2_2]
/-- The combining call reads the energy received whole. -/
theorem in2_3_eq (t) : in2_3 V t = (V main_v1_0 : Vec F S1x4096 .f32) := by
  unfold in2_3; funext y; blk_ext [idx2_3]
/-- The combining call reads the energy sent whole. -/
theorem in2_4_eq (t) : in2_4 V t = (V main_v1_1 : Vec F S1x4096 .f32) := by
  unfold in2_4; funext y; blk_ext [idx2_4]
/-- The combining call reads the energy delivered whole. -/
theorem in2_5_eq (t) : in2_5 V t = (V main_v1_2 : Vec F S1x4096 .f32) := by
  unfold in2_5; funext y; blk_ext [idx2_5]
/-- The combining call reads the partial results whole. -/
theorem in2_6_eq (t) : in2_6 V t = (V main_v12 : Vec F S256x320 .f32) := by
  unfold in2_6; funext y; blk_ext [idx2_6]

end Reads

section Results

variable (d : Dev nD) (V : Valuation τ sig (Elt F))

/-- The combining region leaves its kernel's value of the operands. -/
theorem after1_v13 : after1 d V (main_v13 : DevRef τ sig)
    = combineOut (V main_arg0) (V main_arg2) (V main_v0) (V main_v1_0) (V main_v1_1) (V main_v1_2) (V main_v12) := by
  refine (hF1 V d 7).symm.trans ?_
  refine (dat1 V d).arrAt_eq_of_after_last 7 t2_0 (by decide +kernel) _ fun j => ?_
  dsimp only [dat1]
  rw [in2_0_eq, in2_1_eq, in2_2_eq, in2_3_eq, in2_4_eq, in2_5_eq, in2_6_eq]
  blk_simp

/-- The streaming region leaves the column sums over all the rows, -/
theorem after0_v1_0 : after0 d V (main_v1_0 : DevRef τ sig) = k0_pay1 (accS V 7) := by
  refine (hF0 V d 4).symm.trans ?_
  refine (dat0 V d).arrAt_eq_of_after_last 4 t0_7 (by decide +kernel) _ fun j => ?_
  dsimp only [dat0]
  blk_simp
  rfl

/-- The grid point whose block holds column `i`. -/
def pointOf (i : Fin 4096) : Fin cfg0.N := ⟨i.val / 512, by rw [show cfg0.N = 8 from N_0]; have := i.isLt; omega⟩

/-- Where column `i` lies in its block. -/
def colIn (i : Fin 4096) : Fin 512 := ⟨i.val % 512, Nat.mod_lt _ (by decide)⟩

/-- A household is the row of its point and of its place in that point's block. -/
theorem row_point (i : Fin 4096) : rowIx (pointOf i) (colIn i) = i := by
  apply Fin.ext
  simp only [rowIx, pointOf, colIn]
  omega

/-- the masked row sums of what is sent, -/
theorem after0_v1_1 : (after0 d V (main_v1_1 : DevRef τ sig) : Vec F S1x4096 .f32) = fun y =>
    k0_pay8 (shareAt V (pointOf (y 1))) (rowsAt V (pointOf (y 1))) (segAt V (pointOf (y 1))) (ix2 0 (colIn (y 1))) := by
  refine (hF0 V d 5).symm.trans ?_
  refine (dat0 V d).arrAt_eq_of_covers 5 _ (by decide +kernel) fun t hf y => ?_
  dsimp only [dat0]
  blk_simp [idx0_5]
  have e : ((win0_5.blk t).view.emb y 1).val = t.val * 512 + (y 1).val := by blk_simp [idx0_5]
  have hy : (y 1).val < 512 := (y 1).isLt
  have hp : pointOf ((win0_5.blk t).view.emb y 1) = t := Fin.ext (by show _ / 512 = _; rw [e]; omega)
  have hq : colIn ((win0_5.blk t).view.emb y 1) = y 1 := Fin.ext (by show _ % 512 = _; rw [e]; omega)
  rw [hp, hq]
  exact congrArg _ (row_ix2 y)

/-- and of what is delivered. -/
theorem after0_v1_2 : (after0 d V (main_v1_2 : DevRef τ sig) : Vec F S1x4096 .f32) = fun y =>
    k0_pay9 (shareAt V (pointOf (y 1))) (effAt V (pointOf (y 1))) (rowsAt V (pointOf (y 1))) (segAt V (pointOf (y 1))) (ix2 0 (colIn (y 1))) := by
  refine (hF0 V d 6).symm.trans ?_
  refine (dat0 V d).arrAt_eq_of_covers 6 _ (by decide +kernel) fun t hf y => ?_
  dsimp only [dat0]
  blk_simp [idx0_6]
  have e : ((win0_6.blk t).view.emb y 1).val = t.val * 512 + (y 1).val := by blk_simp [idx0_6]
  have hy : (y 1).val < 512 := (y 1).isLt
  have hp : pointOf ((win0_6.blk t).view.emb y 1) = t := Fin.ext (by show _ / 512 = _; rw [e]; omega)
  have hq : colIn ((win0_6.blk t).view.emb y 1) = y 1 := Fin.ext (by show _ % 512 = _; rw [e]; omega)
  rw [hp, hq]
  exact congrArg _ (row_ix2 y)

end Results

section OverReals

variable (d : Dev nD) (V : Valuation τ sig (Elt Ideal))

/-- What household `i` sends to its own segment, at a block's row. -/
theorem pay8_apply (x : Vec Ideal S1x512x4096 .f32) (rows : Vec Ideal S1x512 .i32) (seg : Vec Ideal S1x4096 .i32) (r : Fin 512) :
    (k0_pay8 x rows seg (ix2 0 r) : EReal) = ∑ j : Fin 4096, if rows (ix2 0 r) = seg (ix2 0 j) then x (ix3 0 r j) else 0 := by
  pointwise [k0_pay8, k0_pay7, k0_pay2]
  simp only [select_cmpi]

/-- A row's masked sum of products: those columns whose cluster is the row's. -/
theorem pay9_apply (x y : Vec Ideal S1x512x4096 .f32) (rows : Vec Ideal S1x512 .i32) (seg : Vec Ideal S1x4096 .i32) (r : Fin 512) :
    (k0_pay9 x y rows seg (ix2 0 r) : EReal) = ∑ j : Fin 4096, if rows (ix2 0 r) = seg (ix2 0 j) then x (ix3 0 r j) * y (ix3 0 r j) else 0 := by
  pointwise [k0_pay9, k0_pay7, k0_pay3, k0_pay2]
  simp only [select_cmpi]

/-- The first block's column sums of products. -/
theorem pay5_apply (x y : Vec Ideal S1x512x4096 .f32) (j : Fin 4096) :
    (k0_pay5 x y (ix2 0 j) : EReal) = ∑ r : Fin 512, x (ix3 0 r j) * y (ix3 0 r j) := by
  pointwise [k0_pay5, k0_pay4, k0_pay3, k0_pay2]

/-- The running column sums with one more block's added. -/
theorem pay6_apply (x y : Vec Ideal S1x512x4096 .f32) (A : Vec Ideal S1x4096 .f32) (j : Fin 4096) :
    (k0_pay6 x y A (ix2 0 j) : EReal) = A (ix2 0 j) + ∑ r : Fin 512, x (ix3 0 r j) * y (ix3 0 r j) := by
  pointwise [k0_pay6, k0_pay4, k0_pay3, k0_pay2]

/-- The running sums are written out as they are. -/
theorem sums_eq (A : Vec Ideal S1x4096 .f32) : k0_pay1 A = A := by
  funext j; idx_vars j; pointwise [k0_pay1]

/-- The product of sharing and efficiency. -/
def prodOf (A3 A4 : Vec Ideal S1x4096x4096 .f32) (r j : Fin 4096) : EReal := A3 (ix3 0 r j) * A4 (ix3 0 r j)

/-- The terms of household `i`'s row that lie in its own segment, summed. -/
def ownRow (A0 : Vec Ideal S1x4096 .i32) (M : Fin 4096 → Fin 4096 → EReal) (i : Fin 4096) : EReal :=
  ∑ j : Fin 4096, if A0 (ix2 0 i) = A0 (ix2 0 j) then M i j else 0

/-- The column sums of one block of rows. -/
def blockSum (A3 A4 : Vec Ideal S1x4096x4096 .f32) (j : Fin 4096) (t : ℕ) : EReal :=
  ∑ r : Fin 512, if h : t * 512 + r.val < 4096 then prodOf A3 A4 ⟨t * 512 + r.val, h⟩ j else 0

/-- A point's column sum is the sum over its block of rows. -/
theorem block_eq (t : Fin cfg0.N) (j : Fin 4096) :
    (∑ r : Fin 512, (shareAt V t (ix3 0 r j) : EReal) * effAt V t (ix3 0 r j)) = blockSum (V main_arg3) (V main_arg4) j t.val := by
  unfold blockSum
  refine Finset.sum_congr rfl fun r _ => ?_
  have ht := point_lt t
  have hr := r.isLt
  rw [shareAt_apply, effAt_apply, dif_pos (by omega)]
  rfl

/-- After point `n` the running sum of a column is the sum over the blocks up to `n`. -/
theorem accS_apply (n : ℕ) (hn : n < 8) (j : Fin 4096) :
    (accS V n (ix2 0 j) : EReal) = ∑ t ∈ Finset.range (n + 1), blockSum (V main_arg3) (V main_arg4) j t := by
  induction n with
  | zero =>
    rw [Finset.sum_range_one]
    show (k0_pay5 (shareAt V t0_0) (effAt V t0_0) (ix2 0 j) : EReal) = _
    rw [pay5_apply, block_eq]
    rfl
  | succ n ih =>
    rw [Finset.sum_range_succ, ← ih (by omega), accS, dif_pos (by rw [show cfg0.N = 8 from N_0]; exact hn), pay6_apply, block_eq]

/-- What each household receives: the sum down its column. -/
theorem after0_recv (j : Fin 4096) : ((after0 d V (main_v1_0 : DevRef τ sig) : Vec Ideal S1x4096 .f32) (ix2 0 j) : EReal)
    = ∑ r : Fin 4096, prodOf (V main_arg3) (V main_arg4) r j := by
  rw [after0_v1_0, sums_eq, accS_apply V 7 (by decide), Finset.sum_range]
  unfold blockSum
  refine Fin.sum_mul_add_congr fun s k hl => ?_
  rw [dif_pos hl]

/-- What each household sends inside its segment. -/
theorem after0_sent (i : Fin 4096) : ((after0 d V (main_v1_1 : DevRef τ sig) : Vec Ideal S1x4096 .f32) (ix2 0 i) : EReal)
    = ownRow (V main_arg0) (fun i j => (V main_arg3 : Vec Ideal S1x4096x4096 .f32) (ix3 0 i j)) i := by
  have hi : rowIx (pointOf ((ix2 0 i : S1x4096.Idx) 1)) (colIn ((ix2 0 i : S1x4096.Idx) 1)) = i := row_point i
  rw [after0_v1_1]
  refine (pay8_apply _ _ _ _).trans (Finset.sum_congr rfl fun j _ => ?_)
  rw [rowsAt_apply, segAt_apply, shareAt_apply, hi]

/-- What of it arrives. -/
theorem after0_deliv (i : Fin 4096) : ((after0 d V (main_v1_2 : DevRef τ sig) : Vec Ideal S1x4096 .f32) (ix2 0 i) : EReal)
    = ownRow (V main_arg0) (prodOf (V main_arg3) (V main_arg4)) i := by
  have hi : rowIx (pointOf ((ix2 0 i : S1x4096.Idx) 1)) (colIn ((ix2 0 i : S1x4096.Idx) 1)) = i := row_point i
  rw [after0_v1_2]
  refine (pay9_apply _ _ _ _ _).trans (Finset.sum_congr rfl fun j _ => ?_)
  rw [rowsAt_apply, segAt_apply, shareAt_apply, effAt_apply, hi]
  rfl

end OverReals

end Cert.Proof.Seg

end
-- ==== Proof.Values.lean ====
/-
  The program's result from its arguments: the arrays at the SparseCore call and at the combining region, then the result
  as the scores of the segments' sums and maxima.
-/
module

public import proofs.«01_k».proof.Proof.Rows
public import proofs.«01_k».proof.Proof.Reads

@[expose] public section

set_option maxRecDepth 16384

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open StableHlo (reshape_result reshape_result_ne unary_result unary_result_ne binary_result binary_result_ne nullary_result nullary_result_ne)

section Init

variable {F : FTy → Type} [FloatOps F]

/-- The accumulators' starting words: for every lane 256 zeros, then 64 negative infinities. -/
def initAcc : Vec F S5120 .f32 :=
  shapeCast S5120 (broadcastInDim S16x320 ![0, 1] bcast_S1x320_S16x320_0_1 (shapeCast S1x320
    (concatenate S320 0 [⟨S256, broadcastInDim S256 ![] bcast_S_S256 (constant (F := F) S_ .f32 0x00000000#32)⟩,
      ⟨S64, broadcastInDim S64 ![] bcast_S_S64 (constant (F := F) S_ .f32 0xFF800000#32)⟩] concatenates_S256_S64_S320_d0)
    shapeCasts_S320_S1x320)) shapeCasts_S16x320_S5120

end Init

/-- The initial accumulator is 0 in the four banks of sums and −∞ in the bank of maxima. -/
theorem initAcc_apply (n : Fin 5120) : (initAcc (F := Ideal) (ix1 n) : EReal) = if n.val % 320 < 256 then 0 else ⊥ := by
  pointwise [initAcc]
  rw [ofBits_neg_inf]
  rfl

/-- The index of a word's number is the word. -/
theorem at5120_ix1 (n : ℕ) (h : n < 5120) : at5120 n = (ix1 ⟨n, h⟩ : S5120.Idx) := by
  funext a
  obtain rfl : a = 0 := Subsingleton.elim _ _
  exact Fin.ext (Nat.mod_eq_of_lt h)

/-- The four summing banks start at zero, -/
theorem init_sum (b : ℕ) (hb : b < 4) (l k : ℕ) (hl : l < 16) (hk : k < 64) : at_ (initAcc (F := Ideal)) l b k = (0 : EReal) := by
  unfold at_
  rw [at5120_ix1 _ (by omega), initAcc_apply, if_pos (by show (320 * l + 64 * b + k) % 320 < 256; omega)]

/-- the maximum's at negative infinity. -/
theorem init_max (l k : ℕ) (hl : l < 16) (hk : k < 64) : at_ (initAcc (F := Ideal)) l 4 k = (⊥ : EReal) := by
  unfold at_
  rw [at5120_ix1 _ (by omega), initAcc_apply, if_neg (by show ¬ (320 * l + 64 * 4 + k) % 320 < 256; omega)]

/-- The call's 16 rows of 5120 words, taken as 256 rows of 320. -/
theorem rows_eq (X : In Ideal) : (fun i => shapeCast S256x320 (segOut X) shapeCasts_S16x5120_S256x320 i) = outRows X := by
  funext y
  idx_vars y
  pointwise [segOut, outRows]
  unfold at_
  congr 2
  omega

section Call

variable {F : FTy → Type} [FloatOps F]
variable (d : Dev nD) (V : Valuation τ sig (Elt F))

/-- The call's consumptions are the argument's, as a vector. -/
theorem atCall_v10 : atCall d V (main_v10 : DevRef τ sig) = fun i => shapeCast S4096 (V main_arg2 : Vec F S1x4096 .f32) shapeCasts_S1x4096_S4096 i := by
  unfold atCall vB opB10
  rw [reshape_result]
  have e : (opB9 (F := F)).result (opB8.result (opB7.result (opB6.result (opB5.result (opB4.result (opB3.result (opB2.result (opB1.result (opB0.result (after0 d (vA V)))))))))))
      (main_arg2 : DevRef τ sig) = V main_arg2 := by
    unfold opB0 opB1 opB2 opB3 opB4 opB5 opB6 opB7 opB8 opB9
    rw [reshape_result_ne (h := by decide), reshape_result_ne (h := by decide), reshape_result_ne (h := by decide),
      unary_result_ne (h := by decide), reshape_result_ne (h := by decide), binary_result_ne (h := by decide), unary_result_ne (h := by decide),
      nullary_result_ne (h := by decide), unary_result_ne (h := by decide), nullary_result_ne (h := by decide), after0_arg2, vA_of_ne _ (by decide)]
  rw [e]; rfl

/-- The call's generations are the argument's, as a vector. -/
theorem atCall_v9 : atCall d V (main_v9 : DevRef τ sig) = fun i => shapeCast S4096 (V main_arg1 : Vec F S1x4096 .f32) shapeCasts_S1x4096_S4096 i := by
  unfold atCall vB opB10
  rw [reshape_result_ne (h := by decide)]
  unfold opB9
  rw [reshape_result]
  have e : (opB8 (F := F)).result (opB7.result (opB6.result (opB5.result (opB4.result (opB3.result (opB2.result (opB1.result (opB0.result (after0 d (vA V))))))))))
      (main_arg1 : DevRef τ sig) = V main_arg1 := by
    unfold opB0 opB1 opB2 opB3 opB4 opB5 opB6 opB7 opB8
    rw [reshape_result_ne (h := by decide), reshape_result_ne (h := by decide),
      unary_result_ne (h := by decide), reshape_result_ne (h := by decide), binary_result_ne (h := by decide), unary_result_ne (h := by decide),
      nullary_result_ne (h := by decide), unary_result_ne (h := by decide), nullary_result_ne (h := by decide), after0_arg1, vA_of_ne _ (by decide)]
  rw [e]; rfl

/-- The call's initial accumulator. -/
theorem atCall_v7 : atCall d V (main_v7 : DevRef τ sig) = initAcc (F := F) := by
  unfold atCall vB opB10 opB9 opB8
  rw [reshape_result_ne (h := by decide), reshape_result_ne (h := by decide), reshape_result_ne (h := by decide)]
  unfold opB7
  rw [reshape_result]
  unfold opB6
  rw [unary_result]
  unfold opB5
  rw [reshape_result]
  unfold opB4
  rw [binary_result]
  unfold opB3
  rw [unary_result, unary_result_ne (h := by decide)]
  unfold opB2
  rw [nullary_result, nullary_result_ne (h := by decide)]
  unfold opB1
  rw [unary_result]
  unfold opB0
  rw [nullary_result]
  rfl

/-- The reshaped weights are the argument's. -/
theorem atCall_v0 : atCall d V (main_v0 : DevRef τ sig) = fun i => shapeCast S1x5 (V main_arg5 : Vec F S5 .f32) shapeCasts_S5_S1x5 i := by
  unfold atCall
  rw [vB_of_ne _ (by decide), after0_v0]
  unfold vA opA
  rw [reshape_result]
  rfl

/-- The combining call's partial results are the SparseCore call's, as 256 rows. -/
theorem atComb_v12 : atComb d V (main_v12 : DevRef τ sig)
    = fun i => shapeCast S256x320 (segOut (inOf (atCall d V))) shapeCasts_S16x5120_S256x320 i := by
  unfold atComb opC
  rw [reshape_result]
  unfold vC
  rw [Function.update_self]
  rfl

end Call

section Result

variable (d : Dev nD) (V : Valuation τ sig (Elt Ideal))

/-- The combining call's energy received is what the streaming call left. -/
theorem atComb_v1_0 : atComb d V (main_v1_0 : DevRef τ sig) = after0 d (vA V) (main_v1_0 : DevRef τ sig) := by
  rw [atComb_of_ne d V (by decide) (by decide)]; unfold atCall; rw [vB_of_ne _ (by decide)]
/-- The combining call's energy sent is what the streaming call left. -/
theorem atComb_v1_1 : atComb d V (main_v1_1 : DevRef τ sig) = after0 d (vA V) (main_v1_1 : DevRef τ sig) := by
  rw [atComb_of_ne d V (by decide) (by decide)]; unfold atCall; rw [vB_of_ne _ (by decide)]
/-- The combining call's energy delivered is what the streaming call left. -/
theorem atComb_v1_2 : atComb d V (main_v1_2 : DevRef τ sig) = after0 d (vA V) (main_v1_2 : DevRef τ sig) := by
  rw [atComb_of_ne d V (by decide) (by decide)]; unfold atCall; rw [vB_of_ne _ (by decide)]

/-- A flattened row read at a household. -/
theorem flat_apply {e : EltTy} (A : Vec Ideal S1x4096 e) (i : Fin 4096) :
    shapeCast S4096 A shapeCasts_S1x4096_S4096 (ix1 i) = A (ix2 0 i) := by
  pointwise

/-- What the call takes, from the arguments' rows. -/
def rowsIn (A0 : Vec Ideal S1x4096 .i32) (A1 A2 : Vec Ideal S1x4096 .f32) (o : Vec Ideal S16x5120 .f32) : In Ideal :=
  ⟨initAcc, shapeCast S4096 A0 shapeCasts_S1x4096_S4096, shapeCast S4096 A1 shapeCasts_S1x4096_S4096,
    shapeCast S4096 A2 shapeCasts_S1x4096_S4096, o⟩

/-- The call's inputs, from the program's arguments. -/
theorem inOf_eq : inOf (atCall d V) = rowsIn (V main_arg0) (V main_arg1) (V main_arg2) (atCall d V main_v11) := by
  unfold inOf rowsIn
  rw [atCall_v7, atCall_v8, atCall_v9, atCall_v10]

section Banks

variable (A0 : Vec Ideal S1x4096 .i32) (A1 A2 : Vec Ideal S1x4096 .f32) (o : Vec Ideal S16x5120 .f32) (hs : ∀ i, (A0 i).toNat < 64)
include hs

/-- The first bank sums to the reference's count of each cluster's members. -/
theorem count_eq : vec64 (bankSum (outRows (rowsIn A0 A1 A2 o)) 0 (by decide))
    = refSum A0 (broadcastInDim Cert.ReferenceIdeal.S4096 ![] Cert.ReferenceIdeal.Gen.bcast_S_S4096 (constant Cert.ReferenceIdeal.S_ .f32 0x3F800000#32)) := by
  rw [refSum_eq]
  refine congrArg vec64 (funext fun k => ?_)
  refine (bankSum_outRows (rowsIn A0 A1 A2 o) (fun j => hs _) 0 (by decide) (by decide) _ rfl (init_sum 0 (by decide)) k).trans ?_
  refine congrFun (congrArg₂ segSum (funext fun i => flat_apply A0 i) (funext fun i => ?_)) k
  pointwise

/-- The second bank sums to the reference's generation of each cluster. -/
theorem gen_eq : vec64 (bankSum (outRows (rowsIn A0 A1 A2 o)) 64 (by decide)) = refSum A0 (rowOf A1) := by
  rw [refSum_eq]
  refine congrArg vec64 (funext fun k => ?_)
  refine (bankSum_outRows (rowsIn A0 A1 A2 o) (fun j => hs _) 1 (by decide) (by decide) _ rfl (init_sum 1 (by decide)) k).trans ?_
  exact congrFun (congrArg₂ segSum (funext fun i => flat_apply A0 i) rfl) k

/-- The third bank sums to the reference's consumption of each cluster. -/
theorem cons_eq : vec64 (bankSum (outRows (rowsIn A0 A1 A2 o)) 128 (by decide)) = refSum A0 (rowOf A2) := by
  rw [refSum_eq]
  refine congrArg vec64 (funext fun k => ?_)
  refine (bankSum_outRows (rowsIn A0 A1 A2 o) (fun j => hs _) 2 (by decide) (by decide) _ rfl (init_sum 2 (by decide)) k).trans ?_
  exact congrFun (congrArg₂ segSum (funext fun i => flat_apply A0 i) rfl) k

/-- The fourth bank sums to the reference's squared consumptions of each cluster. -/
theorem squares_eq : vec64 (bankSum (outRows (rowsIn A0 A1 A2 o)) 192 (by decide)) = refSum A0 (mulf (rowOf A2) (rowOf A2)) := by
  rw [refSum_eq]
  refine congrArg vec64 (funext fun k => ?_)
  refine (bankSum_outRows (rowsIn A0 A1 A2 o) (fun j => hs _) 3 (by decide) (by decide) _ rfl (init_sum 3 (by decide)) k).trans ?_
  exact congrFun (congrArg₂ segSum (funext fun i => flat_apply A0 i) rfl) k

/-- The fifth bank's maximum is the reference's largest consumption of each cluster. -/
theorem peak_eq : vec64 (bankMax (outRows (rowsIn A0 A1 A2 o))) = refMax A0 (rowOf A2) := by
  rw [refMax_eq]
  refine congrArg vec64 (funext fun k => ?_)
  refine (bankMax_outRows (rowsIn A0 A1 A2 o) (fun j => hs _) init_max k).trans ?_
  exact congrFun (congrArg₂ segMax (funext fun i => flat_apply A0 i) rfl) k

end Banks

/-- The masked maxima are the reference's largest consumption less energy received. -/
theorem with_eq (A0 : Vec Ideal S1x4096 .i32) (x1 x3 : Vec Ideal S1x4096 .f32) (A3 A4 : Vec Ideal S1x4096x4096 .f32)
    (h : ∀ i : Fin 4096, x3 (ix2 0 i) = refRecv A3 A4 (ix1 i)) :
    vec64 (segMax (fun i => A0 (ix2 0 i)) fun i => x1 (ix2 0 i) - x3 (ix2 0 i)) = refMax A0 (subf (rowOf x1) (refRecv A3 A4)) := by
  rw [refMax_eq]
  refine congrArg vec64 (congrArg (segMax fun i => A0 (ix2 0 i)) (funext fun i => ?_))
  rw [h i]
  exact congrArg (fun v : EReal => v - refRecv A3 A4 (ix1 i)) (flat_apply x1 i).symm

/-- The column sums left by the streaming call are the reference's energy received. -/
theorem recv_eq (i : Fin 4096) : (after0 d (vA V) (main_v1_0 : DevRef τ sig) : Vec Ideal S1x4096 .f32) (ix2 0 i)
    = refRecv (V main_arg3) (V main_arg4) (ix1 i) := by
  rw [refRecv_apply, after0_recv, vA_of_ne V (r := main_arg3) (by decide), vA_of_ne V (r := main_arg4) (by decide)]
  rfl

/-- The segment sums of the energy sent are the reference's sums over pairs of one cluster. -/
theorem sent_eq : vec64 (segSum (fun i => (V main_arg0 : Vec Ideal S1x4096 .i32) (ix2 0 i)) fun i =>
      (after0 d (vA V) (main_v1_1 : DevRef τ sig) : Vec Ideal S1x4096 .f32) (ix2 0 i)) = refPair (V main_arg0) (refShare (V main_arg3)) := by
  rw [refPair_eq]
  refine congrArg vec64 (funext fun k => Finset.sum_congr rfl fun i _ => ?_)
  dsimp only
  rw [after0_sent, vA_of_ne V (r := main_arg0) (by decide), vA_of_ne V (r := main_arg3) (by decide)]
  have e : ∀ j, refShare (V main_arg3) (ix2 i j) = (V main_arg3 : Vec Ideal S1x4096x4096 .f32) (ix3 0 i j) := fun j => by pointwise [refShare]
  simp only [e]
  rfl

/-- The segment sums of the energy delivered are the reference's sums over pairs of one cluster. -/
theorem deliv_eq : vec64 (segSum (fun i => (V main_arg0 : Vec Ideal S1x4096 .i32) (ix2 0 i)) fun i =>
      (after0 d (vA V) (main_v1_2 : DevRef τ sig) : Vec Ideal S1x4096 .f32) (ix2 0 i)) = refPair (V main_arg0) (refDeliv (V main_arg3) (V main_arg4)) := by
  rw [refPair_eq]
  refine congrArg vec64 (funext fun k => Finset.sum_congr rfl fun i _ => ?_)
  dsimp only
  rw [after0_deliv, vA_of_ne V (r := main_arg0) (by decide), vA_of_ne V (r := main_arg3) (by decide), vA_of_ne V (r := main_arg4) (by decide)]
  have e : ∀ j, refDeliv (V main_arg3) (V main_arg4) (ix2 i j) = prodOf (V main_arg3) (V main_arg4) i j := fun j => by pointwise [refDeliv, refShare, prodOf]
  simp only [e]
  rfl

/-- The weights reshaped to a row, read along it, are the weights. -/
theorem weights_eq : (fun j => (fun i => shapeCast S1x5 (V main_arg5 : Vec Ideal S5 .f32) shapeCasts_S5_S1x5 i : Vec Ideal S1x5 .f32) (ix2 0 (j 0)) : Vec Ideal S5 .f32)
    = V main_arg5 := by
  funext j
  idx_vars j
  pointwise

/-- The program's result over extended reals is the reference's. -/
theorem result_eq (hs : ∀ i, ((V main_arg0 : Vec Ideal S1x4096 .i32) i).toNat < 64) :
    atEnd d V (main_v13 : DevRef τ sig)
      = refOut (V main_arg0) (V main_arg1) (V main_arg2) (V main_arg3) (V main_arg4) (V main_arg5) := by
  unfold atEnd
  rw [after1_v13, atComb_of_ne d V (r := main_arg0) (by decide) (by decide), atComb_of_ne d V (r := main_arg2) (by decide) (by decide),
    atComb_of_ne d V (r := main_v0) (by decide) (by decide), atCall_arg0, atCall_arg2, atCall_v0, atComb_v1_0, atComb_v1_1, atComb_v1_2,
    atComb_v12, rows_eq, inOf_eq, combineOut_eq]
  unfold refOut
  rw [← count_eq (V main_arg0) (V main_arg1) (V main_arg2) (atCall d V main_v11) hs, ← gen_eq (V main_arg0) (V main_arg1) (V main_arg2) (atCall d V main_v11) hs,
    ← cons_eq (V main_arg0) (V main_arg1) (V main_arg2) (atCall d V main_v11) hs, ← squares_eq (V main_arg0) (V main_arg1) (V main_arg2) (atCall d V main_v11) hs,
    ← peak_eq (V main_arg0) (V main_arg1) (V main_arg2) (atCall d V main_v11) hs,
    with_eq _ _ _ _ _ (recv_eq d V), sent_eq d V, deliv_eq d V, weights_eq V]

end Result

end Cert.Proof.Seg

end
-- ==== Proof.Algebraic.lean ====
/-
  The value claim: over extended reals the program's run and the reference's end with the same result.
-/
module

public import proofs.«01_k».proof.Proof.Values
public import proofs.«01_k».proof.Proof.FrameRef

@[expose] public section

noncomputable section

namespace Cert.Proof.Seg

open Idealize.ShloMosaic Idealize.SL.Sem

/-- From launches that agree on the arguments, the program and the reference end with the same 64 rows of six scores,
    every argument left as it was. -/
theorem algebraic : Cert.algebraic_KernelIdeal_ReferenceIdeal := by
  intro m g m' g' hp hagree
  have hs : ∀ (d : Dev Cert.KernelIdeal.nD) i, ((launchV m d (Proc.tc.devRef Cert.KernelIdeal.main_arg0) : Vec Ideal Cert.KernelIdeal.S1x4096 .i32) i).toNat < 64 :=
    fun d i => small_of_pre _ _ _ _ _ _ (hp d) i
  refine ⟨fun c => atEnd c (launchV m c) (Proc.tc.devRef Cert.KernelIdeal.main_v13), ?_, ?_⟩
  · exact (θ_run _ _ _).mono (fun _ hr => hr.1) (run_args (F := Ideal) m g (inRange_of (F := Ideal) m fun d i => hs d i))
  · refine (θ_run _ _ _).mono (fun r hr c => ⟨?_, (hr c).2⟩) (Cert.ReferenceIdeal.Value.run (F := Ideal) m' g')
    refine (hr c).1.trans ?_
    obtain ⟨h0, h1, h2, h3, h4, h5⟩ := hagree c
    refine Eq.trans ?_ (result_eq c (launchV m c) (hs c)).symm
    refine (res_eq_refOut m' c).trans ?_
    rw [h0, h1, h2, h3, h4, h5]
    rfl

end Cert.Proof.Seg

end
-- ==== Proof.lean ====
/-
  The proof of `Cert.Claim`: the frames and the value claim, each proved in a module of its own, put together.
-/
module

public import proofs.«01_k».proof.Defs
public import proofs.«01_k».proof.Proof.FrameBits
public import proofs.«01_k».proof.Proof.FrameRef
public import proofs.«01_k».proof.Proof.Algebraic

@[expose] public section

noncomputable section

namespace Cert.Proof

/-- Everything claimed of the programs. -/
theorem claim : Cert.Claim := ⟨Cert.Kernel.Gen.facts, Cert.KernelIdeal.Gen.facts, Cert.ReferenceIdeal.Gen.facts, Cert.Pre_in_range.Gen.facts,
  Seg.frame_kernel, Seg.frame_kernelIdeal, Seg.frame_reference, Seg.frame_reference_pre, trivial, Seg.algebraic⟩

end Cert.Proof

end
